-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_mem [hPre_finite_mem : Cert.Pre_finite_mem.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_mem.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_mem [hPre_finite_mem : Cert.Pre_finite_mem.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_mem.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_quarter_shift [hPre_quarter_shift : Cert.Pre_quarter_shift.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_quarter_shift.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_quarter_shift [hPre_quarter_shift : Cert.Pre_quarter_shift.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_quarter_shift.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_mem [hKernel5Ideal : Cert.Kernel5Ideal.Facts] [hPre_finite_mem : Cert.Pre_finite_mem.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_mem m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_mem [hReference5Ideal : Cert.Reference5Ideal.Facts] [hPre_finite_mem : Cert.Pre_finite_mem.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_mem m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_quarter_shift [hKernel7Ideal : Cert.Kernel7Ideal.Facts] [hPre_quarter_shift : Cert.Pre_quarter_shift.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_quarter_shift m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_quarter_shift [hReference7Ideal : Cert.Reference7Ideal.Facts] [hPre_quarter_shift : Cert.Pre_quarter_shift.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_quarter_shift m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_mem [hKernel5Ideal : Cert.Kernel5Ideal.Facts] [hReference5Ideal : Cert.Reference5Ideal.Facts] [hPre_finite_mem : Cert.Pre_finite_mem.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_mem m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "scaled_log2e" .f32 0x3E38AA3B#32 (((Real.log 256)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v69) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_quarter_shift [hKernel7Ideal : Cert.Kernel7Ideal.Facts] [hReference7Ideal : Cert.Reference7Ideal.Facts] [hPre_quarter_shift : Cert.Pre_quarter_shift.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_quarter_shift m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qk : Cert.Pre_finite_qk.Facts) (hPre_finite_mem : Cert.Pre_finite_mem.Facts) (hPre_quarter_shift : Cert.Pre_quarter_shift.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_mem (hKernel5Ideal := hKernel5Ideal) (hPre_finite_mem := hPre_finite_mem)
    ∧ quiescent_Reference5Ideal (hReference5Ideal := hReference5Ideal)
    ∧ quiescent_Reference5Ideal_pre_finite_mem (hReference5Ideal := hReference5Ideal) (hPre_finite_mem := hPre_finite_mem)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_quarter_shift (hKernel7Ideal := hKernel7Ideal) (hPre_quarter_shift := hPre_quarter_shift)
    ∧ quiescent_Reference7Ideal (hReference7Ideal := hReference7Ideal)
    ∧ quiescent_Reference7Ideal_pre_quarter_shift (hReference7Ideal := hReference7Ideal) (hPre_quarter_shift := hPre_quarter_shift)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_mem (hKernel5Ideal := hKernel5Ideal) (hReference5Ideal := hReference5Ideal) (hPre_finite_mem := hPre_finite_mem)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_quarter_shift (hKernel7Ideal := hKernel7Ideal) (hReference7Ideal := hReference7Ideal) (hPre_quarter_shift := hPre_quarter_shift)
-- ==== Pre_finite_mem.lean ====
abbrev S16x2048x1024 : Shape := ⟨3, ![16, 2048, 1024]⟩
abbrev S16x256x1024 : Shape := ⟨3, ![16, 256, 1024]⟩
abbrev S1x1024 : Shape := ⟨2, ![1, 1024]⟩
abbrev S1x1024x512 : Shape := ⟨3, ![1, 1024, 512]⟩
abbrev S1x512x1024 : Shape := ⟨3, ![1, 512, 1024]⟩
abbrev S16x256x512 : Shape := ⟨3, ![16, 256, 512]⟩
abbrev S4x4x256x512 : Shape := ⟨4, ![4, 4, 256, 512]⟩
abbrev S_ : Shape := ⟨0, ![]⟩
abbrev S1x4x256x512 : Shape := ⟨4, ![1, 4, 256, 512]⟩
abbrev S1x4x256x1 : Shape := ⟨4, ![1, 4, 256, 1]⟩

class Facts : Prop where
  slices_S16x256x1024_S16x256x512_0_0_0 : S16x256x1024.Slices ![0, 0, 0] S16x256x512
  bitsLt_bf16_f32 : FTy.bits .bf16 < FTy.bits .f32
  shapeCasts_S16x256x512_S4x4x256x512 : S16x256x512.ShapeCasts S4x4x256x512
  bcast_S_S4x4x256x512 : S_.BroadcastsInDim S4x4x256x512 (![] : Fin 0 → Fin S4x4x256x512.rank)
  shapeCasts_S1x1024x512_S1x4x256x512 : S1x1024x512.ShapeCasts S1x4x256x512
  bcast_S_S1x4x256x512 : S_.BroadcastsInDim S1x4x256x512 (![] : Fin 0 → Fin S1x4x256x512.rank)
  bcast_S1x4x256x512_S4x4x256x512_0_1_2_3 : S1x4x256x512.BroadcastsInDim S4x4x256x512 (![0, 1, 2, 3] : Fin 4 → Fin S4x4x256x512.rank)
  shapeCasts_S1x1024_S1x4x256x1 : S1x1024.ShapeCasts S1x4x256x1
  bcast_S_S1x4x256x1 : S_.BroadcastsInDim S1x4x256x1 (![] : Fin 0 → Fin S1x4x256x1.rank)
  bcast_S1x4x256x1_S4x4x256x512_0_1_2_3 : S1x4x256x1.BroadcastsInDim S4x4x256x512 (![0, 1, 2, 3] : Fin 4 → Fin S4x4x256x512.rank)

variable [Facts]

def fn {F : FTy → Type} [FloatOps F] (main_arg0 : FVec F S16x2048x1024 .f32) (main_arg1 : FVec F S16x256x1024 .bf16) (main_arg2 : FVec F S1x1024 .f32) (main_arg3 : FVec F S1x1024x512 .f32) (main_arg4 : FVec F S1x512x1024 .f32) : IVec S4x4x256x512 1 :=
  let main_v0 : FVec F S16x256x512 .bf16 := (extractStridedSlice S16x256x512 ![0, 0, 0] · slices_S16x256x1024_S16x256x512_0_0_0) main_arg1
  let main_v1 : FVec F S16x256x512 .f32 := (extf .f32 · bitsLt_bf16_f32) main_v0
  let main_v2 : FVec F S4x4x256x512 .f32 := shapeCast S4x4x256x512 main_v1 shapeCasts_S16x256x512_S4x4x256x512
  let main_v3 : FVec F S4x4x256x512 .f32 := Host.absf main_v2
  let main_cst : FVec F S_ .f32 := constant S_ .f32 0x7F800000#32
  let main_v4 : FVec F S4x4x256x512 .f32 := broadcastInDim S4x4x256x512 ![] bcast_S_S4x4x256x512 main_cst
  let main_v5 : IVec S4x4x256x512 1 := cmpf .olt main_v3 main_v4
  let main_v6 : FVec F S1x4x256x512 .f32 := shapeCast S1x4x256x512 main_arg3 shapeCasts_S1x1024x512_S1x4x256x512
  let main_v7 : FVec F S1x4x256x512 .f32 := Host.absf main_v6
  let main_cst_0 : FVec F S_ .f32 := constant S_ .f32 0x7F800000#32
  let main_v8 : FVec F S1x4x256x512 .f32 := broadcastInDim S1x4x256x512 ![] bcast_S_S1x4x256x512 main_cst_0
  let main_v9 : IVec S1x4x256x512 1 := cmpf .olt main_v7 main_v8
  let main_v10 : IVec S4x4x256x512 1 := broadcastInDim S4x4x256x512 ![0, 1, 2, 3] bcast_S1x4x256x512_S4x4x256x512_0_1_2_3 main_v9
  let main_v11 : IVec S4x4x256x512 1 := andi main_v5 main_v10
  let main_v12 : FVec F S1x4x256x1 .f32 := shapeCast S1x4x256x1 main_arg2 shapeCasts_S1x1024_S1x4x256x1
  let main_v13 : FVec F S1x4x256x1 .f32 := Host.absf main_v12
  let main_cst_1 : FVec F S_ .f32 := constant S_ .f32 0x7F800000#32
  let main_v14 : FVec F S1x4x256x1 .f32 := broadcastInDim S1x4x256x1 ![] bcast_S_S1x4x256x1 main_cst_1
  let main_v15 : IVec S1x4x256x1 1 := cmpf .olt main_v13 main_v14
  let main_v16 : IVec S4x4x256x512 1 := broadcastInDim S4x4x256x512 ![0, 1, 2, 3] bcast_S1x4x256x1_S4x4x256x512_0_1_2_3 main_v15
  let main_v17 : IVec S4x4x256x512 1 := andi main_v11 main_v16
  main_v17
-- ==== Pre_finite_qk.lean ====
abbrev S16x2048x3072 : Shape := ⟨3, ![16, 2048, 3072]⟩
abbrev S16x2048x1024 : Shape := ⟨3, ![16, 2048, 1024]⟩
abbrev S_ : Shape := ⟨0, ![]⟩

class Facts : Prop where
  slices_S16x2048x3072_S16x2048x1024_0_0_0 : S16x2048x3072.Slices ![0, 0, 0] S16x2048x1024
  bitsLt_bf16_f32 : FTy.bits .bf16 < FTy.bits .f32
  bcast_S_S16x2048x1024 : S_.BroadcastsInDim S16x2048x1024 (![] : Fin 0 → Fin S16x2048x1024.rank)

variable [Facts]

def fn {F : FTy → Type} [FloatOps F] (main_arg0 : FVec F S16x2048x3072 .bf16) : IVec S16x2048x1024 1 :=
  let main_v0 : FVec F S16x2048x1024 .bf16 := (extractStridedSlice S16x2048x1024 ![0, 0, 0] · slices_S16x2048x3072_S16x2048x1024_0_0_0) main_arg0
  let main_v1 : FVec F S16x2048x1024 .f32 := (extf .f32 · bitsLt_bf16_f32) main_v0
  let main_v2 : FVec F S16x2048x1024 .f32 := Host.absf main_v1
  let main_cst : FVec F S_ .f32 := constant S_ .f32 0x7F800000#32
  let main_v3 : FVec F S16x2048x1024 .f32 := broadcastInDim S16x2048x1024 ![] bcast_S_S16x2048x1024 main_cst
  let main_v4 : IVec S16x2048x1024 1 := cmpf .olt main_v2 main_v3
  main_v4
-- ==== Pre_quarter_shift.lean ====
abbrev S16x2048 : Shape := ⟨2, ![16, 2048]⟩
abbrev S1x128 : Shape := ⟨2, ![1, 128]⟩
abbrev S128 : Shape := ⟨1, ![128]⟩
abbrev S_ : Shape := ⟨0, ![]⟩

class Facts : Prop where
  bcast_S_S128 : S_.BroadcastsInDim S128 (![] : Fin 0 → Fin S128.rank)
  shapeCasts_S128_S1x128 : S128.ShapeCasts S1x128

variable [Facts]

def fn_where {F : FTy → Type} [FloatOps F] (arg0 : IVec S128 1) (arg1 : FVec F S_ .f32) (arg2 : IVec S_ 32) : FVec F S128 .f32 :=
  let v0 : FVec F S_ .f32 := sitofp .f32 arg2
  let v1 : FVec F S128 .f32 := broadcastInDim S128 ![] bcast_S_S128 arg1
  let v2 : FVec F S128 .f32 := broadcastInDim S128 ![] bcast_S_S128 v0
  let v3 : FVec F S128 .f32 := select arg0 v1 v2
  v3

def fn {F : FTy → Type} [FloatOps F] (main_arg0 : IVec S16x2048 32) (main_arg1 : FVec F S1x128 .f32) : IVec S1x128 1 :=
  let main_v0 : IVec S128 32 := iotaInDim S128 32 0
  let main_c : IVec S_ 32 := constantI S_ 32 31#32
  let main_v1 : IVec S128 32 := broadcastInDim S128 ![] bcast_S_S128 main_c
  let main_v2 : IVec S128 32 := andi main_v0 main_v1
  let main_cst : FVec F S_ .f32 := constant S_ .f32 0x3F800000#32
  let main_cst_0 : FVec F S_ .f32 := constant S_ .f32 0x3F800000#32
  let main_v3 : FVec F S_ .f32 := Host.atan2 main_cst main_cst_0
  let main_cst_1 : FVec F S_ .f32 := constant S_ .f32 0x40000000#32
  let main_v4 : FVec F S_ .f32 := mulf main_cst_1 main_v3
  let main_c_2 : IVec S_ 32 := constantI S_ 32 8#32
  let main_v5 : IVec S128 32 := broadcastInDim S128 ![] bcast_S_S128 main_c_2
  let main_v6 : IVec S128 1 := cmpi .sge main_v2 main_v5
  let main_c_3 : IVec S_ 32 := constantI S_ 32 16#32
  let main_v7 : IVec S128 32 := broadcastInDim S128 ![] bcast_S_S128 main_c_3
  let main_v8 : IVec S128 1 := cmpi .slt main_v2 main_v7
  let main_v9 : IVec S128 1 := andi main_v6 main_v8
  let main_c_4 : IVec S_ 32 := constantI S_ 32 0#32
  let main_v10 : FVec F S128 .f32 := fn_where (F := F) main_v9 main_v4 main_c_4
  let main_v11 : FVec F S1x128 .f32 := shapeCast S1x128 main_v10 shapeCasts_S128_S1x128
  let main_v12 : IVec S1x128 1 := cmpf .oeq main_arg1 main_v11
  main_v12
-- ==== Kernel.lean ====
abbrev S16x2048x3072 : Shape := ⟨3, ![16, 2048, 3072]⟩
abbrev S16x2048x512 : Shape := ⟨3, ![16, 2048, 512]⟩
abbrev S1x2048x128 : Shape := ⟨3, ![1, 2048, 128]⟩
abbrev S2048x128 : Shape := ⟨2, ![2048, 128]⟩
abbrev S2176x128 : Shape := ⟨2, ![2176, 128]⟩
abbrev S3x2048x128 : Shape := ⟨3, ![3, 2048, 128]⟩
abbrev S128x128 : Shape := ⟨2, ![128, 128]⟩
abbrev S512x128 : Shape := ⟨2, ![512, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩
abbrev S1x128x128 : Shape := ⟨3, ![1, 128, 128]⟩
abbrev S128x256 : Shape := ⟨2, ![128, 256]⟩
abbrev S1x512x128 : Shape := ⟨3, ![1, 512, 128]⟩

abbrev nBuf : Space → Nat
  | .hbm => 2
  | .vmem => 17
  | .smem => 0
  | _ => 0

abbrev bufTy : (tb : Table) → Fin (tcTables nBuf tb) → BufTy
  | .hbm, ⟨0, _⟩ => ⟨S16x2048x3072, .bf16⟩
  | .hbm, ⟨1, _⟩ => ⟨S16x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S2048x128, .f32⟩
  | .local _ .vmem, ⟨9, _⟩ => ⟨S2176x128, .f32⟩
  | .local _ .vmem, ⟨10, _⟩ => ⟨S2176x128, .f32⟩
  | .local _ .vmem, ⟨11, _⟩ => ⟨S2048x128, .f32⟩
  | .local _ .vmem, ⟨12, _⟩ => ⟨S2176x128, .f32⟩
  | .local _ .vmem, ⟨13, _⟩ => ⟨S2176x128, .f32⟩
  | .local _ .vmem, ⟨14, _⟩ => ⟨S3x2048x128, .f32⟩
  | .local _ .vmem, ⟨15, _⟩ => ⟨S3x2048x128, .f32⟩
  | .local _ .vmem, ⟨16, _⟩ => ⟨S2048x128, .f32⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_scratch8 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_off1 (c0_i32 : BitVec 32) : Fin 2 → Nat :=
  let c128_i32 : BitVec 32 := 128#32
  let v82 : BitVec 32 := Scalar.muli c0_i32 c128_i32
  let v83 : Index := Scalar.indexCast v82
  let c0_57 : Index := 0#32
  ![v83.toNat, 0]
def k0_off2 (c0_i32 : BitVec 32) : Fin 2 → Nat :=
  let c128_i32 : BitVec 32 := 128#32
  let v82 : BitVec 32 := Scalar.muli c0_i32 c128_i32
  let v85 : Index := Scalar.indexCast v82
  let c0_58 : Index := 0#32
  ![v85.toNat, 0]
def k0_off3 (c0_i32 : BitVec 32) : Fin 3 → Nat :=
  let c0_78 : Index := 0#32
  let c128_i32 : BitVec 32 := 128#32
  let v82 : BitVec 32 := Scalar.muli c0_i32 c128_i32
  let v160 : Index := Scalar.indexCast v82
  let c0_79 : Index := 0#32
  ![0, v160.toNat, 0]
def k0_off4 (c0_i32_503 : BitVec 32) : Fin 3 → Nat :=
  let c1_534 : Index := 1#32
  let c128_i32_504 : BitVec 32 := 128#32
  let v1458 : BitVec 32 := Scalar.muli c0_i32_503 c128_i32_504
  let v1546 : Index := Scalar.indexCast v1458
  let c0_535 : Index := 0#32
  ![1, v1546.toNat, 0]
def k0_off5 (c0_i32_1064 : BitVec 32) : Fin 2 → Nat :=
  let c4_i32_1065 : BitVec 32 := 4#32
  let c0_i32_1066 : BitVec 32 := 0#32
  let v2994 : BitVec 1 := Scalar.cmpi .eq c4_i32_1065 c0_i32_1066
  let c1_i32_1067 : BitVec 32 := 1#32
  let v2995 : BitVec 32 := Scalar.select v2994 c1_i32_1067 c4_i32_1065
  let v2996 : BitVec 32 := Scalar.remsi c0_i32_1064 v2995
  let c0_i32_1069 : BitVec 32 := 0#32
  let v2998 : BitVec 1 := Scalar.cmpi .slt v2996 c0_i32_1069
  let c0_i32_1070 : BitVec 32 := 0#32
  let v2999 : BitVec 1 := Scalar.cmpi .slt v2995 c0_i32_1070
  let v3000 : BitVec 1 := Scalar.xori v2998 v2999
  let c0_i32_1068 : BitVec 32 := 0#32
  let v2997 : BitVec 1 := Scalar.cmpi .ne v2996 c0_i32_1068
  let v3001 : BitVec 1 := Scalar.andi v3000 v2997
  let v3002 : BitVec 32 := Scalar.addi v2996 v2995
  let v3003 : BitVec 32 := Scalar.select v3001 v3002 v2996
  let c512_i32 : BitVec 32 := 512#32
  let v3004 : BitVec 32 := Scalar.muli v3003 c512_i32
  let c0_i32_1072 : BitVec 32 := 0#32
  let v3006 : BitVec 1 := Scalar.cmpi .sgt c0_i32_1064 c0_i32_1072
  let v3007 : BitVec 32 := Scalar.extui v3006
  let c0_i32_1073 : BitVec 32 := 0#32
  let v3008 : BitVec 1 := Scalar.cmpi .slt c0_i32_1064 c0_i32_1073
  let v3009 : BitVec 32 := Scalar.extui v3008
  let v3010 : BitVec 32 := Scalar.subi v3007 v3009
  let c4_i32_1071 : BitVec 32 := 4#32
  let c0_i32_1074 : BitVec 32 := 0#32
  let v3011 : BitVec 1 := Scalar.cmpi .sgt c4_i32_1071 c0_i32_1074
  let v3012 : BitVec 32 := Scalar.extui v3011
  let c0_i32_1075 : BitVec 32 := 0#32
  let v3013 : BitVec 1 := Scalar.cmpi .slt c4_i32_1071 c0_i32_1075
  let v3014 : BitVec 32 := Scalar.extui v3013
  let v3015 : BitVec 32 := Scalar.subi v3012 v3014
  let v3016 : BitVec 1 := Scalar.cmpi .ne v3010 v3015
  let v3017 : BitVec 32 := Scalar.remsi c0_i32_1064 c4_i32_1071
  let c0_i32_1076 : BitVec 32 := 0#32
  let v3018 : BitVec 1 := Scalar.cmpi .ne v3017 c0_i32_1076
  let v3019 : BitVec 1 := Scalar.andi v3016 v3018
  let v3005 : BitVec 32 := Scalar.divsi c0_i32_1064 c4_i32_1071
  let c1_i32_1077 : BitVec 32 := 1#32
  let v3020 : BitVec 32 := Scalar.subi v3005 c1_i32_1077
  let v3021 : BitVec 32 := Scalar.select v3019 v3020 v3005
  let v3022 : BitVec 32 := Scalar.addi v3004 v3021
  let v3024 : Index := Scalar.indexCast v3022
  let c0_1079 : Index := 0#32
  ![v3024.toNat, 0]
def k0_off6 (c0_i32_1064 : BitVec 32) : Fin 2 → Nat :=
  let c128_i32_1078 : BitVec 32 := 128#32
  let c4_i32_1065 : BitVec 32 := 4#32
  let c0_i32_1066 : BitVec 32 := 0#32
  let v2994 : BitVec 1 := Scalar.cmpi .eq c4_i32_1065 c0_i32_1066
  let c1_i32_1067 : BitVec 32 := 1#32
  let v2995 : BitVec 32 := Scalar.select v2994 c1_i32_1067 c4_i32_1065
  let v2996 : BitVec 32 := Scalar.remsi c0_i32_1064 v2995
  let c0_i32_1069 : BitVec 32 := 0#32
  let v2998 : BitVec 1 := Scalar.cmpi .slt v2996 c0_i32_1069
  let c0_i32_1070 : BitVec 32 := 0#32
  let v2999 : BitVec 1 := Scalar.cmpi .slt v2995 c0_i32_1070
  let v3000 : BitVec 1 := Scalar.xori v2998 v2999
  let c0_i32_1068 : BitVec 32 := 0#32
  let v2997 : BitVec 1 := Scalar.cmpi .ne v2996 c0_i32_1068
  let v3001 : BitVec 1 := Scalar.andi v3000 v2997
  let v3002 : BitVec 32 := Scalar.addi v2996 v2995
  let v3003 : BitVec 32 := Scalar.select v3001 v3002 v2996
  let c512_i32 : BitVec 32 := 512#32
  let v3004 : BitVec 32 := Scalar.muli v3003 c512_i32
  let c0_i32_1072 : BitVec 32 := 0#32
  let v3006 : BitVec 1 := Scalar.cmpi .sgt c0_i32_1064 c0_i32_1072
  let v3007 : BitVec 32 := Scalar.extui v3006
  let c0_i32_1073 : BitVec 32 := 0#32
  let v3008 : BitVec 1 := Scalar.cmpi .slt c0_i32_1064 c0_i32_1073
  let v3009 : BitVec 32 := Scalar.extui v3008
  let v3010 : BitVec 32 := Scalar.subi v3007 v3009
  let c4_i32_1071 : BitVec 32 := 4#32
  let c0_i32_1074 : BitVec 32 := 0#32
  let v3011 : BitVec 1 := Scalar.cmpi .sgt c4_i32_1071 c0_i32_1074
  let v3012 : BitVec 32 := Scalar.extui v3011
  let c0_i32_1075 : BitVec 32 := 0#32
  let v3013 : BitVec 1 := Scalar.cmpi .slt c4_i32_1071 c0_i32_1075
  let v3014 : BitVec 32 := Scalar.extui v3013
  let v3015 : BitVec 32 := Scalar.subi v3012 v3014
  let v3016 : BitVec 1 := Scalar.cmpi .ne v3010 v3015
  let v3017 : BitVec 32 := Scalar.remsi c0_i32_1064 c4_i32_1071
  let c0_i32_1076 : BitVec 32 := 0#32
  let v3018 : BitVec 1 := Scalar.cmpi .ne v3017 c0_i32_1076
  let v3019 : BitVec 1 := Scalar.andi v3016 v3018
  let v3005 : BitVec 32 := Scalar.divsi c0_i32_1064 c4_i32_1071
  let c1_i32_1077 : BitVec 32 := 1#32
  let v3020 : BitVec 32 := Scalar.subi v3005 c1_i32_1077
  let v3021 : BitVec 32 := Scalar.select v3019 v3020 v3005
  let v3022 : BitVec 32 := Scalar.addi v3004 v3021
  let v3023 : BitVec 32 := Scalar.addi c128_i32_1078 v3022
  let v3026 : Index := Scalar.indexCast v3023
  let c0_1080 : Index := 0#32
  ![v3026.toNat, 0]
def k0_off7 (c0_i32_1064 : BitVec 32) : Fin 3 → Nat :=
  let c2_1099 : Index := 2#32
  let c4_i32_1065 : BitVec 32 := 4#32
  let c0_i32_1066 : BitVec 32 := 0#32
  let v2994 : BitVec 1 := Scalar.cmpi .eq c4_i32_1065 c0_i32_1066
  let c1_i32_1067 : BitVec 32 := 1#32
  let v2995 : BitVec 32 := Scalar.select v2994 c1_i32_1067 c4_i32_1065
  let v2996 : BitVec 32 := Scalar.remsi c0_i32_1064 v2995
  let c0_i32_1069 : BitVec 32 := 0#32
  let v2998 : BitVec 1 := Scalar.cmpi .slt v2996 c0_i32_1069
  let c0_i32_1070 : BitVec 32 := 0#32
  let v2999 : BitVec 1 := Scalar.cmpi .slt v2995 c0_i32_1070
  let v3000 : BitVec 1 := Scalar.xori v2998 v2999
  let c0_i32_1068 : BitVec 32 := 0#32
  let v2997 : BitVec 1 := Scalar.cmpi .ne v2996 c0_i32_1068
  let v3001 : BitVec 1 := Scalar.andi v3000 v2997
  let v3002 : BitVec 32 := Scalar.addi v2996 v2995
  let v3003 : BitVec 32 := Scalar.select v3001 v3002 v2996
  let c512_i32 : BitVec 32 := 512#32
  let v3004 : BitVec 32 := Scalar.muli v3003 c512_i32
  let c0_i32_1072 : BitVec 32 := 0#32
  let v3006 : BitVec 1 := Scalar.cmpi .sgt c0_i32_1064 c0_i32_1072
  let v3007 : BitVec 32 := Scalar.extui v3006
  let c0_i32_1073 : BitVec 32 := 0#32
  let v3008 : BitVec 1 := Scalar.cmpi .slt c0_i32_1064 c0_i32_1073
  let v3009 : BitVec 32 := Scalar.extui v3008
  let v3010 : BitVec 32 := Scalar.subi v3007 v3009
  let c4_i32_1071 : BitVec 32 := 4#32
  let c0_i32_1074 : BitVec 32 := 0#32
  let v3011 : BitVec 1 := Scalar.cmpi .sgt c4_i32_1071 c0_i32_1074
  let v3012 : BitVec 32 := Scalar.extui v3011
  let c0_i32_1075 : BitVec 32 := 0#32
  let v3013 : BitVec 1 := Scalar.cmpi .slt c4_i32_1071 c0_i32_1075
  let v3014 : BitVec 32 := Scalar.extui v3013
  let v3015 : BitVec 32 := Scalar.subi v3012 v3014
  let v3016 : BitVec 1 := Scalar.cmpi .ne v3010 v3015
  let v3017 : BitVec 32 := Scalar.remsi c0_i32_1064 c4_i32_1071
  let c0_i32_1076 : BitVec 32 := 0#32
  let v3018 : BitVec 1 := Scalar.cmpi .ne v3017 c0_i32_1076
  let v3019 : BitVec 1 := Scalar.andi v3016 v3018
  let v3005 : BitVec 32 := Scalar.divsi c0_i32_1064 c4_i32_1071
  let c1_i32_1077 : BitVec 32 := 1#32
  let v3020 : BitVec 32 := Scalar.subi v3005 c1_i32_1077
  let v3021 : BitVec 32 := Scalar.select v3019 v3020 v3005
  let v3022 : BitVec 32 := Scalar.addi v3004 v3021
  let v3094 : Index := Scalar.indexCast v3022
  let c0_1100 : Index := 0#32
  ![2, v3094.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x3072 : Shape := ⟨3, ![16, 2048, 3072]⟩
abbrev S3 : Shape := ⟨1, ![3]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S3x1x1 : Shape := ⟨3, ![3, 1, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S3x2048x2048 : Shape := ⟨3, ![3, 2048, 2048]⟩
abbrev S16x8x2048x2048 : Shape := ⟨4, ![16, 8, 2048, 2048]⟩
abbrev S3x1x1x2048x2048 : Shape := ⟨5, ![3, 1, 1, 2048, 2048]⟩
abbrev S3x16x8x2048x2048 : Shape := ⟨5, ![3, 16, 8, 2048, 2048]⟩
abbrev S3x16x8x2048 : Shape := ⟨4, ![3, 16, 8, 2048]⟩
abbrev S3x16x8x2048x1 : Shape := ⟨5, ![3, 16, 8, 2048, 1]⟩
abbrev S16x8x64x3x2048 : Shape := ⟨5, ![16, 8, 64, 3, 2048]⟩
abbrev S3x16x8x2048x64 : Shape := ⟨5, ![3, 16, 8, 2048, 64]⟩
abbrev S16x8x2048 : Shape := ⟨3, ![16, 8, 2048]⟩
abbrev S1x16x8x2048 : Shape := ⟨4, ![1, 16, 8, 2048]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x3072, .bf16⟩
  | .hbm, ⟨1, _⟩ => ⟨S3, .i32⟩
  | .hbm, ⟨2, _⟩ => ⟨S3, .i32⟩
  | .hbm, ⟨3, _⟩ => ⟨S16x2048x512, .bf16⟩
  | .hbm, ⟨4, _⟩ => ⟨S16x2048x512, .f32⟩
  | .hbm, ⟨5, _⟩ => ⟨S16x2048x8x64, .f32⟩
  | .hbm, ⟨6, _⟩ => ⟨S16x8x2048x64, .f32⟩
  | .hbm, ⟨7, _⟩ => ⟨S16x2048x512, .bf16⟩
  | .hbm, ⟨8, _⟩ => ⟨S16x2048x512, .f32⟩
  | .hbm, ⟨9, _⟩ => ⟨S16x2048x8x64, .f32⟩
  | .hbm, ⟨10, _⟩ => ⟨S16x8x2048x64, .f32⟩
  | .hbm, ⟨11, _⟩ => ⟨S16x2048x512, .bf16⟩
  | .hbm, ⟨12, _⟩ => ⟨S16x2048x512, .f32⟩
  | .hbm, ⟨13, _⟩ => ⟨S16x2048x8x64, .f32⟩
  | .hbm, ⟨14, _⟩ => ⟨S16x8x2048x64, .f32⟩
  | .hbm, ⟨15, _⟩ => ⟨S3x1x1, .i32⟩
  | .hbm, ⟨16, _⟩ => ⟨S3x1x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S1x2048, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S1x2048x2048, .i32⟩
  | .hbm, ⟨28, _⟩ => ⟨S3x2048x2048, .i32⟩
  | .hbm, ⟨29, _⟩ => ⟨S3x2048x2048, .i32⟩
  | .hbm, ⟨30, _⟩ => ⟨S3x2048x2048, .i1⟩
  | .hbm, ⟨31, _⟩ => ⟨S1x2048x2048, .i1⟩
  | .hbm, ⟨32, _⟩ => ⟨S3x2048x2048, .i1⟩
  | .hbm, ⟨33, _⟩ => ⟨S3x2048x2048, .i1⟩
  | .hbm, ⟨34, _⟩ => ⟨S_, .i32⟩
  | .hbm, ⟨35, _⟩ => ⟨S3x1x1, .i32⟩
  | .hbm, ⟨36, _⟩ => ⟨S3x1x1, .i1⟩
  | .hbm, ⟨37, _⟩ => ⟨S_, .i32⟩
  | .hbm, ⟨38, _⟩ => ⟨S3x1x1, .i32⟩
  | .hbm, ⟨39, _⟩ => ⟨S3x1x1, .i32⟩
  | .hbm, ⟨40, _⟩ => ⟨S1x2048x2048, .i32⟩
  | .hbm, ⟨41, _⟩ => ⟨S3x2048x2048, .i32⟩
  | .hbm, ⟨42, _⟩ => ⟨S3x2048x2048, .i32⟩
  | .hbm, ⟨43, _⟩ => ⟨S3x2048x2048, .i32⟩
  | .hbm, ⟨44, _⟩ => ⟨S_, .i32⟩
  | .hbm, ⟨45, _⟩ => ⟨S3x2048x2048, .i32⟩
  | .hbm, ⟨46, _⟩ => ⟨S3x2048x2048, .i1⟩
  | .hbm, ⟨47, _⟩ => ⟨S3x2048x2048, .i1⟩
  | .hbm, ⟨48, _⟩ => ⟨S16x8x2048x2048, .f32⟩
  | .hbm, ⟨49, _⟩ => ⟨S_, .f32⟩
  | .hbm, ⟨50, _⟩ => ⟨S_, .f32⟩
  | .hbm, ⟨51, _⟩ => ⟨S16x8x2048x2048, .f32⟩
  | .hbm, ⟨52, _⟩ => ⟨S16x8x2048x2048, .f32⟩
  | .hbm, ⟨53, _⟩ => ⟨S3x1x1x2048x2048, .i1⟩
  | .hbm, ⟨54, _⟩ => ⟨S_, .f32⟩
  | .hbm, ⟨55, _⟩ => ⟨S_, .f32⟩
  | .hbm, ⟨56, _⟩ => ⟨S3x16x8x2048x2048, .i1⟩
  | .hbm, ⟨57, _⟩ => ⟨S3x16x8x2048x2048, .f32⟩
  | .hbm, ⟨58, _⟩ => ⟨S3x16x8x2048x2048, .f32⟩
  | .hbm, ⟨59, _⟩ => ⟨S3x16x8x2048x2048, .f32⟩
  | .hbm, ⟨60, _⟩ => ⟨S_, .f32⟩
  | .hbm, ⟨61, _⟩ => ⟨S3x16x8x2048, .f32⟩
  | .hbm, ⟨62, _⟩ => ⟨S3x16x8x2048x1, .f32⟩
  | .hbm, ⟨63, _⟩ => ⟨S3x16x8x2048x2048, .f32⟩
  | .hbm, ⟨64, _⟩ => ⟨S3x16x8x2048x2048, .f32⟩
  | .hbm, ⟨65, _⟩ => ⟨S3x16x8x2048x2048, .f32⟩
  | .hbm, ⟨66, _⟩ => ⟨S_, .f32⟩
  | .hbm, ⟨67, _⟩ => ⟨S3x16x8x2048, .f32⟩
  | .hbm, ⟨68, _⟩ => ⟨S16x8x64x3x2048, .f32⟩
  | .hbm, ⟨69, _⟩ => ⟨S3x16x8x2048x64, .f32⟩
  | .hbm, ⟨70, _⟩ => ⟨S3x16x8x2048x1, .f32⟩
  | .hbm, ⟨71, _⟩ => ⟨S3x16x8x2048x64, .f32⟩
  | .hbm, ⟨72, _⟩ => ⟨S3x16x8x2048x64, .f32⟩
  | .hbm, ⟨73, _⟩ => ⟨S3x16x8x2048, .f32⟩
  | .hbm, ⟨74, _⟩ => ⟨S3x16x8x2048, .f32⟩
  | .hbm, ⟨75, _⟩ => ⟨S3x16x8x2048, .f32⟩
  | .hbm, ⟨76, _⟩ => ⟨S_, .f32⟩
  | .hbm, ⟨77, _⟩ => ⟨S16x8x2048, .f32⟩
  | .hbm, ⟨78, _⟩ => ⟨S_, .f32⟩
  | .hbm, ⟨79, _⟩ => ⟨S16x8x2048, .f32⟩
  | .hbm, ⟨80, _⟩ => ⟨S16x8x2048, .f32⟩
  | .hbm, ⟨81, _⟩ => ⟨S1x16x8x2048, .f32⟩
  | .hbm, ⟨82, _⟩ => ⟨S3x16x8x2048, .f32⟩
  | .hbm, ⟨83, _⟩ => ⟨S3x16x8x2048, .f32⟩
  | .hbm, ⟨84, _⟩ => ⟨S3x16x8x2048, .f32⟩
  | .hbm, ⟨85, _⟩ => ⟨S_, .f32⟩
  | .hbm, ⟨86, _⟩ => ⟨S16x8x2048, .f32⟩
  | .hbm, ⟨87, _⟩ => ⟨S1x16x8x2048, .f32⟩
  | .hbm, ⟨88, _⟩ => ⟨S3x16x8x2048, .f32⟩
  | .hbm, ⟨89, _⟩ => ⟨S3x16x8x2048, .f32⟩
  | .hbm, ⟨90, _⟩ => ⟨S16x8x2048x64, .f32⟩
  | .hbm, ⟨91, _⟩ => ⟨S16x2048x8x64, .f32⟩
  | .hbm, ⟨92, _⟩ => ⟨S16x2048x512, .f32⟩
  | .hbm, ⟨93, _⟩ => ⟨S16x2048x512, .bf16⟩
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c_1 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_v30 : Ref sig .tc := ⟨.hbm, 43, rfl⟩
abbrev main_c_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .f32⟩
  | .local _ .vmem, ⟨4, _⟩ => ⟨S1x1024x2816, .f32⟩
  | .local _ .vmem, ⟨5, _⟩ => ⟨S1x2816x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S32768x2816, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x1024, .f32⟩
  | .hbm, ⟨39, _⟩ => ⟨S32768x1024, .f32⟩
  | .hbm, ⟨40, _⟩ => ⟨S1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S1x1024 : Shape := ⟨2, ![1, 1024]⟩
abbrev S1x1024x5120 : Shape := ⟨3, ![1, 1024, 5120]⟩
abbrev S1x512x1024 : Shape := ⟨3, ![1, 512, 1024]⟩
abbrev S1x1024x1024 : Shape := ⟨3, ![1, 1024, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 9
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024, .f32⟩
  | .hbm, ⟨4, _⟩ => ⟨S1x1024x5120, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x1024x1024, .f32⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S32768x512 : Shape := ⟨2, ![32768, 512]⟩
abbrev S1x1024 : Shape := ⟨2, ![1, 1024]⟩
abbrev S1x1024x5120 : Shape := ⟨3, ![1, 1024, 5120]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x1024 : Shape := ⟨2, ![1024, 1024]⟩
abbrev S512x1024 : Shape := ⟨2, ![512, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1x1024, .f32⟩
  | .hbm, ⟨4, _⟩ => ⟨S1x1024x5120, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S32768x512, .f32⟩
  | .hbm, ⟨9, _⟩ => ⟨S32768x512, .f32⟩
  | .hbm, ⟨10, _⟩ => ⟨S1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S1x1024x1024, .f32⟩
  | .hbm, ⟨28, _⟩ => ⟨S1024x1024, .f32⟩
  | .hbm, ⟨29, _⟩ => ⟨S32768x1024, .f32⟩
  | .hbm, ⟨30, _⟩ => ⟨S1x1024x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1024, .f32⟩
  | .hbm, ⟨40, _⟩ => ⟨S32768x1024, .f32⟩
  | .hbm, ⟨41, _⟩ => ⟨S512x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S512x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S1024x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x1024, .f32⟩
  | .local _ .vmem, ⟨4, _⟩ => ⟨S256x1024, .bf16⟩
  | .local _ .vmem, ⟨5, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4096x1024 : Shape := ⟨2, ![4096, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x256x1024 : Shape := ⟨3, ![16, 256, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x256x128 : Shape := ⟨3, ![1, 256, 128]⟩
abbrev S256x128 : Shape := ⟨2, ![256, 128]⟩
abbrev S1024x128 : Shape := ⟨2, ![1024, 128]⟩
abbrev S1024x256 : Shape := ⟨2, ![1024, 256]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .bf16⟩
  | .hbm, ⟨2, _⟩ => ⟨S1x1024, .f32⟩
  | .hbm, ⟨3, _⟩ => ⟨S1x1024x512, .f32⟩
  | .hbm, ⟨4, _⟩ => ⟨S1x512x1024, .f32⟩
  | .hbm, ⟨5, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .bf16⟩
  | .local _ .vmem, ⟨3, _⟩ => ⟨S1x256x1024, .bf16⟩
  | .local _ .vmem, ⟨4, _⟩ => ⟨S1x1024, .f32⟩
  | .local _ .vmem, ⟨5, _⟩ => ⟨S1x1024x512, .f32⟩
  | .local _ .vmem, ⟨6, _⟩ => ⟨S1x512x1024, .f32⟩
  | .local _ .vmem, ⟨7, _⟩ => ⟨S1x1024x1024, .f32⟩
  | .local _ .vmem, ⟨8, _⟩ => ⟨S1x1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16x2048x1024 : Shape := ⟨3, ![16, 2048, 1024]⟩
abbrev S16x256x1024 : Shape := ⟨3, ![16, 256, 1024]⟩
abbrev S1x1024 : Shape := ⟨2, ![1, 1024]⟩
abbrev S1x1024x512 : Shape := ⟨3, ![1, 1024, 512]⟩
abbrev S1x512x1024 : Shape := ⟨3, ![1, 512, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x512 : Shape := ⟨2, ![1024, 512]⟩
abbrev S16x2048x512 : Shape := ⟨3, ![16, 2048, 512]⟩
abbrev S16x2048x4x128 : Shape := ⟨4, ![16, 2048, 4, 128]⟩
abbrev S16x256x512 : Shape := ⟨3, ![16, 256, 512]⟩
abbrev S16x256x4x128 : Shape := ⟨4, ![16, 256, 4, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S512x1024 : Shape := ⟨2, ![512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .bf16⟩
  | .hbm, ⟨2, _⟩ => ⟨S1x1024, .f32⟩
  | .hbm, ⟨3, _⟩ => ⟨S1x1024x512, .f32⟩
  | .hbm, ⟨4, _⟩ => ⟨S1x512x1024, .f32⟩
  | .hbm, ⟨5, _⟩ => ⟨S16x256x1024, .f32⟩
  | .hbm, ⟨6, _⟩ => ⟨S1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x512, .f32⟩
  | .hbm, ⟨24, _⟩ => ⟨S16x2048x512, .f32⟩
  | .hbm, ⟨25, _⟩ => ⟨S16x2048x4x128, .f32⟩
  | .hbm, ⟨26, _⟩ => ⟨S16x256x512, .f32⟩
  | .hbm, ⟨27, _⟩ => ⟨S16x256x4x128, .f32⟩
  | .hbm, ⟨28, _⟩ => ⟨S16x256x512, .f32⟩
  | .hbm, ⟨29, _⟩ => ⟨S16x256x4x128, .f32⟩
  | .hbm, ⟨30, _⟩ => ⟨S16x4x2048x256, .f32⟩
  | .hbm, ⟨31, _⟩ => ⟨S_, .f32⟩
  | .hbm, ⟨32, _⟩ => ⟨S16x4x2048x256, .f32⟩
  | .hbm, ⟨33, _⟩ => ⟨S16x4x2048x256, .f32⟩
  | .hbm, ⟨34, _⟩ => ⟨S_, .f32⟩
  | .hbm, ⟨35, _⟩ => ⟨S16x4x2048, .f32⟩
  | .hbm, ⟨36, _⟩ => ⟨S_, .f32⟩
  | .hbm, ⟨37, _⟩ => ⟨S16x4x2048, .f32⟩
  | .hbm, ⟨38, _⟩ => ⟨S16x4x2048, .f32⟩
  | .hbm, ⟨39, _⟩ => ⟨S16x4x2048x1, .f32⟩
  | .hbm, ⟨40, _⟩ => ⟨S16x4x2048x256, .f32⟩
  | .hbm, ⟨41, _⟩ => ⟨S16x4x2048x256, .f32⟩
  | .hbm, ⟨42, _⟩ => ⟨S16x4x2048x256, .f32⟩
  | .hbm, ⟨43, _⟩ => ⟨S_, .f32⟩
  | .hbm, ⟨44, _⟩ => ⟨S16x4x2048, .f32⟩
  | .hbm, ⟨45, _⟩ => ⟨S16x4x2048x1, .f32⟩
  | .hbm, ⟨46, _⟩ => ⟨S16x4x2048x256, .f32⟩
  | .hbm, ⟨47, _⟩ => ⟨S16x4x2048x256, .f32⟩
  | .hbm, ⟨48, _⟩ => ⟨S16x4x128x2048, .f32⟩
  | .hbm, ⟨49, _⟩ => ⟨S16x2048x4x128, .f32⟩
  | .hbm, ⟨50, _⟩ => ⟨S16x2048x512, .f32⟩
  | .hbm, ⟨51, _⟩ => ⟨S512x1024, .f32⟩
  | .hbm, ⟨52, _⟩ => ⟨S16x2048x1024, .f32⟩
  | .hbm, ⟨53, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel6.lean ====
abbrev S32768x1024 : Shape := ⟨2, ![32768, 1024]⟩
abbrev S1x1024 : Shape := ⟨2, ![1, 1024]⟩
abbrev S1x1024x5120 : Shape := ⟨3, ![1, 1024, 5120]⟩
abbrev S32768x128 : Shape := ⟨2, ![32768, 128]⟩
abbrev S32768x3072 : Shape := ⟨2, ![32768, 3072]⟩
abbrev S512x1024 : Shape := ⟨2, ![512, 1024]⟩
abbrev S1x1024x3072 : Shape := ⟨3, ![1, 1024, 3072]⟩
abbrev S512x128 : Shape := ⟨2, ![512, 128]⟩
abbrev S512x3072 : Shape := ⟨2, ![512, 3072]⟩
abbrev S512 : Shape := ⟨1, ![512]⟩
abbrev S512x1 : Shape := ⟨2, ![512, 1]⟩
abbrev S1024x3072 : Shape := ⟨2, ![1024, 3072]⟩

abbrev nBuf : Space → Nat
  | .hbm => 5
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5120, .f32⟩
  | .hbm, ⟨3, _⟩ => ⟨S32768x128, .f32⟩
  | .hbm, ⟨4, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .f32⟩
  | .local _ .vmem, ⟨4, _⟩ => ⟨S512x128, .f32⟩
  | .local _ .vmem, ⟨5, _⟩ => ⟨S512x128, .f32⟩
  | .local _ .vmem, ⟨6, _⟩ => ⟨S512x3072, .bf16⟩
  | .local _ .vmem, ⟨7, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel6Ideal.lean ====
variable {F : FTy → Type} [FloatOps F] [Named F]
def κ : String → Option EReal := fun
  | "scaled_log2e" => some (((Real.log 256)⁻¹ : ℝ) : EReal)
  | _ => none
-- ==== Reference6Ideal.lean ====
abbrev S32768x1024 : Shape := ⟨2, ![32768, 1024]⟩
abbrev S1x1024 : Shape := ⟨2, ![1, 1024]⟩
abbrev S1x1024x5120 : Shape := ⟨3, ![1, 1024, 5120]⟩
abbrev S32768x128 : Shape := ⟨2, ![32768, 128]⟩
abbrev S32768x1x2x64 : Shape := ⟨4, ![32768, 1, 2, 64]⟩
abbrev S32768x1x2x8 : Shape := ⟨4, ![32768, 1, 2, 8]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5120 : Shape := ⟨2, ![1024, 5120]⟩
abbrev S1024x3072 : Shape := ⟨2, ![1024, 3072]⟩
abbrev S32768x3072 : Shape := ⟨2, ![32768, 3072]⟩
abbrev S32768x512 : Shape := ⟨2, ![32768, 512]⟩
abbrev S32768x4x2x64 : Shape := ⟨4, ![32768, 4, 2, 64]⟩
abbrev S32768x4x2x8 : Shape := ⟨4, ![32768, 4, 2, 8]⟩
abbrev S32768x4x2x48 : Shape := ⟨4, ![32768, 4, 2, 48]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x5120, .f32⟩
  | .hbm, ⟨3, _⟩ => ⟨S32768x128, .f32⟩
  | .hbm, ⟨4, _⟩ => ⟨S32768x1x2x64, .f32⟩
  | .hbm, ⟨5, _⟩ => ⟨S32768x1x2x8, .f32⟩
  | .hbm, ⟨6, _⟩ => ⟨S32768x1x2x8, .f32⟩
  | .hbm, ⟨7, _⟩ => ⟨S1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | .hbm, ⟨24, _⟩ => ⟨S1024x5120, .f32⟩
  | .hbm, ⟨25, _⟩ => ⟨S1024x3072, .f32⟩
  | .hbm, ⟨26, _⟩ => ⟨S32768x3072, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x4x2x64, .f32⟩
  | .hbm, ⟨34, _⟩ => ⟨S32768x4x2x8, .f32⟩
  | .hbm, ⟨35, _⟩ => ⟨S32768x4x2x8, .f32⟩
  | .hbm, ⟨36, _⟩ => ⟨S32768x4x2x8, .f32⟩
  | .hbm, ⟨37, _⟩ => ⟨S32768x4x2x8, .f32⟩
  | .hbm, ⟨38, _⟩ => ⟨S32768x4x2x8, .f32⟩
  | .hbm, ⟨39, _⟩ => ⟨S32768x4x2x8, .f32⟩
  | .hbm, ⟨40, _⟩ => ⟨S32768x4x2x8, .f32⟩
  | .hbm, ⟨41, _⟩ => ⟨S32768x4x2x8, .f32⟩
  | .hbm, ⟨42, _⟩ => ⟨S32768x4x2x8, .f32⟩
  | .hbm, ⟨43, _⟩ => ⟨S32768x4x2x8, .f32⟩
  | .hbm, ⟨44, _⟩ => ⟨S32768x4x2x8, .f32⟩
  | .hbm, ⟨45, _⟩ => ⟨S32768x4x2x8, .f32⟩
  | .hbm, ⟨46, _⟩ => ⟨S32768x4x2x48, .f32⟩
  | .hbm, ⟨47, _⟩ => ⟨S32768x4x2x64, .f32⟩
  | .hbm, ⟨48, _⟩ => ⟨S32768x512, .f32⟩
  | .hbm, ⟨49, _⟩ => ⟨S_, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S_, .f32⟩
  | .hbm, ⟨54, _⟩ => ⟨S32768x512, .f32⟩
  | .hbm, ⟨55, _⟩ => ⟨S32768x512, .f32⟩
  | .hbm, ⟨56, _⟩ => ⟨S32768x4x2x64, .f32⟩
  | .hbm, ⟨57, _⟩ => ⟨S32768x4x2x8, .f32⟩
  | .hbm, ⟨58, _⟩ => ⟨S32768x4x2x8, .f32⟩
  | .hbm, ⟨59, _⟩ => ⟨S32768x4x2x8, .f32⟩
  | .hbm, ⟨60, _⟩ => ⟨S32768x4x2x8, .f32⟩
  | .hbm, ⟨61, _⟩ => ⟨S32768x4x2x8, .f32⟩
  | .hbm, ⟨62, _⟩ => ⟨S32768x4x2x8, .f32⟩
  | .hbm, ⟨63, _⟩ => ⟨S32768x4x2x8, .f32⟩
  | .hbm, ⟨64, _⟩ => ⟨S32768x4x2x8, .f32⟩
  | .hbm, ⟨65, _⟩ => ⟨S32768x4x2x8, .f32⟩
  | .hbm, ⟨66, _⟩ => ⟨S32768x4x2x8, .f32⟩
  | .hbm, ⟨67, _⟩ => ⟨S32768x4x2x8, .f32⟩
  | .hbm, ⟨68, _⟩ => ⟨S32768x4x2x8, .f32⟩
  | .hbm, ⟨69, _⟩ => ⟨S32768x4x2x48, .f32⟩
  | .hbm, ⟨70, _⟩ => ⟨S32768x4x2x64, .f32⟩
  | .hbm, ⟨71, _⟩ => ⟨S32768x512, .f32⟩
  | .hbm, ⟨72, _⟩ => ⟨S_, .f32⟩
  | .hbm, ⟨73, _⟩ => ⟨S32768x512, .f32⟩
  | .hbm, ⟨74, _⟩ => ⟨S32768x512, .f32⟩
  | .hbm, ⟨75, _⟩ => ⟨S_, .f32⟩
  | .hbm, ⟨76, _⟩ => ⟨S_, .f32⟩
  | .hbm, ⟨77, _⟩ => ⟨S32768x512, .f32⟩
  | .hbm, ⟨78, _⟩ => ⟨S32768x512, .f32⟩
  | .hbm, ⟨79, _⟩ => ⟨S32768x3072, .f32⟩
  | .hbm, ⟨80, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_cst_4 : Ref sig .tc := ⟨.hbm, 72, rfl⟩
abbrev main_v63 : Ref sig .tc := ⟨.hbm, 73, rfl⟩
abbrev main_v64 : Ref sig .tc := ⟨.hbm, 74, rfl⟩
abbrev main_cst_5 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩

abbrev nD : Nat := 1
abbrev τ : Topo := Topo.v7x

variable {F : FTy → Type} [FloatOps F]
-- ==== Kernel7.lean ====
abbrev S16x2048 : Shape := ⟨2, ![16, 2048]⟩
abbrev S1x128 : Shape := ⟨2, ![1, 128]⟩
abbrev S8 : Shape := ⟨1, ![8]⟩
abbrev S_ : Shape := ⟨0, ![]⟩
abbrev S16 : Shape := ⟨1, ![16]⟩
abbrev S32 : Shape := ⟨1, ![32]⟩
abbrev S8192x4 : Shape := ⟨2, ![8192, 4]⟩
abbrev S1x32 : Shape := ⟨2, ![1, 32]⟩
abbrev S4x32 : Shape := ⟨2, ![4, 32]⟩
abbrev S128 : Shape := ⟨1, ![128]⟩
abbrev S32768x128 : Shape := ⟨2, ![32768, 128]⟩
abbrev S1024x4 : Shape := ⟨2, ![1024, 4]⟩
abbrev S4096x128 : Shape := ⟨2, ![4096, 128]⟩
abbrev S1024x128 : Shape := ⟨2, ![1024, 128]⟩
abbrev S1024x1 : Shape := ⟨2, ![1024, 1]⟩

abbrev nBuf : Space → Nat
  | .hbm => 20
  | .vmem => 6
  | .smem => 0
  | _ => 0

abbrev bufTy : (tb : Table) → Fin (tcTables nBuf tb) → BufTy
  | .hbm, ⟨0, _⟩ => ⟨S16x2048, .i32⟩
  | .hbm, ⟨1, _⟩ => ⟨S1x128, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S16, .f32⟩
  | .hbm, ⟨12, _⟩ => ⟨S32, .f32⟩
  | .hbm, ⟨13, _⟩ => ⟨S16x2048, .f32⟩
  | .hbm, ⟨14, _⟩ => ⟨S8192x4, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S32768x128, .f32⟩
  | .local _ .vmem, ⟨0, _⟩ => ⟨S1024x4, .f32⟩
  | .local _ .vmem, ⟨1, _⟩ => ⟨S1024x4, .f32⟩
  | .local _ .vmem, ⟨2, _⟩ => ⟨S1x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S16x2048 : Shape := ⟨2, ![16, 2048]⟩
abbrev S1x128 : Shape := ⟨2, ![1, 128]⟩
abbrev S8 : Shape := ⟨1, ![8]⟩
abbrev S_ : Shape := ⟨0, ![]⟩
abbrev S8192x4 : Shape := ⟨2, ![8192, 4]⟩
abbrev S8192x3 : Shape := ⟨2, ![8192, 3]⟩
abbrev S8192x1 : Shape := ⟨2, ![8192, 1]⟩
abbrev S8192x4x1 : Shape := ⟨3, ![8192, 4, 1]⟩
abbrev S8192x4x2 : Shape := ⟨3, ![8192, 4, 2]⟩
abbrev S8192x4x2x1 : Shape := ⟨4, ![8192, 4, 2, 1]⟩
abbrev S1x1x1x8 : Shape := ⟨4, ![1, 1, 1, 8]⟩
abbrev S8192x4x2x8 : Shape := ⟨4, ![8192, 4, 2, 8]⟩
abbrev S8192x4x2x16 : Shape := ⟨4, ![8192, 4, 2, 16]⟩
abbrev S8192x4x2x32 : Shape := ⟨4, ![8192, 4, 2, 32]⟩
abbrev S32768x1x64 : Shape := ⟨3, ![32768, 1, 64]⟩
abbrev S32768x2x64 : Shape := ⟨3, ![32768, 2, 64]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S1x128, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8192x4, .i32⟩
  | .hbm, ⟨11, _⟩ => ⟨S8192x3, .i32⟩
  | .hbm, ⟨12, _⟩ => ⟨S8192x1, .i32⟩
  | .hbm, ⟨13, _⟩ => ⟨S8192x4, .i32⟩
  | .hbm, ⟨14, _⟩ => ⟨S8192x4x1, .i32⟩
  | .hbm, ⟨15, _⟩ => ⟨S8192x4x1, .i32⟩
  | .hbm, ⟨16, _⟩ => ⟨S8192x4x2, .i32⟩
  | .hbm, ⟨17, _⟩ => ⟨S8192x4x2, .f32⟩
  | .hbm, ⟨18, _⟩ => ⟨S8192x4x2x1, .f32⟩
  | .hbm, ⟨19, _⟩ => ⟨S1x1x1x8, .f32⟩
  | .hbm, ⟨20, _⟩ => ⟨S8192x4x2x8, .f32⟩
  | .hbm, ⟨21, _⟩ => ⟨S8192x4x2x8, .f32⟩
  | .hbm, ⟨22, _⟩ => ⟨S8192x4x2x8, .f32⟩
  | .hbm, ⟨23, _⟩ => ⟨S8192x4x2x8, .f32⟩
  | .hbm, ⟨24, _⟩ => ⟨S8192x4x2x8, .f32⟩
  | .hbm, ⟨25, _⟩ => ⟨S_, .f32⟩
  | .hbm, ⟨26, _⟩ => ⟨S8192x4x2x16, .f32⟩
  | .hbm, ⟨27, _⟩ => ⟨S8192x4x2x32, .f32⟩
  | .hbm, ⟨28, _⟩ => ⟨S32768x1x64, .f32⟩
  | .hbm, ⟨29, _⟩ => ⟨S32768x2x64, .f32⟩
  | .hbm, ⟨30, _⟩ => ⟨S32768x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Proof.Ideal.Body.lean ====
/-
  One launch step of the dilated attention, run once at symbolic contents: what the body leaves in the result's
  window is a term over the three input windows' contents, found by the run.
-/
module

public import proofs.«01_k».proof.Proof.Gen.KernelIdeal
public import proofs.«01_k».proof.Proof.Gen.KernelIdeal.Skeleton
public import Idealize.ShloMosaic.Lib.Tactic

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resource algebra: the rounds library's (the kernel has no cell of its own). -/
abbrev UR (nD : Nat) (τ : Topo) : Type := URounds (GSem nD τ sig) Unit

local notation "𝕄" => MT nD τ sig Unit (Elt F) ℕ (UR nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the result's window, with the proof that from the thirteen buffers held whole it runs to
    its return, handing back the three inputs as they were and the scratch buffers at something. -/
noncomputable def kernelRun (c : Dev nD) (i : grid0.Coords)
    (M2 : Memref sig .tc .vmem S1x2048x128 .bf16) (h2 : M2.IsWhole) (M3 : Memref sig .tc .vmem S1x2048x128 .bf16) (h3 : M3.IsWhole)
    (M4 : Memref sig .tc .vmem S1x2048x128 .bf16) (h4 : M4.IsWhole) (M5 : Memref sig .tc .vmem S1x2048x128 .bf16) (h5 : M5.IsWhole)
    (M6 : Memref sig .tc .vmem S2048x128 .f32) (h6 : M6.IsWhole) (M7 : Memref sig .tc .vmem S2176x128 .f32) (h7 : M7.IsWhole)
    (M8 : Memref sig .tc .vmem S2176x128 .f32) (h8 : M8.IsWhole) (M9 : Memref sig .tc .vmem S2048x128 .f32) (h9 : M9.IsWhole)
    (M10 : Memref sig .tc .vmem S2176x128 .f32) (h10 : M10.IsWhole) (M11 : Memref sig .tc .vmem S2176x128 .f32) (h11 : M11.IsWhole)
    (M12 : Memref sig .tc .vmem S3x2048x128 .f32) (h12 : M12.IsWhole) (M13 : Memref sig .tc .vmem S3x2048x128 .f32) (h13 : M13.IsWhole)
    (M14 : Memref sig .tc .vmem S2048x128 .f32) (h14 : M14.IsWhole)
    (f2 : Bf (F := F) c M2) (f3 : Bf (F := F) c M3) (f4 : Bf (F := F) c M4) :
    { W : Bf (F := F) c M12 → Bf (F := F) c M13 → Bf (F := F) c M14 → Bf (F := F) c M5 //
      ∀ (f5 : Bf (F := F) c M5) (f6 : Bf (F := F) c M6) (f7 : Bf (F := F) c M7) (f8 : Bf (F := F) c M8) (f9 : Bf (F := F) c M9)
        (f10 : Bf (F := F) c M10) (f11 : Bf (F := F) c M11) (f12 : Bf (F := F) c M12) (f13 : Bf (F := F) c M13) (f14 : Bf (F := F) c M14)
        (E : Set ℕ) (Q : PUnit → sProp 𝕄),
        iprop(pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14
          ∗ (iprop(pt c M2 f2 ∗ pt c M3 f3 ∗ pt c M4 f4 ∗ pt c M5 (W f12 f13 f14)
                ∗ (∃ f, pt c M6 f) ∗ (∃ f, pt c M7 f) ∗ (∃ f, pt c M8 f) ∗ (∃ f, pt c M9 f) ∗ (∃ f, pt c M10 f)
                ∗ (∃ f, pt c M11 f) ∗ (∃ f, pt c M12 f) ∗ (∃ f, pt c M13 f) ∗ (∃ f, pt c M14 f)) -∗ Q ⟨⟩))
        ⊢ wp frame (wpE (defs₀ (F := F)) Variants.none c none) E
            (cc0_dilated_attn i M2 h2 M3 h3 M4 h4 M5 h5 M6 h6 M7 h7 M8 h8 M9 h9 M10 h10 M11 h11 M12 h12 M13 h13 M14 h14) Q } := by
  refine ⟨?_, fun f5 f6 f7 f8 f9 f10 f11 f12 f13 f14 E Q => ?run⟩
  case run =>
    iintro ⟨H2, H3, H4, H5, H6, H7, H8, H9, H10, H11, H12, H13, H14, Hk⟩
    sl_exec_parts!
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Proof.KernelIdeal

end
-- ==== Proof.Ideal.Tile.lean ====
/-
  The tiles of the dilated attention and the lists of stores they make: the body's 48 stores of a normalised output
  (and of a log-denominator) are sixteen tiles for each of the three dilations, each the same function of its own
  rows of the queries, the keys and the values.
-/
module

public import proofs.«01_k».proof.Proof.Ideal.Body

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI

variable {F : FTy → Type} [FloatOps F] [Named F]

/-- The lanes of the first of a pair's two heads. -/
abbrev lanes : IVec S128x128 1 := cmpi .slt (iota .tc S128x128 32 [1] iota_S128x128_d1_w32) (broadcast S128x128 64#32)

/-- The bfloat16 word of one. -/
abbrev oneB : F .bf16 := Scalar.ofBits .bf16 0x3F80#16

/-- The normalised output of a tile of 128 queries against 256 keys, the first 128 of which count unless `n` is 0. -/
def wideOut (n : BitVec 32) (q : Vec F S128x128 .f32) (k v : Vec F S256x128 .f32) : FVec F S1x128x128 .f32 :=
  k0_pay30 lanes k v (k0_pay24 n) (k0_pay25 lanes q)

/-- The log-denominator of the same tile. -/
def wideLse (n : BitVec 32) (q : Vec F S128x128 .f32) (k v : Vec F S256x128 .f32) : FVec F S1x128x128 .f32 :=
  k0_pay31 lanes k v (k0_pay24 n) (k0_pay25 lanes q)

/-- The normalised output of a tile of 128 queries against its own 128 keys. -/
def narrowOut (q k v : Vec F S128x128 .f32) : FVec F S1x128x128 .f32 :=
  k0_pay439 lanes (k0_pay435 lanes q k) (k0_pay436 v) oneB

/-- The log-denominator of the same tile. -/
def narrowLse (q k v : Vec F S128x128 .f32) : FVec F S1x128x128 .f32 :=
  k0_pay440 lanes (k0_pay434 lanes q k) (k0_pay435 lanes q k) (k0_pay436 v) oneB

/-- The three dilations' outputs of 512 tokens joined by the weights of their log-denominators. -/
def joined (l0 l1 l2 o0 o1 o2 : Vec F S1x512x128 .f32) : FVec F S512x128 .f32 :=
  k0_pay447 (k0_pay443 l2) (k0_pay444 l0 l1 l2) (k0_pay445 l0 l1 l2) (k0_pay446 l0 l1 l2) o0 o1 o2

/-- The tiles, last first. -/
abbrev tiles : List (Fin 16) := [15, 14, 13, 12, 11, 10, 9, 8, 7, 6, 5, 4, 3, 2, 1, 0]

theorem mem_tiles : ∀ n : Fin 16, n ∈ tiles := by decide

theorem flat_inb : ∀ (g : Fin 2) (n : Fin 16) (a : Fin 3),
    (![g.val, 128 * n.val, 0] : Fin 3 → ℕ) a + S1x128x128.size a ≤ S3x2048x128.size a := by decide +kernel

/-- Where tile `n` of dilation `g` (the first two) is stored: 128 rows that follow one another. -/
abbrev flat (g : Fin 2) (n : Fin 16) : Rect S3x2048x128 := Rect.unit ![g.val, 128 * n.val, 0] S1x128x128.size (flat_inb g n)

/-- Where tile `n` of the third dilation is stored: every fourth row. -/
abbrev spread (n : Fin 16) : Rect S3x2048x128 :=
  ⟨⟨k0_off7 (BitVec.ofNat 32 n.val), S1x128x128.size, ![1, 4, 1], k0_off7_inb n⟩, spos_1_4_1⟩

theorem row128_inb : ∀ (n : Fin 16) (a : Fin 2), (![128 * n.val, 0] : Fin 2 → ℕ) a + S128x128.size a ≤ S2048x128.size a := by decide +kernel
theorem row256_inb : ∀ (n : Fin 16) (a : Fin 2), (![128 * n.val, 0] : Fin 2 → ℕ) a + S256x128.size a ≤ S2176x128.size a := by decide +kernel

abbrev rows128 (n : Fin 16) : LoadRect S2048x128 := (Rect.unit (s := S2048x128) ![128 * n.val, 0] S128x128.size (row128_inb n)).toLoadRect
abbrev rows256 (n : Fin 16) : LoadRect S2176x128 := (Rect.unit (s := S2176x128) ![128 * n.val, 0] S256x128.size (row256_inb n)).toLoadRect
abbrev spreadQ (n : Fin 16) : LoadRect S2048x128 := ⟨k0_off5 (BitVec.ofNat 32 n.val), S128x128.size, ![4, 1], k0_off5_inb n⟩
abbrev spreadK (n : Fin 16) : LoadRect S2176x128 := ⟨k0_off6 (BitVec.ofNat 32 n.val), S128x128.size, ![4, 1], k0_off6_inb n⟩

section
variable (c : Dev nD)
    (M2 : Memref sig .tc .vmem S1x2048x128 .bf16) (M3 : Memref sig .tc .vmem S1x2048x128 .bf16) (M4 : Memref sig .tc .vmem S1x2048x128 .bf16)
    (M6 : Memref sig .tc .vmem S2048x128 .f32) (M7 : Memref sig .tc .vmem S2176x128 .f32) (M8 : Memref sig .tc .vmem S2176x128 .f32)
    (M9 : Memref sig .tc .vmem S2048x128 .f32) (M10 : Memref sig .tc .vmem S2176x128 .f32) (M11 : Memref sig .tc .vmem S2176x128 .f32)
    (f2 : Bf (F := F) c M2) (f3 : Bf (F := F) c M3) (f4 : Bf (F := F) c M4)

theorem near_out : kernelRun.sl.H12_16 c M2 M3 M4 M6 M7 M8 f2 f3 f4 = tiles.map fun n => ⟨flat 0 n,
    wideOut (BitVec.ofNat 32 n.val) (M6.view.readCov (kernelRun.sl.H6_1 c M2 f2) (rows128 n))
      (M7.view.readCov (kernelRun.sl.H7_2 c M3 f3) (rows256 n)) (M8.view.readCov (kernelRun.sl.H8_2 c M4 f4) (rows256 n))⟩ := by
  rfl

theorem near_lse : kernelRun.sl.H13_16 c M2 M3 M4 M6 M7 M8 f2 f3 f4 = tiles.map fun n => ⟨flat 0 n,
    wideLse (BitVec.ofNat 32 n.val) (M6.view.readCov (kernelRun.sl.H6_1 c M2 f2) (rows128 n))
      (M7.view.readCov (kernelRun.sl.H7_2 c M3 f3) (rows256 n)) (M8.view.readCov (kernelRun.sl.H8_2 c M4 f4) (rows256 n))⟩ := by
  rfl

theorem mid_out : kernelRun.sl.H12_32 c M2 M3 M4 M6 M7 M8 M9 M10 M11 f2 f3 f4 = (tiles.map fun n => ⟨flat 1 n,
    wideOut (BitVec.ofNat 32 (n.val % 4)) (M9.view.readCov (kernelRun.sl.H9_4 c M2 M6 f2) (rows128 n))
      (M10.view.readCov (kernelRun.sl.H10_5 c M3 M7 f3) (rows256 n)) (M11.view.readCov (kernelRun.sl.H11_5 c M4 M8 f4) (rows256 n))⟩)
    ++ kernelRun.sl.H12_16 c M2 M3 M4 M6 M7 M8 f2 f3 f4 := by
  rfl

theorem mid_lse : kernelRun.sl.H13_32 c M2 M3 M4 M6 M7 M8 M9 M10 M11 f2 f3 f4 = (tiles.map fun n => ⟨flat 1 n,
    wideLse (BitVec.ofNat 32 (n.val % 4)) (M9.view.readCov (kernelRun.sl.H9_4 c M2 M6 f2) (rows128 n))
      (M10.view.readCov (kernelRun.sl.H10_5 c M3 M7 f3) (rows256 n)) (M11.view.readCov (kernelRun.sl.H11_5 c M4 M8 f4) (rows256 n))⟩)
    ++ kernelRun.sl.H13_16 c M2 M3 M4 M6 M7 M8 f2 f3 f4 := by
  rfl

theorem far_out : kernelRun.sl.H12_48 c M2 M3 M4 M6 M7 M8 M9 M10 M11 f2 f3 f4 = (tiles.map fun n => ⟨spread n,
    narrowOut (M9.view.readCov (kernelRun.sl.H9_4 c M2 M6 f2) (spreadQ n))
      (M10.view.readCov (kernelRun.sl.H10_5 c M3 M7 f3) (spreadK n)) (M11.view.readCov (kernelRun.sl.H11_5 c M4 M8 f4) (spreadK n))⟩)
    ++ kernelRun.sl.H12_32 c M2 M3 M4 M6 M7 M8 M9 M10 M11 f2 f3 f4 := by
  rfl

theorem far_lse : kernelRun.sl.H13_48 c M2 M3 M4 M6 M7 M8 M9 M10 M11 f2 f3 f4 = (tiles.map fun n => ⟨spread n,
    narrowLse (M9.view.readCov (kernelRun.sl.H9_4 c M2 M6 f2) (spreadQ n))
      (M10.view.readCov (kernelRun.sl.H10_5 c M3 M7 f3) (spreadK n)) (M11.view.readCov (kernelRun.sl.H11_5 c M4 M8 f4) (spreadK n))⟩)
    ++ kernelRun.sl.H13_32 c M2 M3 M4 M6 M7 M8 M9 M10 M11 f2 f3 f4 := by
  rfl

end

end Cert.Proof.KernelIdeal

end
-- ==== Proof.Ideal.Closed.lean ====
/-
  What one launch step leaves in the result's window, as a function of the three input blocks alone: the scratch
  buffers are filled by the step itself before they are read, so nothing of their contents survives.
-/
module

public import proofs.«01_k».proof.Proof.Ideal.Tile
public import Idealize.ShloMosaic.Lib.ValueIdxCore
public import Idealize.ShloMosaic.Lib.VecWindow
public import Idealize.ShloMosaic.Lib.Writes
public import Idealize.ShloMosaic.Lib.Pipeline.FrameBody

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.ValueIdx
open Idealize.SL Idealize.SL.RA Idealize.SL.BI
open scoped Idealize.SL.BI

variable {F : FTy → Type} [FloatOps F] [Named F]

/-! ## The geometry of the stores -/

theorem spread_off : ∀ n : Fin 16, k0_off7 (BitVec.ofNat 32 n.val) = ![2, 512 * (n.val % 4) + n.val / 4, 0] := by decide +kernel
theorem spreadQ_off : ∀ n : Fin 16, k0_off5 (BitVec.ofNat 32 n.val) = ![512 * (n.val % 4) + n.val / 4, 0] := by decide +kernel
theorem spreadK_off : ∀ n : Fin 16, k0_off6 (BitVec.ofNat 32 n.val) = ![128 + (512 * (n.val % 4) + n.val / 4), 0] := by decide +kernel

/-- A place of the first two planes lies in the tile of its block of 128 rows. -/
theorem mem_flat (g : Fin 2) (n : Fin 16) (y : S3x2048x128.Idx) (h : (y 0).val = g.val) (hn : (y 1).val / 128 = n.val) :
    y ∈ (flat g n).set := by
  rw [Rect.mem_set_unit]
  have h2 : (y 2).val < 128 := (y 2).isLt
  intro a
  match a with
  | ⟨0, _⟩ => exact ⟨by show g.val ≤ (y 0).val; omega, by show (y 0).val < g.val + 1; omega⟩
  | ⟨1, _⟩ => exact ⟨by show 128 * n.val ≤ (y 1).val; omega, by show (y 1).val < 128 * n.val + 128; omega⟩
  | ⟨2, _⟩ => exact ⟨by show 0 ≤ (y 2).val; omega, by show (y 2).val < 0 + 128; omega⟩

/-- A place of the third plane lies in the tile of its stream of sixteen. -/
theorem mem_spread (n : Fin 16) (y : S3x2048x128.Idx) (h : (y 0).val = 2)
    (hn : (y 1).val / 512 + 4 * ((y 1).val % 4) = n.val) : y ∈ (spread n).set := by
  rw [LoadRect.mem_set]
  have h2 : (y 2).val < 128 := (y 2).isLt
  have h1 : (y 1).val < 2048 := (y 1).isLt
  intro a
  have q0 : (y 1).val % 512 % 4 = (y 1).val % 4 := Nat.mod_mod_of_dvd _ (by decide)
  have q1 : n.val % 4 = (y 1).val / 512 := by omega
  have q2 : n.val / 4 = (y 1).val % 4 := by omega
  show ∃ j < (![1, 128, 128] : Fin 3 → ℕ) a, (y a).val = k0_off7 (BitVec.ofNat 32 n.val) a + (![1, 4, 1] : Fin 3 → ℕ) a * j
  rw [spread_off n]
  match a with
  | ⟨0, _⟩ => exact ⟨0, by show 0 < 1; omega, by show (y 0).val = 2 + 1 * 0; omega⟩
  | ⟨1, _⟩ => exact ⟨(y 1).val % 512 / 4, by show _ < 128; omega,
      by show (y 1).val = 512 * (n.val % 4) + n.val / 4 + 4 * ((y 1).val % 512 / 4); omega⟩
  | ⟨2, _⟩ => exact ⟨(y 2).val, by show _ < 128; omega, by show (y 2).val = 0 + 1 * (y 2).val; omega⟩

/-- A row of the third dilation's plane: its stream of sixteen, and its place there. -/
theorem stream_arith {r s x e : ℕ} (hr : r < 4) (hs : s < 4) (hx : x < 128) (he : e = 512 * r + s + 4 * x) :
    e / 512 = r ∧ e % 4 = s ∧ e % 512 / 4 = x := by
  have h : e / 512 = r := by omega
  have h' : e % 512 = s + 4 * x := by omega
  exact ⟨h, by omega, by rw [h']; omega⟩

section Stores
variable {Val : EltTy → Type} {e : EltTy} (a b d : Fin 16 → S1x128x128.Idx → Val e)

/-- The 48 stores of one buffer, last first. -/
abbrev stores : List (View.Piece Val S3x2048x128 e) :=
  (tiles.map fun n => ⟨spread n, d n⟩) ++ ((tiles.map fun n => ⟨flat 1 n, b n⟩) ++ tiles.map fun n => ⟨flat 0 n, a n⟩)

theorem stores_cover (y : S3x2048x128.Idx) : ∃ p ∈ stores a b d, y ∈ p.1.set := by
  have h0 : (y 0).val < 3 := (y 0).isLt
  have h1 : (y 1).val < 2048 := (y 1).isLt
  by_cases e0 : (y 0).val = 0
  · exact ⟨_, List.mem_append_right _ (List.mem_append_right _ (List.mem_map_of_mem (mem_tiles ⟨(y 1).val / 128, by omega⟩))),
      mem_flat 0 _ y e0 rfl⟩
  by_cases e1 : (y 0).val = 1
  · exact ⟨_, List.mem_append_right _ (List.mem_append_left _ (List.mem_map_of_mem (mem_tiles ⟨(y 1).val / 128, by omega⟩))),
      mem_flat 1 _ y e1 rfl⟩
  · exact ⟨_, List.mem_append_left _ (List.mem_map_of_mem (mem_tiles ⟨(y 1).val / 512 + 4 * ((y 1).val % 4), by omega⟩)),
      mem_spread _ y (by omega) rfl⟩

/-- The buffer after the 48 stores. -/
def stored : S3x2048x128.Idx → Val e := fun y =>
  have h1 : (y 1).val < 2048 := (y 1).isLt
  if (y 0).val = 0 then a ⟨(y 1).val / 128, by omega⟩ (ix3 (0 : Fin 1) (⟨(y 1).val % 128, by omega⟩ : Fin 128) (y 2))
  else if (y 0).val = 1 then b ⟨(y 1).val / 128, by omega⟩ (ix3 (0 : Fin 1) (⟨(y 1).val % 128, by omega⟩ : Fin 128) (y 2))
  else d ⟨(y 1).val / 512 + 4 * ((y 1).val % 4), by omega⟩ (ix3 (0 : Fin 1) (⟨(y 1).val % 512 / 4, by omega⟩ : Fin 128) (y 2))

theorem stores_pieces : ∀ p ∈ stores a b d, ∀ x : p.1.shape.Idx, p.2 x = stored a b d (p.1.emb x) := by
  intro p hp
  rcases List.mem_append.mp hp with hp | hp
  · obtain ⟨n, -, rfl⟩ := List.mem_map.mp hp
    intro (x : (spread n).shape.Idx)
    change d n x = stored a b d ((spread n).emb x)
    have x0 : (x 0).val < 1 := (x 0).isLt
    have x1 : (x 1).val < 128 := (x 1).isLt
    have x2 : (x 2).val < 128 := (x 2).isLt
    have e0 : ((spread n).emb x 0).val = 2 := by
      show k0_off7 (BitVec.ofNat 32 n.val) 0 + 1 * (x 0).val = 2
      rw [spread_off n]; show 2 + 1 * (x 0).val = 2; omega
    have e1 : ((spread n).emb x 1).val = 512 * (n.val % 4) + n.val / 4 + 4 * (x 1).val := by
      show k0_off7 (BitVec.ofNat 32 n.val) 1 + 4 * (x 1).val = _
      rw [spread_off n]; rfl
    have e2 : ((spread n).emb x 2).val = (x 2).val := by
      show k0_off7 (BitVec.ofNat 32 n.val) 2 + 1 * (x 2).val = _
      rw [spread_off n]; show 0 + 1 * (x 2).val = _; omega
    obtain ⟨q1, q2, q3⟩ := stream_arith (by omega : n.val % 4 < 4) (by omega : n.val / 4 < 4) x1 e1
    unfold stored
    rw [if_neg (by omega), if_neg (by omega)]
    refine congr (congrArg d (Fin.ext ?_)) (funext fun t => Fin.ext ?_)
    · show n.val = ((spread n).emb x 1).val / 512 + 4 * (((spread n).emb x 1).val % 4); omega
    · match t with
      | ⟨0, _⟩ => show (x 0).val = 0; omega
      | ⟨1, _⟩ => show (x 1).val = ((spread n).emb x 1).val % 512 / 4; omega
      | ⟨2, _⟩ => show (x 2).val = ((spread n).emb x 2).val; omega
  · rcases List.mem_append.mp hp with hp | hp
    · obtain ⟨n, -, rfl⟩ := List.mem_map.mp hp
      intro (x : (flat 1 n).shape.Idx)
      change b n x = stored a b d ((flat 1 n).emb x)
      have x0 : (x 0).val < 1 := (x 0).isLt
      have x1 : (x 1).val < 128 := (x 1).isLt
      have e0 : ((flat 1 n).emb x 0).val = 1 + 1 * (x 0).val := rfl
      have e1 : ((flat 1 n).emb x 1).val = 128 * n.val + 1 * (x 1).val := rfl
      have e2 : ((flat 1 n).emb x 2).val = 0 + 1 * (x 2).val := rfl
      unfold stored
      rw [if_neg (by omega), if_pos (by omega)]
      refine congr (congrArg b (Fin.ext ?_)) (funext fun t => Fin.ext ?_)
      · show n.val = ((flat 1 n).emb x 1).val / 128; omega
      · match t with
        | ⟨0, _⟩ => show (x 0).val = 0; omega
        | ⟨1, _⟩ => show (x 1).val = ((flat 1 n).emb x 1).val % 128; omega
        | ⟨2, _⟩ => show (x 2).val = ((flat 1 n).emb x 2).val; omega
    · obtain ⟨n, -, rfl⟩ := List.mem_map.mp hp
      intro (x : (flat 0 n).shape.Idx)
      change a n x = stored a b d ((flat 0 n).emb x)
      have x0 : (x 0).val < 1 := (x 0).isLt
      have x1 : (x 1).val < 128 := (x 1).isLt
      have e0 : ((flat 0 n).emb x 0).val = 0 + 1 * (x 0).val := rfl
      have e1 : ((flat 0 n).emb x 1).val = 128 * n.val + 1 * (x 1).val := rfl
      have e2 : ((flat 0 n).emb x 2).val = 0 + 1 * (x 2).val := rfl
      unfold stored
      rw [if_pos (by omega)]
      refine congr (congrArg a (Fin.ext ?_)) (funext fun t => Fin.ext ?_)
      · show n.val = ((flat 0 n).emb x 1).val / 128; omega
      · match t with
        | ⟨0, _⟩ => show (x 0).val = 0; omega
        | ⟨1, _⟩ => show (x 1).val = ((flat 0 n).emb x 1).val % 128; omega
        | ⟨2, _⟩ => show (x 2).val = ((flat 0 n).emb x 2).val; omega

/-- A load after the 48 stores, whatever was there before. -/
theorem load_stores [∀ e, Nonempty (Val e)] {sg : RefSig} {κ : Kind} {sp : Space} (v : View sg κ sp S3x2048x128 e) (f : v.ty.Contents Val)
    (B : LoadRect S3x2048x128) : v.readAt Val B (v.writes Val f (stores a b d)) = fun j => stored a b d (B.idx j) :=
  funext fun j => View.read_writes_apply_of_pieces v f _ _ (stores_pieces a b d) _ (stores_cover a b d _)

end Stores

end Cert.Proof.KernelIdeal

end
-- ==== Proof.Ideal.Left.lean ====
/-
  What one launch step leaves in the result's window, in closed form over the three input blocks.
-/
module

public import proofs.«01_k».proof.Proof.Ideal.Closed
public import Idealize.ShloMosaic.Lib.Pipeline.Value

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.ValueIdx
open Idealize.SL Idealize.SL.RA Idealize.SL.BI
open scoped Idealize.SL.BI

variable {F : FTy → Type} [FloatOps F] [Named F]

/-! ## The scratch copies -/

/-- A copy of 2048 rows below 128 rows of their own. -/
def shifted (z : S128x128.Idx → F .f32) (w : S2048x128.Idx → F .f32) : S2176x128.Idx → F .f32 := fun y =>
  have h1 : (y 0).val < 2176 := (y 0).isLt
  if h : (y 0).val < 128 then z (ix2 (⟨(y 0).val, h⟩ : Fin 128) (y 1))
  else w (ix2 (⟨(y 0).val - 128, by omega⟩ : Fin 2048) (y 1))

/-- The rows gathered by their residue mod 4: row `4m + r` at `512 r + m`. -/
def byStream (w : S2048x128.Idx → F .f32) : S2048x128.Idx → F .f32 := fun y =>
  have h1 : (y 0).val < 2048 := (y 0).isLt
  w (ix2 (⟨4 * ((y 0).val % 512) + (y 0).val / 512, by omega⟩ : Fin 2048) (y 1))

/-- The values' copy. -/
def vRows (v : Vec F S1x2048x128 .bf16) : S2048x128.Idx → F .f32 := k0_pay10 (k0_pay9 v)

section Rows
variable {Val : EltTy → Type} {e : EltTy}

theorem part_inb : ∀ (r : Fin 4) (a : Fin 2), (![512 * r.val, 0] : Fin 2 → ℕ) a + S512x128.size a ≤ S2048x128.size a := by decide +kernel
theorem part'_inb : ∀ (r : Fin 4) (a : Fin 2), (![128 + 512 * r.val, 0] : Fin 2 → ℕ) a + S512x128.size a ≤ S2176x128.size a := by decide +kernel
theorem every_inb : ∀ (r : Fin 4) (a : Fin 2), S512x128.size a = 0 ∨ (![r.val, 0] : Fin 2 → ℕ) a + (![4, 1] : Fin 2 → ℕ) a * (S512x128.size a - 1) < S2048x128.size a := by decide +kernel
theorem every'_inb : ∀ (r : Fin 4) (a : Fin 2), S512x128.size a = 0 ∨ (![128 + r.val, 0] : Fin 2 → ℕ) a + (![4, 1] : Fin 2 → ℕ) a * (S512x128.size a - 1) < S2176x128.size a := by decide +kernel

/-- The `r`-th quarter of 2048 rows. -/
abbrev part (r : Fin 4) : Rect S2048x128 := Rect.unit ![512 * r.val, 0] S512x128.size (part_inb r)
/-- The same below 128 further rows. -/
abbrev part' (r : Fin 4) : Rect S2176x128 := Rect.unit ![128 + 512 * r.val, 0] S512x128.size (part'_inb r)
/-- Every fourth row from the `r`-th. -/
abbrev every (r : Fin 4) : Rect S2048x128 := ⟨⟨![r.val, 0], S512x128.size, ![4, 1], every_inb r⟩, spos_4_1⟩
/-- The same below 128 further rows. -/
abbrev every' (r : Fin 4) : Rect S2176x128 := ⟨⟨![128 + r.val, 0], S512x128.size, ![4, 1], every'_inb r⟩, spos_4_1⟩
/-- The 128 rows on top. -/
abbrev top : Rect S2176x128 := Rect.unit ![0, 0] S128x128.size inb_S2176x128_S128x128_0_0
/-- All rows below them. -/
abbrev below : Rect S2176x128 := Rect.unit ![128, 0] S2048x128.size inb_S2176x128_S2048x128_128_0

/-- The four residues, last first. -/
abbrev four : List (Fin 4) := [3, 2, 1, 0]
theorem mem_four : ∀ r : Fin 4, r ∈ four := by decide

variable {sg : RefSig} {κ : Kind} {sp : Space} (f : ∀ e, Nonempty (Val e))

/-- Four quarters stored one by one. -/
theorem read_parts (v : View sg κ sp S2048x128 e) (f : v.ty.Contents Val) (P : Fin 4 → S512x128.Idx → Val e) (G : S2048x128.Idx → Val e)
    (h : ∀ (r : Fin 4) (x : S512x128.Idx), P r x = G ((part r).emb x)) :
    v.read Val (v.writes Val f (four.map fun r => ⟨part r, P r⟩)) = G := by
  funext y
  refine View.read_writes_apply_of_pieces v f G _ (fun p hp => ?_) y ?_
  · obtain ⟨r, -, rfl⟩ := List.mem_map.mp hp
    exact h r
  · have h0 : (y 0).val < 2048 := (y 0).isLt
    have h1 : (y 1).val < 128 := (y 1).isLt
    refine ⟨_, List.mem_map_of_mem (mem_four ⟨(y 0).val / 512, by omega⟩), ?_⟩
    rw [Rect.mem_set_unit]
    intro a
    match a with
    | ⟨0, _⟩ => exact ⟨by show 512 * ((y 0).val / 512) ≤ (y 0).val; omega, by show (y 0).val < 512 * ((y 0).val / 512) + 512; omega⟩
    | ⟨1, _⟩ => exact ⟨by show 0 ≤ (y 1).val; omega, by show (y 1).val < 0 + 128; omega⟩

/-- Four residues stored one by one. -/
theorem read_every (v : View sg κ sp S2048x128 e) (f : v.ty.Contents Val) (P : Fin 4 → S512x128.Idx → Val e) (G : S2048x128.Idx → Val e)
    (h : ∀ (r : Fin 4) (x : S512x128.Idx), P r x = G ((every r).emb x)) :
    v.read Val (v.writes Val f (four.map fun r => ⟨every r, P r⟩)) = G := by
  funext y
  refine View.read_writes_apply_of_pieces v f G _ (fun p hp => ?_) y ?_
  · obtain ⟨r, -, rfl⟩ := List.mem_map.mp hp
    exact h r
  · have h0 : (y 0).val < 2048 := (y 0).isLt
    have h1 : (y 1).val < 128 := (y 1).isLt
    refine ⟨_, List.mem_map_of_mem (mem_four ⟨(y 0).val % 4, by omega⟩), ?_⟩
    rw [LoadRect.mem_set]
    intro a
    match a with
    | ⟨0, _⟩ => exact ⟨(y 0).val / 4, by show _ < 512; omega, by show (y 0).val = (y 0).val % 4 + 4 * ((y 0).val / 4); omega⟩
    | ⟨1, _⟩ => exact ⟨(y 1).val, by show _ < 128; omega, by show (y 1).val = 0 + 1 * (y 1).val; omega⟩

/-- The 128 rows on top and the 2048 below stored one by one. -/
theorem read_shifted {F : FTy → Type} (v : View sg κ sp S2176x128 .f32) (f : v.ty.Contents (Elt F)) (z : S128x128.Idx → F .f32) (w : S2048x128.Idx → F .f32) :
    v.read (Elt F) (v.writes (Elt F) f [⟨below, w⟩, ⟨top, z⟩]) = shifted z w := by
  funext y
  have h0 : (y 0).val < 2176 := (y 0).isLt
  have h1 : (y 1).val < 128 := (y 1).isLt
  refine View.read_writes_apply_of_pieces v f (shifted z w) _ (fun p hp => ?_) y ?_
  · rcases List.mem_cons.mp hp with rfl | hp
    · intro (x : S2048x128.Idx)
      have e0 : (below.emb x 0).val = 128 + 1 * (x 0).val := rfl
      have e1 : (below.emb x 1).val = 0 + 1 * (x 1).val := rfl
      change w x = shifted z w (below.emb x)
      unfold shifted
      rw [dif_neg (by omega)]
      refine congrArg w (funext fun t => Fin.ext ?_)
      match t with
      | ⟨0, _⟩ => show (x 0).val = (below.emb x 0).val - 128; omega
      | ⟨1, _⟩ => show (x 1).val = (below.emb x 1).val; omega
    · obtain rfl := List.mem_singleton.mp hp
      intro (x : S128x128.Idx)
      have x0 : (x 0).val < 128 := (x 0).isLt
      have e0 : (top.emb x 0).val = 0 + 1 * (x 0).val := rfl
      have e1 : (top.emb x 1).val = 0 + 1 * (x 1).val := rfl
      change z x = shifted z w (top.emb x)
      unfold shifted
      rw [dif_pos (by omega)]
      refine congrArg z (funext fun t => Fin.ext ?_)
      match t with
      | ⟨0, _⟩ => show (x 0).val = (top.emb x 0).val; omega
      | ⟨1, _⟩ => show (x 1).val = (top.emb x 1).val; omega
  · by_cases h : (y 0).val < 128
    · refine ⟨_, List.mem_cons_of_mem _ (List.mem_singleton_self _), ?_⟩
      rw [Rect.mem_set_unit]
      intro a
      match a with
      | ⟨0, _⟩ => exact ⟨by show 0 ≤ (y 0).val; omega, by show (y 0).val < 0 + 128; omega⟩
      | ⟨1, _⟩ => exact ⟨by show 0 ≤ (y 1).val; omega, by show (y 1).val < 0 + 128; omega⟩
    · refine ⟨_, List.mem_cons_self, ?_⟩
      rw [Rect.mem_set_unit]
      intro a
      match a with
      | ⟨0, _⟩ => exact ⟨by show 128 ≤ (y 0).val; omega, by show (y 0).val < 128 + 2048; omega⟩
      | ⟨1, _⟩ => exact ⟨by show 0 ≤ (y 1).val; omega, by show (y 1).val < 0 + 128; omega⟩

/-- The 128 rows on top and the four quarters below stored one by one. -/
theorem read_shifted_parts {F : FTy → Type} (v : View sg κ sp S2176x128 .f32) (f : v.ty.Contents (Elt F)) (z : S128x128.Idx → F .f32) (P : Fin 4 → S512x128.Idx → F .f32)
    (w : S2048x128.Idx → F .f32) (h : ∀ (r : Fin 4) (x : S512x128.Idx), P r x = w ((part r).emb x)) :
    v.read (Elt F) (v.writes (Elt F) f ((four.map fun r => ⟨part' r, P r⟩) ++ [⟨top, z⟩])) = shifted z w := by
  funext y
  have h0 : (y 0).val < 2176 := (y 0).isLt
  have h1 : (y 1).val < 128 := (y 1).isLt
  refine View.read_writes_apply_of_pieces v f (shifted z w) _ (fun p hp => ?_) y ?_
  · rcases List.mem_append.mp hp with hp | hp
    · obtain ⟨r, -, rfl⟩ := List.mem_map.mp hp
      intro (x : S512x128.Idx)
      have e0 : ((part' r).emb x 0).val = 128 + 512 * r.val + 1 * (x 0).val := rfl
      have e1 : ((part' r).emb x 1).val = 0 + 1 * (x 1).val := rfl
      change P r x = shifted z w ((part' r).emb x)
      unfold shifted
      rw [dif_neg (by omega), h]
      refine congrArg w (funext fun t => Fin.ext ?_)
      match t with
      | ⟨0, _⟩ => show 512 * r.val + 1 * (x 0).val = ((part' r).emb x 0).val - 128; omega
      | ⟨1, _⟩ => show 0 + 1 * (x 1).val = ((part' r).emb x 1).val; omega
    · obtain rfl := List.mem_singleton.mp hp
      intro (x : S128x128.Idx)
      have x0 : (x 0).val < 128 := (x 0).isLt
      have e0 : (top.emb x 0).val = 0 + 1 * (x 0).val := rfl
      have e1 : (top.emb x 1).val = 0 + 1 * (x 1).val := rfl
      change z x = shifted z w (top.emb x)
      unfold shifted
      rw [dif_pos (by omega)]
      refine congrArg z (funext fun t => Fin.ext ?_)
      match t with
      | ⟨0, _⟩ => show (x 0).val = (top.emb x 0).val; omega
      | ⟨1, _⟩ => show (x 1).val = (top.emb x 1).val; omega
  · by_cases h : (y 0).val < 128
    · refine ⟨_, List.mem_append_right _ (List.mem_singleton_self _), ?_⟩
      rw [Rect.mem_set_unit]
      intro a
      match a with
      | ⟨0, _⟩ => exact ⟨by show 0 ≤ (y 0).val; omega, by show (y 0).val < 0 + 128; omega⟩
      | ⟨1, _⟩ => exact ⟨by show 0 ≤ (y 1).val; omega, by show (y 1).val < 0 + 128; omega⟩
    · refine ⟨_, List.mem_append_left _ (List.mem_map_of_mem (mem_four ⟨((y 0).val - 128) / 512, by omega⟩)), ?_⟩
      rw [Rect.mem_set_unit]
      intro a
      match a with
      | ⟨0, _⟩ => exact ⟨by show 128 + 512 * (((y 0).val - 128) / 512) ≤ (y 0).val; omega, by show (y 0).val < 128 + 512 * (((y 0).val - 128) / 512) + 512; omega⟩
      | ⟨1, _⟩ => exact ⟨by show 0 ≤ (y 1).val; omega, by show (y 1).val < 0 + 128; omega⟩

/-- A covered load of a buffer whose writes leave `G`. -/
theorem readCov_of_read [∀ e, Nonempty (Val e)] {s : Shape} (v : View sg κ sp s e) (L : List (View.Piece Val s e)) (G : s.Idx → Val e)
    (h : v.read Val (v.writes Val v.junk L) = G) (B : LoadRect s) : v.readCov L B = fun j => G (B.idx j) :=
  funext fun j => congrFun h (B.idx j)

end Rows

/-- Every fourth row of the copy is a quarter of the gathered copy. -/
theorem byStream_part (w : S2048x128.Idx → F .f32) (r : Fin 4) (x : S512x128.Idx) : w ((every r).emb x) = byStream w ((part r).emb x) := by
  have x0 : (x 0).val < 512 := (x 0).isLt
  have e0 : ((part r).emb x 0).val = 512 * r.val + 1 * (x 0).val := rfl
  have e1 : ((part r).emb x 1).val = 0 + 1 * (x 1).val := rfl
  unfold byStream
  refine congrArg w (funext fun t => Fin.ext ?_)
  match t with
  | ⟨0, _⟩ => show r.val + 4 * (x 0).val = 4 * (((part r).emb x 0).val % 512) + ((part r).emb x 0).val / 512; omega
  | ⟨1, _⟩ => show 0 + 1 * (x 1).val = ((part r).emb x 1).val; omega

/-- The same read below 128 further rows. -/
theorem shifted_every (z : S128x128.Idx → F .f32) (w : S2048x128.Idx → F .f32) (r : Fin 4) (x : S512x128.Idx) :
    shifted z w ((every' r).toLoadRect.idx x) = byStream w ((part r).emb x) := by
  rw [← byStream_part]
  have e0 : ((every' r).toLoadRect.idx x 0).val = 128 + r.val + 4 * (x 0).val := rfl
  have e1 : ((every' r).toLoadRect.idx x 1).val = 0 + 1 * (x 1).val := rfl
  unfold shifted
  rw [dif_neg (by omega)]
  refine congrArg w (funext fun t => Fin.ext ?_)
  match t with
  | ⟨0, _⟩ => show ((every' r).toLoadRect.idx x 0).val - 128 = r.val + 4 * (x 0).val; omega
  | ⟨1, _⟩ => show ((every' r).toLoadRect.idx x 1).val = 0 + 1 * (x 1).val; omega

section
variable (c : Dev nD)
    (M2 : Memref sig .tc .vmem S1x2048x128 .bf16) (M3 : Memref sig .tc .vmem S1x2048x128 .bf16) (M4 : Memref sig .tc .vmem S1x2048x128 .bf16)
    (M6 : Memref sig .tc .vmem S2048x128 .f32) (M7 : Memref sig .tc .vmem S2176x128 .f32) (M8 : Memref sig .tc .vmem S2176x128 .f32)
    (M9 : Memref sig .tc .vmem S2048x128 .f32) (M10 : Memref sig .tc .vmem S2176x128 .f32) (M11 : Memref sig .tc .vmem S2176x128 .f32)
    (f2 : Bf (F := F) c M2) (f3 : Bf (F := F) c M3) (f4 : Bf (F := F) c M4)

theorem load_q (B : LoadRect S2048x128) :
    M6.view.readCov (kernelRun.sl.H6_1 c M2 f2) B = fun j => k0_pay3 (M2.view.read (Elt F) f2) (B.idx j) := by
  refine readCov_of_read _ _ _ ?_ B
  refine (View.read_writes_full M6.view _ _ _ []).trans ?_
  exact congrArg k0_pay3 (View.readAt_full M2.view f2 _)

theorem load_k (B : LoadRect S2176x128) :
    M7.view.readCov (kernelRun.sl.H7_2 c M3 f3) B = fun j => shifted k0_pay4 (k0_pay8 (M3.view.read (Elt F) f3)) (B.idx j) := by
  refine readCov_of_read _ _ _ ?_ B
  refine (read_shifted M7.view _ _ _).trans ?_
  exact congrArg (fun x => shifted k0_pay4 (k0_pay8 x)) (View.readAt_full M3.view f3 _)

theorem load_v (B : LoadRect S2176x128) :
    M8.view.readCov (kernelRun.sl.H8_2 c M4 f4) B = fun j => shifted k0_pay5 (vRows (M4.view.read (Elt F) f4)) (B.idx j) := by
  refine readCov_of_read _ _ _ ?_ B
  refine (read_shifted M8.view _ _ _).trans ?_
  exact congrArg (fun x => shifted k0_pay5 (vRows x)) (View.readAt_full M4.view f4 _)

theorem q4_list : kernelRun.sl.H9_4 c M2 M6 f2 = four.map fun r => ⟨part r,
    shapeCast S512x128 (M6.view.readCov (kernelRun.sl.H6_1 c M2 f2) (every r).toLoadRect) shapeCasts_S512x128_S512x128⟩ := by
  rfl

theorem k4_list : kernelRun.sl.H10_5 c M3 M7 f3 = (four.map fun r => ⟨part' r,
    shapeCast S512x128 (M7.view.readCov (kernelRun.sl.H7_2 c M3 f3) (every' r).toLoadRect) shapeCasts_S512x128_S512x128⟩) ++ [⟨top, k0_pay6⟩] := by
  rfl

theorem v4_list : kernelRun.sl.H11_5 c M4 M8 f4 = (four.map fun r => ⟨part' r,
    shapeCast S512x128 (M8.view.readCov (kernelRun.sl.H8_2 c M4 f4) (every' r).toLoadRect) shapeCasts_S512x128_S512x128⟩) ++ [⟨top, k0_pay7⟩] := by
  rfl

theorem load_q4 (B : LoadRect S2048x128) :
    M9.view.readCov (kernelRun.sl.H9_4 c M2 M6 f2) B = fun j => byStream (k0_pay3 (M2.view.read (Elt F) f2)) (B.idx j) := by
  refine readCov_of_read _ _ _ ?_ B
  rw [q4_list]
  refine read_parts M9.view _ _ _ fun r x => ?_
  rw [Idealize.ShloMosaic.shapeCast_self, load_q]
  exact byStream_part _ r x

theorem load_k4 (B : LoadRect S2176x128) :
    M10.view.readCov (kernelRun.sl.H10_5 c M3 M7 f3) B = fun j => shifted k0_pay6 (byStream (k0_pay8 (M3.view.read (Elt F) f3))) (B.idx j) := by
  refine readCov_of_read _ _ _ ?_ B
  rw [k4_list]
  refine read_shifted_parts M10.view _ _ _ _ fun r x => ?_
  rw [Idealize.ShloMosaic.shapeCast_self, load_k]
  exact shifted_every _ _ r x

theorem load_v4 (B : LoadRect S2176x128) :
    M11.view.readCov (kernelRun.sl.H11_5 c M4 M8 f4) B = fun j => shifted k0_pay7 (byStream (vRows (M4.view.read (Elt F) f4))) (B.idx j) := by
  refine readCov_of_read _ _ _ ?_ B
  rw [v4_list]
  refine read_shifted_parts M11.view _ _ _ _ fun r x => ?_
  rw [Idealize.ShloMosaic.shapeCast_self, load_v]
  exact shifted_every _ _ r x

end

/-! ## The three dilations' buffers -/

/-- The normalised outputs of the three dilations, tile by tile. -/
def outs (q k v : Vec F S1x2048x128 .bf16) : S3x2048x128.Idx → Elt F .f32 :=
  stored (Val := Elt F) (e := .f32)
    (fun n => wideOut (BitVec.ofNat 32 n.val) (fun j => k0_pay3 q ((rows128 n).idx j))
      (fun j => shifted k0_pay4 (k0_pay8 k) ((rows256 n).idx j)) (fun j => shifted k0_pay5 (vRows v) ((rows256 n).idx j)))
    (fun n => wideOut (BitVec.ofNat 32 (n.val % 4)) (fun j => byStream (k0_pay3 q) ((rows128 n).idx j))
      (fun j => shifted k0_pay6 (byStream (k0_pay8 k)) ((rows256 n).idx j)) (fun j => shifted k0_pay7 (byStream (vRows v)) ((rows256 n).idx j)))
    (fun n => narrowOut (fun j => byStream (k0_pay3 q) ((spreadQ n).idx j))
      (fun j => shifted k0_pay6 (byStream (k0_pay8 k)) ((spreadK n).idx j)) (fun j => shifted k0_pay7 (byStream (vRows v)) ((spreadK n).idx j)))

/-- Their log-denominators. -/
def lses (q k v : Vec F S1x2048x128 .bf16) : S3x2048x128.Idx → Elt F .f32 :=
  stored (Val := Elt F) (e := .f32)
    (fun n => wideLse (BitVec.ofNat 32 n.val) (fun j => k0_pay3 q ((rows128 n).idx j))
      (fun j => shifted k0_pay4 (k0_pay8 k) ((rows256 n).idx j)) (fun j => shifted k0_pay5 (vRows v) ((rows256 n).idx j)))
    (fun n => wideLse (BitVec.ofNat 32 (n.val % 4)) (fun j => byStream (k0_pay3 q) ((rows128 n).idx j))
      (fun j => shifted k0_pay6 (byStream (k0_pay8 k)) ((rows256 n).idx j)) (fun j => shifted k0_pay7 (byStream (vRows v)) ((rows256 n).idx j)))
    (fun n => narrowLse (fun j => byStream (k0_pay3 q) ((spreadQ n).idx j))
      (fun j => shifted k0_pay6 (byStream (k0_pay8 k)) ((spreadK n).idx j)) (fun j => shifted k0_pay7 (byStream (vRows v)) ((spreadK n).idx j)))

theorem tok_inb : ∀ (r : Fin 4) (a : Fin 3), S1x512x128.size a = 0 ∨ (![0, r.val, 0] : Fin 3 → ℕ) a + (![1, 4, 1] : Fin 3 → ℕ) a * (S1x512x128.size a - 1) < S3x2048x128.size a := by decide +kernel
theorem strm_inb : ∀ (g : Fin 3) (r : Fin 4) (a : Fin 3), (![g.val, 512 * r.val, 0] : Fin 3 → ℕ) a + S1x512x128.size a ≤ S3x2048x128.size a := by decide +kernel

/-- The tokens of residue `r` in the first plane. -/
abbrev tok (r : Fin 4) : LoadRect S3x2048x128 := ⟨![0, r.val, 0], S1x512x128.size, ![1, 4, 1], tok_inb r⟩
/-- The tokens of residue `r` in plane `g`, gathered. -/
abbrev strm (g : Fin 3) (r : Fin 4) : LoadRect S3x2048x128 := (Rect.unit (s := S3x2048x128) ![g.val, 512 * r.val, 0] S1x512x128.size (strm_inb g r)).toLoadRect

/-- The joined outputs of the tokens of residue `r`. -/
def joinedAt (q k v : Vec F S1x2048x128 .bf16) (r : Fin 4) : FVec F S512x128 .f32 :=
  joined (fun j => lses q k v ((tok r).idx j)) (fun j => lses q k v ((strm 1 r).idx j)) (fun j => lses q k v ((strm 2 r).idx j))
    (fun j => outs q k v ((tok r).idx j)) (fun j => outs q k v ((strm 1 r).idx j)) (fun j => outs q k v ((strm 2 r).idx j))

/-- The joined outputs, token by token. -/
def joinedRows (q k v : Vec F S1x2048x128 .bf16) : S2048x128.Idx → Elt F .f32 := fun y =>
  have h0 : (y 0).val < 2048 := (y 0).isLt
  joinedAt q k v ⟨(y 0).val % 4, by omega⟩ (ix2 (⟨(y 0).val / 4, by omega⟩ : Fin 512) (y 1))

/-- What the step leaves in the result's window. -/
def left (q k v : Vec F S1x2048x128 .bf16) : Vec F S1x2048x128 .bf16 := k0_pay1 (joinedRows q k v)

section
variable (c : Dev nD)
    (M2 : Memref sig .tc .vmem S1x2048x128 .bf16) (M3 : Memref sig .tc .vmem S1x2048x128 .bf16) (M4 : Memref sig .tc .vmem S1x2048x128 .bf16)
    (M6 : Memref sig .tc .vmem S2048x128 .f32) (M7 : Memref sig .tc .vmem S2176x128 .f32) (M8 : Memref sig .tc .vmem S2176x128 .f32)
    (M9 : Memref sig .tc .vmem S2048x128 .f32) (M10 : Memref sig .tc .vmem S2176x128 .f32) (M11 : Memref sig .tc .vmem S2176x128 .f32)
    (M12 : Memref sig .tc .vmem S3x2048x128 .f32) (M13 : Memref sig .tc .vmem S3x2048x128 .f32) (M14 : Memref sig .tc .vmem S2048x128 .f32)
    (f2 : Bf (F := F) c M2) (f3 : Bf (F := F) c M3) (f4 : Bf (F := F) c M4) (f12 : Bf (F := F) c M12) (f13 : Bf (F := F) c M13) (f14 : Bf (F := F) c M14)

theorem load_outs (f : M12.view.ty.Contents (Elt F)) (B : LoadRect S3x2048x128) :
    M12.view.readAt (Elt F) B (M12.view.writes (Elt F) f (kernelRun.sl.H12_48 c M2 M3 M4 M6 M7 M8 M9 M10 M11 f2 f3 f4))
      = fun j => outs (M2.view.read (Elt F) f2) (M3.view.read (Elt F) f3) (M4.view.read (Elt F) f4) (B.idx j) := by
  rw [far_out, mid_out, near_out]
  simp only [load_q, load_k, load_v, load_q4, load_k4, load_v4]
  exact load_stores _ _ _ _ _ _

theorem load_lses (f : M13.view.ty.Contents (Elt F)) (B : LoadRect S3x2048x128) :
    M13.view.readAt (Elt F) B (M13.view.writes (Elt F) f (kernelRun.sl.H13_48 c M2 M3 M4 M6 M7 M8 M9 M10 M11 f2 f3 f4))
      = fun j => lses (M2.view.read (Elt F) f2) (M3.view.read (Elt F) f3) (M4.view.read (Elt F) f4) (B.idx j) := by
  rw [far_lse, mid_lse, near_lse]
  simp only [load_q, load_k, load_v, load_q4, load_k4, load_v4]
  exact load_stores _ _ _ _ _ _

theorem joined_list : kernelRun.sl.H14_4 c M2 M3 M4 M6 M7 M8 M9 M10 M11 M12 M13 f2 f3 f4 f12 f13 = four.map fun r => ⟨every r, joined
    (M13.view.readAt (Elt F) (tok r) (M13.view.writes (Elt F) M13.view.junk (kernelRun.sl.H13_48 c M2 M3 M4 M6 M7 M8 M9 M10 M11 f2 f3 f4)))
    (M13.view.readAt (Elt F) (strm 1 r) (M13.view.writes (Elt F) M13.view.junk (kernelRun.sl.H13_48 c M2 M3 M4 M6 M7 M8 M9 M10 M11 f2 f3 f4)))
    (M13.view.readAt (Elt F) (strm 2 r) (M13.view.writes (Elt F) f13 (kernelRun.sl.H13_48 c M2 M3 M4 M6 M7 M8 M9 M10 M11 f2 f3 f4)))
    (M12.view.readAt (Elt F) (tok r) (M12.view.writes (Elt F) M12.view.junk (kernelRun.sl.H12_48 c M2 M3 M4 M6 M7 M8 M9 M10 M11 f2 f3 f4)))
    (M12.view.readAt (Elt F) (strm 1 r) (M12.view.writes (Elt F) M12.view.junk (kernelRun.sl.H12_48 c M2 M3 M4 M6 M7 M8 M9 M10 M11 f2 f3 f4)))
    (M12.view.readAt (Elt F) (strm 2 r) (M12.view.writes (Elt F) f12 (kernelRun.sl.H12_48 c M2 M3 M4 M6 M7 M8 M9 M10 M11 f2 f3 f4)))⟩ := by
  rfl

theorem read_joined (f : M14.view.ty.Contents (Elt F)) :
    M14.view.read (Elt F) (M14.view.writes (Elt F) f (kernelRun.sl.H14_4 c M2 M3 M4 M6 M7 M8 M9 M10 M11 M12 M13 f2 f3 f4 f12 f13))
      = joinedRows (M2.view.read (Elt F) f2) (M3.view.read (Elt F) f3) (M4.view.read (Elt F) f4) := by
  rw [joined_list]
  simp only [load_outs, load_lses]
  refine read_every M14.view _ _ _ fun r x => ?_
  have x0 : (x 0).val < 512 := (x 0).isLt
  have e0 : ((every r).emb x 0).val = r.val + 4 * (x 0).val := rfl
  have e1 : ((every r).emb x 1).val = 0 + 1 * (x 1).val := rfl
  show joinedAt _ _ _ r x = joinedAt _ _ _ ⟨((every r).emb x 0).val % 4, _⟩ (ix2 (⟨((every r).emb x 0).val / 4, _⟩ : Fin 512) ((every r).emb x 1))
  refine congr (congrArg (joinedAt _ _ _) (Fin.ext ?_)) (funext fun t => Fin.ext ?_)
  · show r.val = ((every r).emb x 0).val % 4; omega
  · match t with
    | ⟨0, _⟩ => show (x 0).val = ((every r).emb x 0).val / 4; omega
    | ⟨1, _⟩ => show (x 1).val = ((every r).emb x 1).val; omega

/-- The window after the step reads `left` of the three blocks, whatever the scratch buffers held. -/
theorem read_left (M5 : Memref sig .tc .vmem S1x2048x128 .bf16) (f : M5.view.ty.Contents (Elt F)) :
    M5.view.read (Elt F) (M5.view.writes (Elt F) f (kernelRun.sl.H5_1 c M2 M3 M4 M6 M7 M8 M9 M10 M11 M12 M13 M14 f2 f3 f4 f12 f13 f14))
      = left (M2.view.read (Elt F) f2) (M3.view.read (Elt F) f3) (M4.view.read (Elt F) f4) := by
  refine (View.read_writes_full M5.view _ _ _ []).trans ?_
  refine congrArg k0_pay1 ((View.readAt_full M14.view _ _).trans ?_)
  exact read_joined c M2 M3 M4 M6 M7 M8 M9 M10 M11 M12 M13 M14 f2 f3 f4 f12 f13 f14

end

end Cert.Proof.KernelIdeal

end
-- ==== Proof.Ideal.Run.lean ====
/-
  The launch of the dilated attention: the pipeline's proof data, the body's obligation at a grid point, and the run
  of the whole module.
-/
module

public import proofs.«01_k».proof.Proof.Ideal.Left
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- What the step at point `t` leaves in the result's window. -/
def leftAt (c : Dev nD) (t : Fin cfg0.N) : Vec F S1x2048x128 .bf16 :=
  left (Gen.iblk m c 0 t) (Gen.iblk m c 1 t) (Gen.iblk m c 2 t)

/-- The proof data on core `c`: the arrays as launched, the input windows kept, the result's window at `leftAt`. -/
def dats (_ : Fin 1) (c : Dev nD) : Dat τ (Elt F) Unit ℕ (UR nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => leftAt m c t
  Φ _ := Pipeline.ΦA spec0 c
  q w := Pipeline.shareOf spec0 w
  owed _ := 0

/-- The body's row of the table at a point. -/
theorem defs₀_row (t : Fin cfg0.N) : defs₀ (F := F) .tc cfg0.body (cfg0.bodyArgs t (cfg0.slots t)) = Gen.bodyAt0 t := by
  unfold defs₀; rw [Defs.onTc_tc]

/-- A whole staging buffer owned at `X`. -/
theorem owns_pt (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ pt c M f) := by
  unfold owns; rw [h.set_eq_univ]

/-- The body run at point `t` from the blocks in the staging buffers. -/
abbrev runAt (c : Dev nD) (t : Fin cfg0.N) :=
  kernelRun (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _)

/-- What the run leaves in the result's window. -/
theorem read_run (c : Dev nD) (i : grid0.Coords)
    (M2 : Memref sig .tc .vmem S1x2048x128 .bf16) (h2 : M2.IsWhole) (M3 : Memref sig .tc .vmem S1x2048x128 .bf16) (h3 : M3.IsWhole)
    (M4 : Memref sig .tc .vmem S1x2048x128 .bf16) (h4 : M4.IsWhole) (M5 : Memref sig .tc .vmem S1x2048x128 .bf16) (h5 : M5.IsWhole)
    (M6 : Memref sig .tc .vmem S2048x128 .f32) (h6 : M6.IsWhole) (M7 : Memref sig .tc .vmem S2176x128 .f32) (h7 : M7.IsWhole)
    (M8 : Memref sig .tc .vmem S2176x128 .f32) (h8 : M8.IsWhole) (M9 : Memref sig .tc .vmem S2048x128 .f32) (h9 : M9.IsWhole)
    (M10 : Memref sig .tc .vmem S2176x128 .f32) (h10 : M10.IsWhole) (M11 : Memref sig .tc .vmem S2176x128 .f32) (h11 : M11.IsWhole)
    (M12 : Memref sig .tc .vmem S3x2048x128 .f32) (h12 : M12.IsWhole) (M13 : Memref sig .tc .vmem S3x2048x128 .f32) (h13 : M13.IsWhole)
    (M14 : Memref sig .tc .vmem S2048x128 .f32) (h14 : M14.IsWhole)
    (f2 : Bf (F := F) c M2) (f3 : Bf (F := F) c M3) (f4 : Bf (F := F) c M4) (f12 : Bf (F := F) c M12) (f13 : Bf (F := F) c M13) (f14 : Bf (F := F) c M14) :
    M5.view.read (Elt F) ((kernelRun c i M2 h2 M3 h3 M4 h4 M5 h5 M6 h6 M7 h7 M8 h8 M9 h9 M10 h10 M11 h11 M12 h12 M13 h13 M14 h14 f2 f3 f4).1 f12 f13 f14)
      = left (M2.view.read (Elt F) f2) (M3.view.read (Elt F) f3) (M4.view.read (Elt F) f4) := by
  unfold kernelRun
  dsimp only
  exact read_left c M2 M3 M4 M6 M7 M8 M9 M10 M11 M12 M13 M14 f2 f3 f4 f12 f13 f14 M5 _

/-- The same at a point, from the blocks. -/
theorem read_runAt (c : Dev nD) (t : Fin cfg0.N) (f2 : Bf (F := F) c (win0_0.stage (cfg0.slots t 0))) (f3 : Bf (F := F) c (win0_1.stage (cfg0.slots t 1)))
    (f4 : Bf (F := F) c (win0_2.stage (cfg0.slots t 2)))
    (hf2 : (win0_0.stage (cfg0.slots t 0)).view.read (Elt F) f2 = Gen.iblk m c 0 t)
    (hf3 : (win0_1.stage (cfg0.slots t 1)).view.read (Elt F) f3 = Gen.iblk m c 1 t)
    (hf4 : (win0_2.stage (cfg0.slots t 2)).view.read (Elt F) f4 = Gen.iblk m c 2 t)
    (f12 : Bf (F := F) c (Memref.whole cc0_scratch6)) (f13 : Bf (F := F) c (Memref.whole cc0_scratch7)) (f14 : Bf (F := F) c (Memref.whole cc0_scratch8)) :
    (win0_3.stage (cfg0.slots t 3)).view.read (Elt F) ((runAt c t f2 f3 f4).1 f12 f13 f14) = leftAt m c t := by
  refine (read_run c _ _ _ _ _ _ _ _ _ _ _ _ _ _ _ _ _ _ _ _ _ _ _ _ _ _ _ f2 f3 f4 f12 f13 f14).trans ?_
  rw [hf2, hf3, hf4]
  rfl

set_option maxHeartbeats 2000000 in
/-- The body's obligation: the four staging buffers and the nine scratch buffers taken apart, the run applied, its
    end reassembled. -/
theorem body_obligation (c : Dev nD) : BodyObligation (dats m 0 c) (defs₀ (F := F)) Variants.none () Set.univ := fun t => by
  rw [Gen.bigSep_W0, Gen.bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, defs₀_row]
  unfold Pipeline.ΦA
  rw [Gen.scopedRest0_eq]
  have o0 := fun X => owns_pt (F := F) c (win0_0.stage (cfg0.slots t 0)) (hstage0_0 ((cfg0.slots t 0).cast nbuf0_0)) X
  have o1 := fun X => owns_pt (F := F) c (win0_1.stage (cfg0.slots t 1)) (hstage0_1 ((cfg0.slots t 1).cast nbuf0_1)) X
  have o2 := fun X => owns_pt (F := F) c (win0_2.stage (cfg0.slots t 2)) (hstage0_2 ((cfg0.slots t 2).cast nbuf0_2)) X
  have o3 := fun X => owns_pt (F := F) c (win0_3.stage (cfg0.slots t 3)) (hstage0_3 ((cfg0.slots t 3).cast nbuf0_3)) X
  have b0 := fun d => Gen.before0_0_of m (dats m 0 c) rfl (fun _ => rfl) t d
  have b1 := fun d => Gen.before0_1_of m (dats m 0 c) rfl (fun _ => rfl) t d
  have b2 := fun d => Gen.before0_2_of m (dats m 0 c) rfl (fun _ => rfl) t d
  simp only [b0, b1, b2]
  change _ ⊢ wp _ _ _ _ fun _ => iprop(_ ∗ _ ∗ owns (c : Thread nD τ) (win0_0.stage (cfg0.slots t 0)) fullShare (Gen.iblk m c 0 t)
    ∗ owns (c : Thread nD τ) (win0_1.stage (cfg0.slots t 1)) fullShare (Gen.iblk m c 1 t)
    ∗ owns (c : Thread nD τ) (win0_2.stage (cfg0.slots t 2)) fullShare (Gen.iblk m c 2 t)
    ∗ owns (c : Thread nD τ) (win0_3.stage (cfg0.slots t 3)) fullShare (leftAt m c t))
  change iprop(_ ∗ _ ∗ (∃ d : Vec F S1x2048x128 .bf16, owns (c : Thread nD τ) (win0_0.stage (cfg0.slots t 0)) fullShare (Gen.iblk m c 0 t))
    ∗ (∃ d : Vec F S1x2048x128 .bf16, owns (c : Thread nD τ) (win0_1.stage (cfg0.slots t 1)) fullShare (Gen.iblk m c 1 t))
    ∗ (∃ d : Vec F S1x2048x128 .bf16, owns (c : Thread nD τ) (win0_2.stage (cfg0.slots t 2)) fullShare (Gen.iblk m c 2 t))
    ∗ (∃ d : Vec F S1x2048x128 .bf16, owns (c : Thread nD τ) (win0_3.stage (cfg0.slots t 3)) fullShare ((dats m 0 c).before 3 t d))) ⊢ _
  rw [o0, o1, o2, o3]
  simp only [o3]
  iintro ⟨⟨⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩, Hg⟩, Howes,
    ⟨%d2, %f2, %hf2, H2⟩, ⟨%d3, %f3, %hf3, H3⟩, ⟨%d4, %f4, %hf4, H4⟩, ⟨%d5, %f5, -, H5⟩⟩
  iapply ((runAt c t f2 f3 f4).2 f5 f6 f7 f8 f9 f10 f11 f12 f13 f14 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H2, H3, H4, H5, H6, H7, H8, H9, H10, H11, H12, H13, H14⟩
  isplitl [H6 H7 H8 H9 H10 H11 H12 H13 H14 Hg]
  · isplitr [Hg]
    · isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iexact Hg
  isplitl [Howes]; · iexact Howes
  isplitl [H2]; · iexists f2; isplitr; · ipureintro; exact hf2
                  iexact H2
  isplitl [H3]; · iexists f3; isplitr; · ipureintro; exact hf3
                  iexact H3
  isplitl [H4]; · iexists f4; isplitr; · ipureintro; exact hf4
                  iexact H4
  iexists ((runAt c t f2 f3 f4).1 f12 f13 f14)
  isplitr
  · ipureintro
    exact read_runAt m c t f2 f3 f4 hf2 hf3 hf4 f12 f13 f14
  iexact H5

set_option backward.isDefEq.respectTransparency.types false in
/-- The whole module's run: every array at the pipeline's computed contents, every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame_shared cfgs (dats m) (0 : Fin 1) Gen.launch₀0 defs₀ Variants.none m ρ main
    (fun c => (body_obligation m c).loose) (fun _ _ _ => rfl) (fun _ _ => rfl) (Gen.V m) (Gen.hmain m Variants.none)
    (fun _ _ => rfl) (fun _ _ => rfl) (Q' := _) (hQ' := fun _ h => h)

/-- The argument is left as launched and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => ((h.1 c).1 2).trans (((dats m 0 c).arrAt_in 2 rfl _).trans (Gen.V_main_arg0 m c)), h.2⟩) (run_main m ρ)

end Cert.Proof.KernelIdeal

end
-- ==== Proof.Value.Ref.lean ====
/- The reference's operations under names: the heads of the queries, keys and values, the mask of the three
   windows, the masked scores, their maxima, weights, denominators, outputs, logs, and the mixing. -/
module

public import proofs.«01_k».proof.Proof.Gen.ReferenceIdeal.Run
public import Idealize.ShloMosaic.Lib.Pointwise

@[expose] public section

set_option maxRecDepth 16384

noncomputable section

namespace Cert.Proof.Ref

open Idealize.ShloMosaic Cert.ReferenceIdeal Facts₀ Facts

variable {F : FTy → Type} [FloatOps F]

/-- The argument: queries, keys and values side by side. -/
abbrev Arg (F : FTy → Type) := FVec F S16x2048x3072 .bf16

/-- The queries, head by head. -/
def qh (x : Arg F) : FVec F S16x8x2048x64 .f32 :=
  transpose S16x8x2048x64 [0, 2, 1, 3] (shapeCast _ (extf .f32 (extractStridedSlice S16x2048x512 ![0, 0, 0] x
    slices_S16x2048x3072_S16x2048x512_0_0_0) bitsLt_bf16_f32) shapeCasts_S16x2048x512_S16x2048x8x64)
    transposes_S16x2048x8x64_S16x8x2048x64_0_2_1_3

/-- The keys, head by head. -/
def kh (x : Arg F) : FVec F S16x8x2048x64 .f32 :=
  transpose S16x8x2048x64 [0, 2, 1, 3] (shapeCast _ (extf .f32 (extractStridedSlice S16x2048x512 ![0, 0, 512] x
    slices_S16x2048x3072_S16x2048x512_0_0_512) bitsLt_bf16_f32) shapeCasts_S16x2048x512_S16x2048x8x64)
    transposes_S16x2048x8x64_S16x8x2048x64_0_2_1_3

/-- The values, head by head. -/
def vh (x : Arg F) : FVec F S16x8x2048x64 .f32 :=
  transpose S16x8x2048x64 [0, 2, 1, 3] (shapeCast _ (extf .f32 (extractStridedSlice S16x2048x512 ![0, 0, 1024] x
    slices_S16x2048x3072_S16x2048x512_0_0_1024) bitsLt_bf16_f32) shapeCasts_S16x2048x512_S16x2048x8x64)
    transposes_S16x2048x8x64_S16x8x2048x64_0_2_1_3

/-- The distance from a key back to a query. -/
def dist : IVec S2048x2048 32 :=
  subi (broadcastInDim S2048x2048 ![0, 1] bcast_S2048x1_S2048x2048_0_1 (broadcastInDim S2048x1 ![0] bcast_S2048_S2048x1_0
    (iotaInDim S2048 32 0))) (broadcastInDim S2048x2048 ![0, 1] bcast_S1x2048_S2048x2048_0_1
    (broadcastInDim S1x2048 ![1] bcast_S2048_S1x2048_1 (iotaInDim S2048 32 0)))

/-- The distance, once for each window. -/
def dist3 : IVec S3x2048x2048 32 :=
  broadcastInDim S3x2048x2048 ![0, 1, 2] bcast_S1x2048x2048_S3x2048x2048_0_1_2
    (broadcastInDim S1x2048x2048 ![1, 2] bcast_S2048x2048_S1x2048x2048_1_2 dist)

/-- Which keys a query reads in each of the three windows. -/
def mask : IVec S3x2048x2048 1 :=
  andi (andi (broadcastInDim S3x2048x2048 ![0, 1, 2] bcast_S1x2048x2048_S3x2048x2048_0_1_2
      (broadcastInDim S1x2048x2048 ![1, 2] bcast_S2048x2048_S1x2048x2048_1_2
        (cmpi .sge dist (broadcastInDim S2048x2048 ![] bcast_S_S2048x2048 (constantI S_ 32 0#32)))))
      (cmpi .sle dist3 (broadcastInDim S3x2048x2048 ![0, 1, 2] bcast_S3x1x1_S3x2048x2048_0_1_2
        (broadcastInDim S3x1x1 ![0] bcast_S3_S3x1x1_0 ((fun i => lit0 (S3.rowMajor i)))))))
    (cmpi .eq (Host.remsi dist3 (broadcastInDim S3x2048x2048 ![0, 1, 2] bcast_S3x1x1_S3x2048x2048_0_1_2
      (select (cmpi .eq (broadcastInDim S3x1x1 ![0] bcast_S3_S3x1x1_0 ((fun i => lit1 (S3.rowMajor i))))
        (broadcastInDim S3x1x1 ![] bcast_S_S3x1x1 (constantI S_ 32 0#32)))
        (broadcastInDim S3x1x1 ![] bcast_S_S3x1x1 (constantI S_ 32 1#32))
        (broadcastInDim S3x1x1 ![0] bcast_S3_S3x1x1_0 ((fun i => lit1 (S3.rowMajor i)))))))
      (broadcastInDim S3x2048x2048 ![] bcast_S_S3x2048x2048 (constantI S_ 32 0#32)))

/-- The scaled scores. -/
def score (x : Arg F) : FVec F S16x8x2048x2048 .f32 :=
  mulf (Host.dotGeneral dot_S16x8x2048x64_S16x8x2048x64_S16x8x2048x2048_3_3_2_2_01_01 none (qh x) (kh x))
    (broadcastInDim S16x8x2048x2048 ![] bcast_S_S16x8x2048x2048 (Host.log (constant S_ .f32 0x40000000#32)))

/-- The scores with those of the keys a query does not read set to −∞. -/
def masked (x : Arg F) : FVec F S3x16x8x2048x2048 .f32 :=
  select (broadcastInDim S3x16x8x2048x2048 ![0, 1, 2, 3, 4] bcast_S3x1x1x2048x2048_S3x16x8x2048x2048_0_1_2_3_4
      (broadcastInDim S3x1x1x2048x2048 ![0, 3, 4] bcast_S3x2048x2048_S3x1x1x2048x2048_0_3_4 mask))
    (broadcastInDim S3x16x8x2048x2048 ![1, 2, 3, 4] bcast_S16x8x2048x2048_S3x16x8x2048x2048_1_2_3_4 (score x))
    (broadcastInDim S3x16x8x2048x2048 ![] bcast_S_S3x16x8x2048x2048 (id (constant S_ .f32 0xFF800000#32)))

/-- The greatest score of each query, as a column. -/
def rowMax (x : Arg F) : FVec F S3x16x8x2048x1 .f32 :=
  broadcastInDim S3x16x8x2048x1 ![0, 1, 2, 3] bcast_S3x16x8x2048_S3x16x8x2048x1_0_1_2_3
    (Host.reduce FloatOps.maximumf (masked x) (constant S_ .f32 0xFF800000#32)
      reducesTo_S3x16x8x2048x2048_S3x16x8x2048_d4 h_S_)

/-- The weights before normalisation. -/
def weight (x : Arg F) : FVec F S3x16x8x2048x2048 .f32 :=
  Host.exp (subf (masked x) (broadcastInDim S3x16x8x2048x2048 ![0, 1, 2, 3, 4]
    bcast_S3x16x8x2048x1_S3x16x8x2048x2048_0_1_2_3_4 (rowMax x)))

/-- The softmax denominators. -/
def den (x : Arg F) : FVec F S3x16x8x2048 .f32 :=
  Host.reduceAdd (weight x) (constant S_ .f32 0x00000000#32) reducesTo_S3x16x8x2048x2048_S3x16x8x2048_d4 h_S_

/-- The three windows' outputs. -/
def out (x : Arg F) : FVec F S3x16x8x2048x64 .f32 :=
  Host.divf (transpose S3x16x8x2048x64 [3, 0, 1, 4, 2]
      (Host.dotGeneral dot_S16x8x2048x64_S3x16x8x2048x2048_S16x8x64x3x2048_2_4_3_03_01_12 none (vh x) (weight x))
      transposes_S16x8x64x3x2048_S3x16x8x2048x64_3_0_1_4_2)
    (broadcastInDim S3x16x8x2048x64 ![0, 1, 2, 3, 4] bcast_S3x16x8x2048x1_S3x16x8x2048x64_0_1_2_3_4
      (broadcastInDim S3x16x8x2048x1 ![0, 1, 2, 3] bcast_S3x16x8x2048_S3x16x8x2048x1_0_1_2_3 (den x)))

/-- The logs of the softmax denominators. -/
def lse (x : Arg F) : FVec F S3x16x8x2048 .f32 :=
  addf (shapeCast _ (rowMax x) shapeCasts_S3x16x8x2048x1_S3x16x8x2048) (Host.log (den x))

/-- The weight of each window before normalisation. -/
def mixW (x : Arg F) : FVec F S3x16x8x2048 .f32 :=
  Host.exp (subf (lse x) (broadcastInDim S3x16x8x2048 ![0, 1, 2, 3] bcast_S1x16x8x2048_S3x16x8x2048_0_1_2_3
    (broadcastInDim S1x16x8x2048 ![1, 2, 3] bcast_S16x8x2048_S1x16x8x2048_1_2_3
      (maximumf (broadcastInDim S16x8x2048 ![] bcast_S_S16x8x2048 (constant S_ .f32 0xFF800000#32))
        (Host.reduce FloatOps.maximumf (lse x) (constant S_ .f32 0xFF800000#32)
          reducesTo_S3x16x8x2048_S16x8x2048_d0 h_S_)))))

/-- The weight of each window. -/
def alpha (x : Arg F) : FVec F S3x16x8x2048 .f32 :=
  Host.divf (mixW x) (broadcastInDim S3x16x8x2048 ![0, 1, 2, 3] bcast_S1x16x8x2048_S3x16x8x2048_0_1_2_3
    (broadcastInDim S1x16x8x2048 ![1, 2, 3] bcast_S16x8x2048_S1x16x8x2048_1_2_3
      (Host.reduceAdd (mixW x) (constant S_ .f32 0x00000000#32) reducesTo_S3x16x8x2048_S16x8x2048_d0 h_S_)))

/-- The result. -/
def result (x : Arg F) : FVec F S16x2048x512 .bf16 :=
  truncf .bf16 (shapeCast _ (transpose S16x2048x8x64 [0, 2, 1, 3]
    (Host.dotGeneral dot_S3x16x8x2048_S3x16x8x2048x64_S16x8x2048x64_0_0_n_4_123_123 none (alpha x) (out x))
    transposes_S16x8x2048x64_S16x2048x8x64_0_2_1_3) shapeCasts_S16x2048x8x64_S16x2048x512) bitsLt_bf16_f32

theorem res_eq (m : (ℓ : Loc nD τ sig) → Buf (Elt F) ℓ) (c : Dev nD) :
    Value.res_out0 m c = result (m ((c.tc : Thread nD τ).loc main_arg0)) := by
  unfold Value.res_out0 Value.res_main_v68
  rfl

end Cert.Proof.Ref

end
-- ==== Proof.Value.RefAt.lean ====
/- The reference's named operations read at an index, at the extended reals. -/
module

public import proofs.«01_k».proof.Proof.Value.Ref

@[expose] public section

set_option maxRecDepth 16384

noncomputable section

namespace Cert.Proof.Ref

open Idealize.ShloMosaic Cert.ReferenceIdeal Facts₀ Facts

theorem bits_bot : Ideal.ofBits .f32 0xFF800000#32 = ⊥ := by simp [Ideal.ofBits, Ideal.ieee]
theorem bits_two : Ideal.ofBits .f32 0x40000000#32 = 2 := by
  simp [Ideal.ofBits, Ideal.ieee, -EReal.coe_mul]; norm_num; rfl

/-- The binary logarithm's base change: the natural logarithm of 2. -/
abbrev ln2 : EReal := ((Real.log 2 : ℝ) : EReal)

theorem log_two : Ideal.log (Ideal.ofBits .f32 0x40000000#32) = ln2 := by
  rw [bits_two, show (2 : EReal) = ((2 : ℝ) : EReal) from rfl, Ideal.log_coe, if_neg (by norm_num)]

variable (x : Arg Ideal)

theorem qh_at (b : Fin 16) (h : Fin 8) (t : Fin 2048) (d : Fin 64) :
    qh x (ix4 b h t d) = x (ix3 b t ⟨h.val * 64 + d.val, by omega⟩) := by
  pointwise [qh]

theorem kh_at (b : Fin 16) (h : Fin 8) (t : Fin 2048) (d : Fin 64) :
    kh x (ix4 b h t d) = x (ix3 b t ⟨512 + (h.val * 64 + d.val), by omega⟩) := by
  pointwise [kh]

theorem vh_at (b : Fin 16) (h : Fin 8) (t : Fin 2048) (d : Fin 64) :
    vh x (ix4 b h t d) = x (ix3 b t ⟨1024 + (h.val * 64 + d.val), by omega⟩) := by
  pointwise [vh]

theorem score_at (b : Fin 16) (h : Fin 8) (t u : Fin 2048) :
    score x (ix4 b h t u) = (∑ d, qh x (ix4 b h t d) * kh x (ix4 b h u d)) * ln2 := by
  pointwise [score]
  rw [log_two]

theorem masked_at (g : Fin 3) (b : Fin 16) (h : Fin 8) (t u : Fin 2048) :
    masked x (ix5 g b h t u) = Scalar.select (mask (ix3 g t u)) (score x (ix4 b h t u)) ⊥ := by
  pointwise [masked]
  exact congrArg _ bits_bot

theorem rowMax_at (g : Fin 3) (b : Fin 16) (h : Fin 8) (t : Fin 2048) (z : Fin 1) :
    rowMax x (ix5 g b h t z) = Finset.univ.sup fun u => masked x (ix5 g b h t u) := by
  pointwise [rowMax]
  rw [bits_bot]
  rfl

theorem weight_at (g : Fin 3) (b : Fin 16) (h : Fin 8) (t u : Fin 2048) :
    weight x (ix5 g b h t u) = Ideal.exp (masked x (ix5 g b h t u) - rowMax x (ix5 g b h t 0)) := by
  pointwise [weight]

theorem den_at (g : Fin 3) (b : Fin 16) (h : Fin 8) (t : Fin 2048) :
    den x (ix4 g b h t) = ∑ u, weight x (ix5 g b h t u) := by
  pointwise [den]

theorem out_at (g : Fin 3) (b : Fin 16) (h : Fin 8) (t : Fin 2048) (d : Fin 64) :
    out x (ix5 g b h t d)
      = Ideal.div (∑ u, vh x (ix4 b h u d) * weight x (ix5 g b h t u)) (den x (ix4 g b h t)) := by
  pointwise [out]

theorem lse_of (g : Fin 3) (b : Fin 16) (h : Fin 8) (t : Fin 2048) (y : FVec Ideal S3x16x8x2048x1 .f32)
    (z : FVec Ideal S3x16x8x2048 .f32) :
    addf (shapeCast S3x16x8x2048 y shapeCasts_S3x16x8x2048x1_S3x16x8x2048) (Host.log z) (ix4 g b h t)
      = y (ix5 g b h t 0) + Ideal.log (z (ix4 g b h t)) := by
  pointwise

theorem lse_at (g : Fin 3) (b : Fin 16) (h : Fin 8) (t : Fin 2048) :
    lse x (ix4 g b h t) = rowMax x (ix5 g b h t 0) + Ideal.log (den x (ix4 g b h t)) := lse_of g b h t _ _

theorem mixW_of (g : Fin 3) (b : Fin 16) (h : Fin 8) (t : Fin 2048) (y : FVec Ideal S3x16x8x2048 .f32) :
    Host.exp (subf y (broadcastInDim S3x16x8x2048 ![0, 1, 2, 3] bcast_S1x16x8x2048_S3x16x8x2048_0_1_2_3
      (broadcastInDim S1x16x8x2048 ![1, 2, 3] bcast_S16x8x2048_S1x16x8x2048_1_2_3
        (maximumf (broadcastInDim S16x8x2048 ![] bcast_S_S16x8x2048 (constant S_ .f32 0xFF800000#32))
          (Host.reduce FloatOps.maximumf y (constant S_ .f32 0xFF800000#32)
            reducesTo_S3x16x8x2048_S16x8x2048_d0 h_S_))))) (ix4 g b h t)
      = Ideal.exp (y (ix4 g b h t) - Finset.univ.sup fun g' => y (ix4 g' b h t)) := by
  pointwise
  rw [bits_bot, bot_sup_eq]
  rfl

theorem mixW_at (g : Fin 3) (b : Fin 16) (h : Fin 8) (t : Fin 2048) :
    mixW x (ix4 g b h t) = Ideal.exp (lse x (ix4 g b h t) - Finset.univ.sup fun g' => lse x (ix4 g' b h t)) :=
  mixW_of g b h t _

theorem alpha_at (g : Fin 3) (b : Fin 16) (h : Fin 8) (t : Fin 2048) :
    alpha x (ix4 g b h t) = Ideal.div (mixW x (ix4 g b h t)) (∑ g', mixW x (ix4 g' b h t)) := by
  pointwise [alpha]

theorem result_at (b : Fin 16) (t : Fin 2048) (l : Fin 512) :
    result x (ix3 b t l) = ∑ g, alpha x (ix4 g b ⟨l.val / 64, by omega⟩ t)
      * out x (ix5 g b ⟨l.val / 64, by omega⟩ t ⟨l.val % 64, by omega⟩) := by
  pointwise [result]

end Cert.Proof.Ref

end
-- ==== Proof.Value.Mask.lean ====
/- The reference's mask: which keys a query reads in each of the three windows. -/
module

public import proofs.«01_k».proof.Proof.Value.RefAt

@[expose] public section

set_option maxRecDepth 16384

noncomputable section

namespace Cert.Proof.Ref

open Idealize.ShloMosaic Cert.ReferenceIdeal

/-- How far back each window reaches. -/
def reach : Fin 3 → Nat := ![128, 512, 2048]

/-- The step between the keys of each window. -/
def step : Fin 3 → Nat := ![1, 4, 16]

/-- A query reads the keys behind it, no further than the window, a multiple of the step away. -/
def Reads (g : Fin 3) (t u : Nat) : Prop := u ≤ t ∧ t - u ≤ reach g ∧ (t - u) % step g = 0

theorem toInt_diff (t u : Fin 2048) : (BitVec.ofNat 32 t.val - BitVec.ofNat 32 u.val).toInt = (t.val : Int) - u.val := by
  have ht := t.isLt
  have hu := u.isLt
  rw [BitVec.toInt_sub, BitVec.toInt_ofNat', BitVec.toInt_ofNat']
  simp only [Int.bmod_def]
  split <;> split <;> split <;> omega

theorem ofBool_eq_one (b : Bool) : BitVec.ofBool b = 1#1 ↔ b = true := by cases b <;> simp

theorem and_eq_one (a b : BitVec 1) : a &&& b = 1#1 ↔ a = 1#1 ∧ b = 1#1 := by
  revert a b; decide

theorem word_mask (z w d : BitVec 32) (hw : 0 ≤ w.toInt) (hd : 0 < d.toInt) :
    IntOp.andi (IntOp.andi (IntOp.cmpi .sge z 0#32) (IntOp.cmpi .sle z w))
      (IntOp.cmpi .eq (IntOp.remsi .host z (Scalar.select (IntOp.cmpi .eq d 0#32) 1#32 d)) 0#32) = 1#1
      ↔ 0 ≤ z.toInt ∧ z.toInt ≤ w.toInt ∧ z.toInt.tmod d.toInt = 0 := by
  have hd0 : d ≠ 0#32 := fun h => by rw [h] at hd; simp at hd
  have hd1 : d ≠ -1#32 := fun h => by rw [h] at hd; simp at hd
  have hs : Scalar.select (IntOp.cmpi .eq d 0#32) 1#32 d = d := by
    have : (d == 0#32) = false := beq_eq_false_iff_ne.2 hd0
    simp [Scalar.select, IntOp.cmpi, this]
  have hc : ¬ IntOp.SDivCorner z d := by
    rintro (h | ⟨-, h⟩)
    · exact hd0 h
    · exact hd1 h
  rw [hs]
  simp only [IntOp.andi, IntOp.cmpi, IntOp.remsi, if_neg hc, and_eq_one, ofBool_eq_one, BitVec.sle_iff_toInt_le,
    beq_iff_eq, and_assoc]
  refine and_congr (by simp) (and_congr Iff.rfl ?_)
  rw [← BitVec.toInt_inj, BitVec.toInt_srem]
  simp

theorem mask_at (g : Fin 3) (t u : Fin 2048) : mask (ix3 g t u) = 1#1 ↔ Reads g t.val u.val := by
  pointwise [mask, dist3, dist]
  have hg : ∃ w d : BitVec 32, lit0 (S3.rowMajor (ix1 g)) = w ∧ lit1 (S3.rowMajor (ix1 g)) = d
      ∧ w.toInt = reach g ∧ d.toInt = step g ∧ 0 < step g := by
    obtain rfl | rfl | rfl : g = 0 ∨ g = 1 ∨ g = 2 := by omega
    · exact ⟨128#32, 1#32, rfl, rfl, rfl, rfl, by decide⟩
    · exact ⟨512#32, 4#32, rfl, rfl, rfl, rfl, by decide⟩
    · exact ⟨2048#32, 16#32, rfl, rfl, rfl, rfl, by decide⟩
  obtain ⟨w, d, h0, h1, hw, hd, hp⟩ := hg
  rw [h0, h1, word_mask _ _ _ (by omega) (by omega)]
  have hz : (IntOp.subi (BitVec.ofNat 32 t.val) (BitVec.ofNat 32 u.val)).toInt = (t.val : Int) - u.val := toInt_diff t u
  rw [hz, hw, hd, Reads]
  constructor
  · rintro ⟨a, b, c⟩
    refine ⟨by omega, by omega, ?_⟩
    rw [show (t.val : Int) - u.val = ((t.val - u.val : Nat) : Int) by omega, ← Int.ofNat_tmod] at c
    exact_mod_cast c
  · rintro ⟨a, b, c⟩
    refine ⟨by omega, by omega, ?_⟩
    rw [show (t.val : Int) - u.val = ((t.val - u.val : Nat) : Int) by omega, ← Int.ofNat_tmod, c]
    rfl

end Cert.Proof.Ref

end
-- ==== Proof.Value.Soft.lean ====
/- Softmax rows at the extended reals: base 2 against base e, a row of scores against the same row spread among
   keys that count for nothing, and three normalised rows mixed by the logs of their denominators. -/
module

public import Idealize.ShloMosaic.PureOps.Ideal
public import Mathlib.Analysis.SpecialFunctions.Pow.Real
public import Mathlib.Data.EReal.Operations
public import Mathlib.Data.EReal.Inv

@[expose] public section

noncomputable section

namespace Cert.Proof.Soft

open Idealize.ShloMosaic

/-- The natural logarithm of 2. -/
abbrev ln2 : EReal := ((Real.log 2 : ℝ) : EReal)

/-- Its inverse. -/
abbrev log2e : EReal := (((Real.log 2)⁻¹ : ℝ) : EReal)

theorem ln2_pos : 0 < Real.log 2 := Real.log_pos (by norm_num)

theorem bot_mul_ln2 : (⊥ : EReal) * ln2 = ⊥ := EReal.bot_mul_coe_of_pos ln2_pos
theorem top_mul_ln2 : (⊤ : EReal) * ln2 = ⊤ := EReal.top_mul_coe_of_pos ln2_pos

theorem log2e_mul_ln2 : log2e * ln2 = 1 := by
  rw [← EReal.coe_mul, inv_mul_cancel₀ ln2_pos.ne', EReal.coe_one]

theorem exp_mul_ln2 (x : EReal) : Ideal.exp (x * ln2) = Ideal.exp2 x := by
  induction x with
  | bot => rw [bot_mul_ln2]; rfl
  | top => rw [top_mul_ln2]; rfl
  | coe r =>
    rw [← EReal.coe_mul, Ideal.exp_coe, Ideal.exp2_coe]
    congr 1
    rw [show Real.rpow 2 r = (2 : ℝ) ^ r from rfl, Real.rpow_def_of_pos (by norm_num), mul_comm]

theorem add_mul_ln2 (x y : EReal) : (x + y) * ln2 = x * ln2 + y * ln2 := by
  rw [mul_comm, EReal.left_distrib_of_nonneg_of_ne_top (EReal.coe_nonneg.2 ln2_pos.le) (EReal.coe_ne_top _),
    mul_comm, mul_comm ln2 y]

theorem sub_mul_ln2 (x y : EReal) : (x - y) * ln2 = x * ln2 - y * ln2 := by
  rw [sub_eq_add_neg, add_mul_ln2, EReal.neg_mul, ← sub_eq_add_neg]

theorem mul_ln2_mono {x y : EReal} (h : x ≤ y) : x * ln2 ≤ y * ln2 :=
  mul_le_mul_of_nonneg_right h (EReal.coe_nonneg.2 ln2_pos.le)

section Row

variable {ι : Type} [Fintype ι]

/-- A row's greatest score. -/
def top (s : ι → EReal) : EReal := Finset.univ.sup s

/-- A key's weight, to base 2. -/
def wt (s : ι → EReal) (j : ι) : EReal := Ideal.exp2 (s j - top s)

/-- A row's denominator, to base 2. -/
def den (s : ι → EReal) : EReal := ∑ j, wt s j

/-- A row's normalised output. -/
def out (s v : ι → EReal) : EReal := Ideal.div (∑ j, wt s j * v j) (den s)

/-- The binary log of a row's denominator. -/
def lse (s : ι → EReal) : EReal := top s + Ideal.log (den s) * log2e

/-- A key's weight, to base e. -/
def wtE (s : ι → EReal) (j : ι) : EReal := Ideal.exp (s j - top s)

theorem top_mul (s : ι → EReal) : top (fun j => s j * ln2) = top s * ln2 :=
  (Finset.comp_sup_eq_sup_comp_of_is_total (fun x : EReal => x * ln2) (fun _ _ h => mul_ln2_mono h) bot_mul_ln2).symm

theorem wtE_mul (s : ι → EReal) (j : ι) : wtE (fun j => s j * ln2) j = wt s j := by
  rw [wtE, top_mul, ← sub_mul_ln2, exp_mul_ln2]
  rfl

theorem wt_bot (s : ι → EReal) (j : ι) (h : s j = ⊥) : wt s j = 0 := by
  rw [wt, h, EReal.bot_sub]
  rfl

end Row

section Spread

variable {ι κ : Type} [Fintype ι] [Fintype κ]
variable (σ : ι → EReal) (s : κ → EReal) (e : ι → κ) (P : ι → Prop)

/-- The row `s` of natural-log scores is the row `σ` of binary-log scores spread along `e`, `P` the keys that count. -/
structure Spreads : Prop where
  eq : ∀ j, P j → s (e j) = σ j * ln2
  bot : ∀ j, ¬ P j → σ j = ⊥
  inj : ∀ i j, P i → P j → e i = e j → i = j
  off : ∀ u, (∀ j, P j → e j ≠ u) → s u = ⊥

variable {σ s e P}

theorem Spreads.top_eq (h : Spreads σ s e P) : top s = top σ * ln2 := by
  classical
  refine le_antisymm (Finset.sup_le fun u _ => ?_) ?_
  · by_cases hu : ∃ j, P j ∧ e j = u
    · obtain ⟨j, hj, rfl⟩ := hu
      rw [h.eq j hj]
      exact mul_ln2_mono (Finset.le_sup (f := σ) (Finset.mem_univ j))
    · rw [h.off u fun j hj hu' => hu ⟨j, hj, hu'⟩]
      exact bot_le
  · rw [← top_mul]
    refine Finset.sup_le fun j _ => ?_
    by_cases hj : P j
    · rw [← h.eq j hj]
      exact Finset.le_sup (f := s) (Finset.mem_univ (e j))
    · rw [h.bot j hj, bot_mul_ln2]
      exact bot_le

theorem Spreads.wtE_eq (h : Spreads σ s e P) (j : ι) (hj : P j) : wtE s (e j) = wt σ j := by
  rw [wtE, h.top_eq, h.eq j hj, ← sub_mul_ln2, exp_mul_ln2]
  rfl

theorem Spreads.sum_eq (h : Spreads σ s e P) (v : ι → EReal) (w : κ → EReal) (hv : ∀ j, P j → w (e j) = v j) :
    ∑ u, w u * wtE s u = ∑ j, wt σ j * v j := by
  classical
  have hz : ∑ j, wt σ j * v j = ∑ j with P j, wt σ j * v j := by
    refine (Finset.sum_subset (Finset.filter_subset _ _) fun j _ hj => ?_).symm
    rw [wt_bot σ j (h.bot j fun hp => hj (Finset.mem_filter.2 ⟨Finset.mem_univ _, hp⟩)), zero_mul]
  rw [hz]
  refine (Finset.sum_of_injOn e ?_ ?_ ?_ ?_).symm
  · intro i hi j hj hij
    exact h.inj i j (Finset.mem_filter.1 hi).2 (Finset.mem_filter.1 hj).2 hij
  · intro j _
    exact Finset.mem_coe.2 (Finset.mem_univ _)
  · intro u _ hu
    have : s u = ⊥ := h.off u fun j hj he => hu ⟨j, Finset.mem_coe.2 (Finset.mem_filter.2 ⟨Finset.mem_univ _, hj⟩), he⟩
    rw [wtE, this, EReal.bot_sub, Ideal.exp_bot, mul_zero]
  · intro j hj
    have hj := (Finset.mem_filter.1 hj).2
    rw [hv j hj, h.wtE_eq j hj, mul_comm]

theorem Spreads.den_eq (h : Spreads σ s e P) : ∑ u, wtE s u = den σ := by
  have := h.sum_eq (fun _ => 1) (fun _ => 1) fun _ _ => rfl
  simpa only [one_mul, mul_one, den] using this

theorem Spreads.out_eq (h : Spreads σ s e P) (v : ι → EReal) (w : κ → EReal) (hv : ∀ j, P j → w (e j) = v j) :
    Ideal.div (∑ u, w u * wtE s u) (∑ u, wtE s u) = out σ v := by
  rw [h.sum_eq v w hv, h.den_eq]
  rfl

theorem Spreads.lse_eq (h : Spreads σ s e P) : top s + Ideal.log (∑ u, wtE s u) = lse σ * ln2 := by
  rw [lse, add_mul_ln2, mul_assoc, log2e_mul_ln2, mul_one, h.top_eq, h.den_eq]

end Spread

section Real

variable {ι : Type} [Fintype ι]

theorem exp2_nonneg (x : EReal) : 0 ≤ Ideal.exp2 x := by
  induction x with
  | bot => exact le_rfl
  | top => exact le_top
  | coe r => rw [Ideal.exp2_coe]; exact_mod_cast (Real.rpow_pos_of_pos (by norm_num : (0 : ℝ) < 2) r).le

/-- A real number among the extended reals. -/
def IsReal (x : EReal) : Prop := ∃ r : ℝ, x = r

theorem IsReal.of_ne {x : EReal} (ht : x ≠ ⊤) (hb : x ≠ ⊥) : IsReal x := ⟨x.toReal, (EReal.coe_toReal ht hb).symm⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum (s : Finset ι) (f : ι → EReal) (h : ∀ j ∈ s, IsReal (f j)) : IsReal (∑ j ∈ s, f j) :=
  Finset.sum_induction f IsReal (fun _ _ => IsReal.add) ⟨0, rfl⟩ h

/-- A sum of weights, one of them of a real score, is a positive real when no score exceeds every real. -/
theorem sum_exp2 (d : ι → EReal) (ht : ∀ j, d j ≠ ⊤) (j₀ : ι) (hb : d j₀ ≠ ⊥) :
    ∃ r : ℝ, 0 < r ∧ ∑ j, Ideal.exp2 (d j) = r := by
  have hr : IsReal (∑ j, Ideal.exp2 (d j)) := IsReal.sum _ _ fun j _ => by
    induction h : d j with
    | bot => exact ⟨0, rfl⟩
    | top => exact absurd h (ht j)
    | coe r => exact ⟨_, rfl⟩
  obtain ⟨r, hr⟩ := hr
  refine ⟨r, ?_, hr⟩
  have h0 : (0 : EReal) < Ideal.exp2 (d j₀) := by
    induction h : d j₀ with
    | bot => exact absurd h hb
    | top => exact absurd h (ht j₀)
    | coe r => rw [Ideal.exp2_coe]; exact_mod_cast Real.rpow_pos_of_pos (by norm_num : (0 : ℝ) < 2) r
  have h1 : Ideal.exp2 (d j₀) ≤ ∑ j, Ideal.exp2 (d j) :=
    Finset.single_le_sum (f := fun j => Ideal.exp2 (d j)) (fun j _ => exp2_nonneg _) (Finset.mem_univ j₀)
  have := h0.trans_le h1
  rw [hr] at this
  exact_mod_cast this

theorem top_real (s : ι → EReal) (ht : ∀ j, s j ≠ ⊤) (j₀ : ι) (hb : s j₀ ≠ ⊥) : IsReal (top s) := by
  refine IsReal.of_ne (ne_of_lt ?_) (ne_bot_of_le_ne_bot hb (Finset.le_sup (f := s) (Finset.mem_univ j₀)))
  exact (Finset.sup_lt_iff bot_lt_top).2 fun j _ => lt_top_iff_ne_top.2 (ht j)

theorem sub_ne (s : ι → EReal) (r : ℝ) (j : ι) : (s j ≠ ⊤ → s j - r ≠ ⊤) ∧ (s j ≠ ⊥ → s j - r ≠ ⊥) := by
  induction h : s j with
  | bot => exact ⟨fun _ => by rw [EReal.bot_sub]; exact bot_ne_top, fun h => absurd rfl h⟩
  | top => exact ⟨fun h => absurd rfl h, fun _ => by rw [EReal.top_sub_coe]; exact top_ne_bot⟩
  | coe a => exact ⟨fun _ => by rw [← EReal.coe_sub]; exact EReal.coe_ne_top _,
      fun _ => by rw [← EReal.coe_sub]; exact EReal.coe_ne_bot _⟩

theorem den_pos (s : ι → EReal) (ht : ∀ j, s j ≠ ⊤) (j₀ : ι) (hb : s j₀ ≠ ⊥) : ∃ r : ℝ, 0 < r ∧ den s = r := by
  obtain ⟨m, hm⟩ := top_real s ht j₀ hb
  have := sum_exp2 (fun j => s j - top s) (fun j => by rw [hm]; exact (sub_ne s m j).1 (ht j)) j₀
    (by rw [hm]; exact (sub_ne s m j₀).2 hb)
  exact this

theorem lse_real (s : ι → EReal) (ht : ∀ j, s j ≠ ⊤) (j₀ : ι) (hb : s j₀ ≠ ⊥) : IsReal (lse s) := by
  obtain ⟨r, hr, h⟩ := den_pos s ht j₀ hb
  refine (top_real s ht j₀ hb).add (IsReal.mul ?_ ⟨_, rfl⟩)
  rw [h, Ideal.log_coe, if_neg (not_le.2 hr)]
  exact ⟨_, rfl⟩

end Real

/-- Three rows mixed: the weighted sum over the sum of the weights, to base 2, is the sum of the outputs times their
    softmax weights, to base e, when the logs of the denominators are real. -/
theorem mix (L o : Fin 3 → EReal) (hL : ∀ g, IsReal (L g)) :
    ∑ g, Ideal.div (wtE (fun g => L g * ln2) g) (∑ g', wtE (fun g => L g * ln2) g') * o g
      = Ideal.div (wt L 0 * o 0 + wt L 1 * o 1 + wt L 2 * o 2) (wt L 0 + wt L 1 + wt L 2) := by
  have hne : ∀ g, L g ≠ ⊤ ∧ L g ≠ ⊥ := fun g => by
    obtain ⟨r, h⟩ := hL g
    rw [h]
    exact ⟨EReal.coe_ne_top _, EReal.coe_ne_bot _⟩
  obtain ⟨r, hr, h⟩ := den_pos L (fun g => (hne g).1) 0 (hne 0).2
  have hs : wt L 0 + wt L 1 + wt L 2 = (r : EReal) := by
    rw [← h, den, Fin.sum_univ_three]
  simp only [wtE_mul]
  rw [Fin.sum_univ_three, Fin.sum_univ_three, hs]
  simp only [Ideal.div_coe hr.ne']
  have hc : (0 : EReal) ≤ ((1 / r : ℝ) : EReal) := by exact_mod_cast (by positivity : (0 : ℝ) ≤ 1 / r)
  have hd : ∀ x y : EReal, (x + y) * ((1 / r : ℝ) : EReal) = x * ((1 / r : ℝ) : EReal) + y * ((1 / r : ℝ) : EReal) := by
    intro x y
    rw [mul_comm, EReal.left_distrib_of_nonneg_of_ne_top hc (EReal.coe_ne_top _), mul_comm, mul_comm _ y]
  rw [hd, hd]
  congr 1
  · congr 1 <;> rw [mul_right_comm]
  · rw [mul_right_comm]

end Cert.Proof.Soft

end
-- ==== Proof.Value.Tile.lean ====
/- The kernel's tiles read at an index, at the extended reals: each is a softmax row to base 2. -/
module

public import proofs.«01_k».proof.Proof.Ideal.Left
public import proofs.«01_k».proof.Proof.Value.Mask
public import proofs.«01_k».proof.Proof.Value.Soft
public import Idealize.ShloMosaic.Lib.Pointwise

@[expose] public section

set_option maxRecDepth 16384

noncomputable section

namespace Cert.Proof.KernelIdeal

open Idealize.ShloMosaic Cert.KernelIdeal Cert.KernelIdeal.Gen Facts₀ Facts

/-- The row of a pair of stacked tiles, back in its own tile. -/
theorem word_row (i : Fin 256) :
    Scalar.select
      (IntOp.andi
        (IntOp.xori
          (IntOp.cmpi .slt (IntOp.remsi .vector (BitVec.ofNat 32 i.val)
            (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 i.val)
          (Scalar.select (Scalar.cmpi .eq 128#32 0#32) 1#32 128#32)) 0#32))
      (IntOp.addi (IntOp.remsi .vector (BitVec.ofNat 32 i.val)
          (Scalar.select (Scalar.cmpi .eq 128#32 0#32) 1#32 128#32))
        (Scalar.select (Scalar.cmpi .eq 128#32 0#32) 1#32 128#32))
      (IntOp.remsi .vector (BitVec.ofNat 32 i.val) (Scalar.select (Scalar.cmpi .eq 128#32 0#32) 1#32 128#32))
      = BitVec.ofNat 32 (i.val % 128) := by
  revert i
  decide +kernel

theorem toInt_gap (b r j : Nat) (hb : b ≤ 128) (hr : r < 128) (hj : j < 256) :
    (BitVec.ofNat 32 b + BitVec.ofNat 32 r - BitVec.ofNat 32 j).toInt = (b : Int) + r - j := by
  rw [BitVec.toInt_sub, BitVec.toInt_add, BitVec.toInt_ofNat', BitVec.toInt_ofNat', BitVec.toInt_ofNat']
  simp only [Int.bmod_def]
  split <;> split <;> split <;> split <;> split <;> omega

theorem word_window (z : BitVec 32) :
    IntOp.andi (IntOp.cmpi .sge z 0#32) (IntOp.cmpi .sle z 128#32) = 1#1 ↔ 0 ≤ z.toInt ∧ z.toInt ≤ 128 := by
  simp only [IntOp.andi, IntOp.cmpi, Ref.and_eq_one, Ref.ofBool_eq_one, BitVec.sle_iff_toInt_le]
  exact Iff.rfl

/-- Which of its 256 keys a row of a wide tile reads. -/
theorem wideMask_at (n : BitVec 32) (i j : Fin 256) :
    k0_pay24 n (ix2 i j) = 1#1 ↔ i.val % 128 ≤ j.val ∧ j.val ≤ i.val % 128 + 128 ∧ (n ≠ 0#32 ∨ 128 ≤ j.val) := by
  pointwise [k0_pay24]
  rw [word_row]
  have hz := toInt_gap 128 (i.val % 128) j.val le_rfl (Nat.mod_lt _ (by omega)) j.isLt
  have hj : IntOp.cmpi .sge (BitVec.ofNat 32 j.val) 128#32 = 1#1 ↔ 128 ≤ j.val := by
    have := j.isLt
    simp only [IntOp.cmpi, Ref.ofBool_eq_one, BitVec.sle_iff_toInt_le, BitVec.toInt_ofNat', Int.bmod_def]
    split <;> split <;> omega
  have hn : Scalar.xori (Scalar.cmpi .eq n 0#32) 1#1 = 1#1 ↔ n ≠ 0#32 := by
    by_cases h : n = 0#32
    · subst h; simp [Scalar.xori, Scalar.cmpi, IntOp.cmpi, IntOp.xori]
    · have : (n == 0#32) = false := beq_eq_false_iff_ne.2 h
      simp [Scalar.xori, Scalar.cmpi, IntOp.cmpi, IntOp.xori, h, this]
  rw [show ∀ a b : BitVec 1, IntOp.andi a b = 1#1 ↔ a = 1#1 ∧ b = 1#1 from Ref.and_eq_one, word_window,
    show ∀ a b : BitVec 1, IntOp.ori a b = 1#1 ↔ a = 1#1 ∨ b = 1#1 from by decide, hj, hn,
    show (IntOp.subi (IntOp.addi 128#32 (BitVec.ofNat 32 (i.val % 128))) (BitVec.ofNat 32 j.val)).toInt
      = ((128 : Nat) : Int) + ((i.val % 128 : Nat) : Int) - j.val from hz]
  constructor
  · rintro ⟨⟨a, b⟩, c⟩
    exact ⟨by omega, by omega, c⟩
  · rintro ⟨a, b, c⟩
    exact ⟨⟨by omega, by omega⟩, c⟩

/-- Which of its own 128 keys a row of a narrow tile reads, as the print computes it. -/
theorem narrowMask_at (i : Fin 256) (j : Fin 128) :
    IntOp.andi (IntOp.cmpi .sge (IntOp.subi (IntOp.addi 0#32 (BitVec.ofNat 32 (i.val % 128))) (BitVec.ofNat 32 j.val)) 0#32)
      (IntOp.cmpi .sle (IntOp.subi (IntOp.addi 0#32 (BitVec.ofNat 32 (i.val % 128))) (BitVec.ofNat 32 j.val)) 128#32) = 1#1
      ↔ j.val ≤ i.val % 128 := by
  have hz := toInt_gap 0 (i.val % 128) j.val (by omega) (Nat.mod_lt _ (by omega)) (by omega)
  rw [word_window,
    show (IntOp.subi (IntOp.addi 0#32 (BitVec.ofNat 32 (i.val % 128))) (BitVec.ofNat 32 j.val)).toInt
      = ((0 : Nat) : Int) + ((i.val % 128 : Nat) : Int) - j.val from hz]
  omega

theorem lanes_at (i l : Fin 128) : lanes (ix2 i l) = BitVec.ofBool (decide (l.val < 64)) := by
  pointwise [lanes]
  revert l
  decide +kernel

/-- A query row against a key row, over the 64 lanes of the head that lane `l` belongs to. -/
def headDot (q k : Fin 128 → EReal) (l : Fin 128) : EReal :=
  ∑ d : Fin 64, q ⟨64 * (l.val / 64) + d.val, by omega⟩ * k ⟨64 * (l.val / 64) + d.val, by omega⟩

/-- The stacked row that holds the queries of lane `l`'s head, of the tile's row `i`. -/
def stackRow (i l : Fin 128) : Fin 256 := ⟨128 * (l.val / 64) + i.val, by omega⟩

theorem stack_mod (i l : Fin 128) : (stackRow i l).val % 128 = i.val := by
  simp only [stackRow]
  omega

/-- The stacked queries at a row and a lane: the upper half keeps the first head's lanes, the lower half the second's. -/
theorem stack_at (q : Vec Ideal S128x128 .f32) (i : Fin 256) (x : Fin 128) :
    k0_pay25 lanes q (ix2 i x) = if (x.val < 64 ↔ i.val < 128) then q (ix2 ⟨i.val % 128, Nat.mod_lt _ (by omega)⟩ x) else 0 := by
  have hp : ∀ e : IVec S128x128 1, k0_pay25 e q (ix2 i x) = if h : i.val < 128
      then Scalar.select (e (ix2 ⟨i.val, h⟩ x)) (q (ix2 ⟨i.val, h⟩ x)) 0
      else Scalar.select (e (ix2 ⟨i.val - 128, by omega⟩ x)) 0 (q (ix2 ⟨i.val - 128, by omega⟩ x)) := by
    intro e
    pointwise [k0_pay25]
  rw [hp]
  have hi := i.isLt
  by_cases h : i.val < 128 <;> by_cases hx : x.val < 64
  · have e : i.val % 128 = i.val := by omega
    simp [lanes_at, h, hx, e, Scalar.select]
  · simp [lanes_at, h, hx, Scalar.select]
  · simp [lanes_at, h, hx, Scalar.select]
  · have e : i.val % 128 = i.val - 128 := by omega
    simp [lanes_at, h, hx, e, Scalar.select]

/-- The stacked queries, masked head by head, against a key row. -/
theorem stack_dot (q : Vec Ideal S128x128 .f32) (k : Fin 128 → EReal) (i l : Fin 128) :
    ∑ x : Fin 128, k0_pay25 lanes q (ix2 (stackRow i l) x) * k x = headDot (fun x => q (ix2 i x)) k l := by
  have hm : (⟨(stackRow i l).val % 128, Nat.mod_lt _ (by omega)⟩ : Fin 128) = i := Fin.ext (stack_mod i l)
  simp only [stack_at, hm]
  rw [Fin.sum_univ_two_halves 64 64 rfl, headDot]
  have hi := i.isLt
  have hl := l.isLt
  by_cases h : l.val < 64
  · have e : l.val / 64 = 0 := by omega
    have hs : (stackRow i l).val < 128 := by simp only [stackRow]; omega
    simp [hs, e]
  · have e : l.val / 64 = 1 := by omega
    have hs : ¬ (stackRow i l).val < 128 := by simp only [stackRow]; omega
    simp [hs, e]

/-- The scores of lane `l`'s head in row `i` of a wide tile. -/
def wideRow (n : BitVec 32) (q : Vec Ideal S128x128 .f32) (k : Vec Ideal S256x128 .f32) (i l : Fin 128) : Fin 256 → EReal := fun j =>
  if i.val ≤ j.val ∧ j.val ≤ i.val + 128 ∧ (n ≠ 0#32 ∨ 128 ≤ j.val)
    then headDot (fun x => q (ix2 i x)) (fun x => k (ix2 j x)) l else ⊥

/-- The scores of lane `l`'s head in row `i` of a narrow tile. -/
def narrowRow (q k : Vec Ideal S128x128 .f32) (i l : Fin 128) : Fin 128 → EReal := fun j =>
  if j.val ≤ i.val then headDot (fun x => q (ix2 i x)) (fun x => k (ix2 j x)) l else ⊥

theorem wide_scores (n : BitVec 32) (q : Vec Ideal S128x128 .f32) (k : Vec Ideal S256x128 .f32) (i l : Fin 128) (j : Fin 256) :
    k0_pay26 k (k0_pay24 n) (k0_pay25 lanes q) (ix2 (stackRow i l) j) = wideRow n q k i l j := by
  have h : ∀ (c : IVec S256x256 1) (y : Vec Ideal S256x128 .f32), k0_pay26 k c y (ix2 (stackRow i l) j)
      = Scalar.select (c (ix2 (stackRow i l) j)) (∑ x, y (ix2 (stackRow i l) x) * k (ix2 j x)) (Ideal.ofBits .f32 0xFF800000#32) := by
    intro c y
    pointwise [k0_pay26]
  rw [h, stack_dot, Ref.bits_bot, wideRow, Scalar.select]
  refine if_congr ?_ rfl rfl
  change _ = 1#1 ↔ _
  rw [wideMask_at, stack_mod]

theorem narrow_scores (q k : Vec Ideal S128x128 .f32) (i l j : Fin 128) :
    k0_pay433 lanes q k (ix2 (stackRow i l) j) = narrowRow q k i l j := by
  have h : ∀ (e : IVec S128x128 1) (r : Fin 256), k0_pay433 e q k (ix2 r j)
      = Scalar.select (IntOp.andi (IntOp.cmpi .sge (IntOp.subi (IntOp.addi 0#32 (BitVec.ofNat 32 (r.val % 128))) (BitVec.ofNat 32 j.val)) 0#32)
      (IntOp.cmpi .sle (IntOp.subi (IntOp.addi 0#32 (BitVec.ofNat 32 (r.val % 128))) (BitVec.ofNat 32 j.val)) 128#32)) (∑ x, k0_pay25 e q (ix2 r x) * k (ix2 j x)) (Ideal.ofBits .f32 0xFF800000#32) := by
    intro e r
    rw [← word_row]
    pointwise [k0_pay433, k0_pay25]
  rw [h, stack_dot, Ref.bits_bot, narrowRow, Scalar.select]
  refine if_congr ?_ rfl rfl
  change _ = 1#1 ↔ _
  rw [narrowMask_at, stack_mod]

/-- Choosing a half of the stacked rows by lane is reading the lane's own stacked row. -/
theorem choose_row {α : Type} (i l : Fin 128) (f : Fin 256 → α) :
    Scalar.select (lanes (ix2 i l)) (f ⟨i.val, by omega⟩) (f ⟨128 + i.val, by omega⟩) = f (stackRow i l) := by
  rw [lanes_at, Scalar.select]
  have hl := l.isLt
  by_cases h : l.val < 64
  · have e : l.val / 64 = 0 := by omega
    have hs : stackRow i l = ⟨i.val, by omega⟩ := Fin.ext (by simp [stackRow, e])
    rw [hs]
    simp [h]
  · have e : l.val / 64 = 1 := by omega
    have hs : stackRow i l = ⟨128 + i.val, by omega⟩ := Fin.ext (by simp [stackRow, e])
    rw [hs]
    simp [h]

theorem bits_one16 : Ideal.ofBits .bf16 0x3F80#16 = 1 := by
  simp [Ideal.ofBits, Ideal.ieee]
  rw [← EReal.coe_mul]
  norm_num

section Wide

variable (n : BitVec 32) (q : Vec Ideal S128x128 .f32) (k v : Vec Ideal S256x128 .f32) (i l : Fin 128)

theorem wide_max : k0_pay27 k (k0_pay24 n) (k0_pay25 lanes q) (ix2 (stackRow i l) 0) = Soft.top (wideRow n q k i l) := by
  have h : ∀ (c : IVec S256x256 1) (y : Vec Ideal S256x128 .f32) (r : Fin 256), k0_pay27 k c y (ix2 r 0)
      = Finset.fold max (Ideal.ofBits .f32 0xFF800000#32) (fun j => k0_pay26 k c y (ix2 r j)) Finset.univ := by
    intro c y r
    pointwise [k0_pay27]
  rw [h, Ref.bits_bot]
  simp only [wide_scores]
  rfl

theorem wide_sum (c : Fin 256) : k0_pay28 k v (k0_pay24 n) (k0_pay25 lanes q) (ix2 (stackRow i l) c)
    = ∑ x : Fin 256, Soft.wt (wideRow n q k i l) x * (if h : c.val < 128 then v (ix2 x ⟨c.val, h⟩) else 1) := by
  have h : ∀ (m : IVec S256x256 1) (y : Vec Ideal S256x128 .f32) (r : Fin 256), k0_pay28 k v m y (ix2 r c)
      = ∑ x : Fin 256, Ideal.exp2 (k0_pay26 k m y (ix2 r x) - k0_pay27 k m y (ix2 r 0))
        * (if h : c.val < 128 then v (ix2 x ⟨c.val, h⟩) else 1) := by
    intro m y r
    pointwise [k0_pay28]
    rfl
  rw [h, wide_max]
  simp only [wide_scores]
  rfl

theorem wide_den : k0_pay29 lanes k v (k0_pay24 n) (k0_pay25 lanes q) (ix2 i l) = Soft.den (wideRow n q k i l) := by
  have h : ∀ (e : IVec S128x128 1) (m : IVec S256x256 1) (y : Vec Ideal S256x128 .f32), k0_pay29 e k v m y (ix2 i l)
      = Scalar.select (e (ix2 i l)) (k0_pay28 k v m y (ix2 ⟨i.val, by omega⟩ ⟨128 + l.val, by omega⟩))
        (k0_pay28 k v m y (ix2 ⟨128 + i.val, by omega⟩ ⟨128 + l.val, by omega⟩)) := by
    intro e m y
    pointwise [k0_pay29]
  rw [h, choose_row i l (fun r => k0_pay28 k v (k0_pay24 n) (k0_pay25 lanes q) (ix2 r ⟨128 + l.val, by omega⟩)), wide_sum]
  simp [Soft.den]

/-- A wide tile's attention, at a row and a lane. -/
theorem wideOut_at : wideOut n q k v (ix3 0 i l) = Soft.out (wideRow n q k i l) (fun j => v (ix2 j l)) := by
  have h : ∀ (e : IVec S128x128 1) (m : IVec S256x256 1) (y : Vec Ideal S256x128 .f32), k0_pay30 e k v m y (ix3 0 i l)
      = Ideal.div (Scalar.select (e (ix2 i l)) (k0_pay28 k v m y (ix2 ⟨i.val, by omega⟩ ⟨l.val, by omega⟩))
        (k0_pay28 k v m y (ix2 ⟨128 + i.val, by omega⟩ ⟨l.val, by omega⟩))) (k0_pay29 e k v m y (ix2 i l)) := by
    intro e m y
    pointwise [k0_pay30]
  rw [wideOut, h, choose_row i l (fun r => k0_pay28 k v (k0_pay24 n) (k0_pay25 lanes q) (ix2 r ⟨l.val, by omega⟩)), wide_sum, wide_den]
  simp [Soft.out]

/-- A wide tile's log-sum-exp, at a row and a lane. -/
theorem wideLse_at : wideLse n q k v (ix3 0 i l) = Soft.lse (wideRow n q k i l) := by
  have h : ∀ (e : IVec S128x128 1) (m : IVec S256x256 1) (y : Vec Ideal S256x128 .f32), k0_pay31 e k v m y (ix3 0 i l)
      = Scalar.select (e (ix2 i l)) (k0_pay27 k m y (ix2 ⟨i.val, by omega⟩ 0)) (k0_pay27 k m y (ix2 ⟨128 + i.val, by omega⟩ 0))
        + Ideal.log (k0_pay29 e k v m y (ix2 i l)) * Soft.log2e := by
    intro e m y
    pointwise [k0_pay31]
    rfl
  rw [wideLse, h, choose_row i l (fun r => k0_pay27 k (k0_pay24 n) (k0_pay25 lanes q) (ix2 r 0)), wide_max, wide_den]
  rfl

end Wide

section Narrow

variable (q k v : Vec Ideal S128x128 .f32) (i l : Fin 128)

theorem narrow_max : k0_pay434 lanes q k (ix2 (stackRow i l) 0) = Soft.top (narrowRow q k i l) := by
  have h : ∀ (e : IVec S128x128 1) (r : Fin 256), k0_pay434 e q k (ix2 r 0)
      = Finset.fold max (Ideal.ofBits .f32 0xFF800000#32) (fun j => k0_pay433 e q k (ix2 r j)) Finset.univ := by
    intro e r
    pointwise [k0_pay434]
  rw [h, Ref.bits_bot]
  simp only [narrow_scores]
  rfl

theorem narrow_wt (x : Fin 128) : k0_pay435 lanes q k (ix2 (stackRow i l) x) = Soft.wt (narrowRow q k i l) x := by
  have h : ∀ (e : IVec S128x128 1) (r : Fin 256), k0_pay435 e q k (ix2 r x)
      = Ideal.exp2 (k0_pay433 e q k (ix2 r x) - k0_pay434 e q k (ix2 r 0)) := by
    intro e r
    pointwise [k0_pay435]
    rfl
  rw [h, narrow_max, narrow_scores]
  rfl

theorem narrow_sum (c : Fin 256) : k0_pay437 (k0_pay435 lanes q k) (k0_pay436 v) oneB (ix2 (stackRow i l) c)
    = ∑ x : Fin 128, Soft.wt (narrowRow q k i l) x * (if h : c.val < 128 then v (ix2 x ⟨c.val, h⟩) else 1) := by
  have h : ∀ (y : FVec Ideal S256x128 .f32) (u : Ideal .bf16) (r : Fin 256), k0_pay437 y (k0_pay436 v) u (ix2 r c)
      = ∑ x : Fin 128, y (ix2 r x) * (if h : c.val < 128 then v (ix2 x ⟨c.val, h⟩) else u) := by
    intro y u r
    pointwise [k0_pay437, k0_pay436]
  rw [h, show (oneB : Ideal .bf16) = 1 from bits_one16]
  simp only [narrow_wt]

theorem narrow_den : k0_pay438 lanes (k0_pay435 lanes q k) (k0_pay436 v) oneB (ix2 i l) = Soft.den (narrowRow q k i l) := by
  have h : ∀ (e : IVec S128x128 1) (y : FVec Ideal S256x128 .f32) (w : FVec Ideal S128x128 .bf16) (u : Ideal .bf16), k0_pay438 e y w u (ix2 i l)
      = Scalar.select (e (ix2 i l)) (k0_pay437 y w u (ix2 ⟨i.val, by omega⟩ ⟨128 + l.val, by omega⟩))
        (k0_pay437 y w u (ix2 ⟨128 + i.val, by omega⟩ ⟨128 + l.val, by omega⟩)) := by
    intro e y w u
    pointwise [k0_pay438]
  rw [h, choose_row i l (fun r => k0_pay437 (k0_pay435 lanes q k) (k0_pay436 v) oneB (ix2 r ⟨128 + l.val, by omega⟩)), narrow_sum]
  simp [Soft.den]

/-- A narrow tile's attention, at a row and a lane. -/
theorem narrowOut_at : narrowOut q k v (ix3 0 i l) = Soft.out (narrowRow q k i l) (fun j => v (ix2 j l)) := by
  have h : ∀ (e : IVec S128x128 1) (y : FVec Ideal S256x128 .f32) (w : FVec Ideal S128x128 .bf16) (u : Ideal .bf16), k0_pay439 e y w u (ix3 0 i l)
      = Ideal.div (Scalar.select (e (ix2 i l)) (k0_pay437 y w u (ix2 ⟨i.val, by omega⟩ ⟨l.val, by omega⟩))
        (k0_pay437 y w u (ix2 ⟨128 + i.val, by omega⟩ ⟨l.val, by omega⟩))) (k0_pay438 e y w u (ix2 i l)) := by
    intro e y w u
    pointwise [k0_pay439]
  rw [narrowOut, h, choose_row i l (fun r => k0_pay437 (k0_pay435 lanes q k) (k0_pay436 v) oneB (ix2 r ⟨l.val, by omega⟩)), narrow_sum, narrow_den]
  simp [Soft.out]

/-- A narrow tile's log-sum-exp, at a row and a lane. -/
theorem narrowLse_at : narrowLse q k v (ix3 0 i l) = Soft.lse (narrowRow q k i l) := by
  have h : ∀ (e : IVec S128x128 1) (t : FVec Ideal S256x1 .f32) (y : FVec Ideal S256x128 .f32) (w : FVec Ideal S128x128 .bf16) (u : Ideal .bf16),
      k0_pay440 e t y w u (ix3 0 i l)
      = Scalar.select (e (ix2 i l)) (t (ix2 ⟨i.val, by omega⟩ 0)) (t (ix2 ⟨128 + i.val, by omega⟩ 0))
        + Ideal.log (k0_pay438 e y w u (ix2 i l)) * Soft.log2e := by
    intro e t y w u
    pointwise [k0_pay440]
    rfl
  rw [narrowLse, h, choose_row i l (fun r => k0_pay434 lanes q k (ix2 r 0)), narrow_max, narrow_den]
  rfl

end Narrow

/-- The three mixed rows, at a row and a lane. -/
theorem joined_at (l0 l1 l2 o0 o1 o2 : Vec Ideal S1x512x128 .f32) (i : Fin 512) (l : Fin 128) (L O : Fin 3 → EReal)
    (h0 : l0 (ix3 0 i l) = L 0) (h1 : l1 (ix3 0 i l) = L 1) (h2 : l2 (ix3 0 i l) = L 2)
    (g0 : o0 (ix3 0 i l) = O 0) (g1 : o1 (ix3 0 i l) = O 1) (g2 : o2 (ix3 0 i l) = O 2) :
    joined l0 l1 l2 o0 o1 o2 (ix2 i l) = Ideal.div (Soft.wt L 0 * O 0 + Soft.wt L 1 * O 1 + Soft.wt L 2 * O 2)
      (Soft.wt L 0 + Soft.wt L 1 + Soft.wt L 2) := by
  have ht : Soft.top L = max (max (L 0) (L 1)) (L 2) := by
    simp [Soft.top, Fin.univ_succ, max_assoc]
  simp only [Soft.wt, ht, ← h0, ← h1, ← h2, ← g0, ← g1, ← g2]
  pointwise [joined, k0_pay441, k0_pay442, k0_pay443, k0_pay444, k0_pay445, k0_pay446, k0_pay447]
  rfl

end Cert.Proof.KernelIdeal

end
-- ==== Proof.Value.Meets.lean ====
/- A tile's row against the dense row of the reference: the same attention and, up to the change of base, the same
   log-sum-exp, whenever the tile's keys are spread among the sequence's as the window says. -/
module

public import proofs.«01_k».proof.Proof.Value.Tile

@[expose] public section

noncomputable section

namespace Cert.Proof.KernelIdeal

open Cert.KernelIdeal Cert.KernelIdeal.Gen Cert.Proof.Ref
open Idealize.ShloMosaic

/-- A log-sum-exp `L` to base 2 and an output `O` that agree with a dense row `s` to base e, of values `w`. -/
structure Meets (s w : Fin 2048 → EReal) (L O : EReal) : Prop where
  real : Soft.IsReal L
  lse : Soft.top s + Ideal.log (∑ u, Soft.wtE s u) = L * Soft.ln2
  out : Ideal.div (∑ u, w u * Soft.wtE s u) (∑ u, Soft.wtE s u) = O

/-- The dense row of a query `t` in window `g`. -/
def denseRow (Q K : Fin 2048 → Fin 128 → EReal) (g : Fin 3) (t : Fin 2048) (l : Fin 128) : Fin 2048 → EReal := fun u =>
  open Classical in if Reads g t.val u.val then headDot (Q t) (K u) l * Soft.ln2 else ⊥

variable (Q K V : Fin 2048 → Fin 128 → EReal) (g : Fin 3) (t : Fin 2048) (l : Fin 128)

theorem denseRow_reads (u : Fin 2048) (h : Reads g t.val u.val) : denseRow Q K g t l u = headDot (Q t) (K u) l * Soft.ln2 := by
  rw [denseRow, if_pos h]

theorem denseRow_off (u : Fin 2048) (h : ¬ Reads g t.val u.val) : denseRow Q K g t l u = ⊥ := by
  rw [denseRow, if_neg h]

theorem meets_of_spreads {ι : Type} [Fintype ι] (σ v : ι → EReal) (e : ι → Fin 2048) (P : ι → Prop) (s w : Fin 2048 → EReal)
    (h : Soft.Spreads σ s e P) (hv : ∀ j, P j → w (e j) = v j) (ht : ∀ j, σ j ≠ ⊤) (j₀ : ι) (hb : σ j₀ ≠ ⊥) :
    Meets s w (Soft.lse σ) (Soft.out σ v) :=
  ⟨Soft.lse_real σ ht j₀ hb, h.lse_eq, h.out_eq v w hv⟩

theorem ne_of_real {x : EReal} (h : Soft.IsReal x) : x ≠ ⊤ ∧ x ≠ ⊥ := by
  obtain ⟨r, rfl⟩ := h
  exact ⟨EReal.coe_ne_top _, EReal.coe_ne_bot _⟩

/-- The keys a row of a wide tile reads. -/
abbrev WideReads (n : BitVec 32) (i : Fin 128) (j : Fin 256) : Prop := i.val ≤ j.val ∧ j.val ≤ i.val + 128 ∧ (n ≠ 0#32 ∨ 128 ≤ j.val)

theorem wide_meets (n : BitVec 32) (q : Vec Ideal S128x128 .f32) (k v : Vec Ideal S256x128 .f32) (i : Fin 128) (e : Fin 256 → Fin 2048)
    (hq : ∀ x, q (ix2 i x) = Q t x) (hk : ∀ j, WideReads n i j → ∀ x, k (ix2 j x) = K (e j) x)
    (hv : ∀ j, WideReads n i j → ∀ x, v (ix2 j x) = V (e j) x)
    (hinj : ∀ j j', WideReads n i j → WideReads n i j' → e j = e j' → j = j')
    (hr : ∀ j, WideReads n i j → Reads g t.val (e j).val)
    (hs : ∀ u : Fin 2048, Reads g t.val u.val → ∃ j, WideReads n i j ∧ e j = u)
    (hreal : ∀ u, Soft.IsReal (headDot (Q t) (K u) l)) :
    Meets (denseRow Q K g t l) (fun u => V u l) (wideLse n q k v (ix3 0 i l)) (wideOut n q k v (ix3 0 i l)) := by
  have hσ : ∀ j, WideReads n i j → wideRow n q k i l j = headDot (Q t) (K (e j)) l := fun j hj => by
    rw [wideRow, if_pos hj]
    simp only [headDot, hq, hk j hj]
  rw [wideLse_at, wideOut_at]
  refine meets_of_spreads _ _ e (WideReads n i) _ _ ⟨fun j hj => ?_, fun j hj => by rw [wideRow, if_neg hj], hinj, fun u hu => ?_⟩
    (fun j hj => (hv j hj l).symm) (fun j => ?_) ⟨i.val + 128, by omega⟩ ?_
  · rw [denseRow_reads Q K g t l _ (hr j hj), hσ j hj]
  · refine denseRow_off Q K g t l u fun h => ?_
    obtain ⟨j, hj, rfl⟩ := hs u h
    exact hu j hj rfl
  · by_cases hj : WideReads n i j
    · rw [hσ j hj]
      exact (ne_of_real (hreal _)).1
    · rw [wideRow, if_neg hj]
      exact bot_ne_top
  · rw [hσ _ ⟨by simp, by simp, .inr (by simp)⟩]
    exact (ne_of_real (hreal _)).2

theorem narrow_meets (q k v : Vec Ideal S128x128 .f32) (i : Fin 128) (e : Fin 128 → Fin 2048)
    (hq : ∀ x, q (ix2 i x) = Q t x) (hk : ∀ j : Fin 128, j.val ≤ i.val → ∀ x, k (ix2 j x) = K (e j) x)
    (hv : ∀ j : Fin 128, j.val ≤ i.val → ∀ x, v (ix2 j x) = V (e j) x)
    (hinj : ∀ j j' : Fin 128, j.val ≤ i.val → j'.val ≤ i.val → e j = e j' → j = j')
    (hr : ∀ j : Fin 128, j.val ≤ i.val → Reads g t.val (e j).val)
    (hs : ∀ u : Fin 2048, Reads g t.val u.val → ∃ j : Fin 128, j.val ≤ i.val ∧ e j = u)
    (hreal : ∀ u, Soft.IsReal (headDot (Q t) (K u) l)) :
    Meets (denseRow Q K g t l) (fun u => V u l) (narrowLse q k v (ix3 0 i l)) (narrowOut q k v (ix3 0 i l)) := by
  have hσ : ∀ j : Fin 128, j.val ≤ i.val → narrowRow q k i l j = headDot (Q t) (K (e j)) l := fun j hj => by
    rw [narrowRow, if_pos hj]
    simp only [headDot, hq, hk j hj]
  rw [narrowLse_at, narrowOut_at]
  refine meets_of_spreads _ _ e (fun j => j.val ≤ i.val) _ _ ⟨fun j hj => ?_, fun j hj => by rw [narrowRow, if_neg hj], hinj, fun u hu => ?_⟩
    (fun j hj => (hv j hj l).symm) (fun j => ?_) i ?_
  · rw [denseRow_reads Q K g t l _ (hr j hj), hσ j hj]
  · refine denseRow_off Q K g t l u fun h => ?_
    obtain ⟨j, hj, rfl⟩ := hs u h
    exact hu j hj rfl
  · by_cases hj : j.val ≤ i.val
    · rw [hσ j hj]
      exact (ne_of_real (hreal _)).1
    · rw [narrowRow, if_neg hj]
      exact bot_ne_top
  · rw [hσ i le_rfl]
    exact (ne_of_real (hreal _)).2

end Cert.Proof.KernelIdeal
-- ==== Proof.Value.LeftAt.lean ====
/- What a launch step leaves in the result's window, read at a token and a lane: the three dense rows mixed. -/
module

public import proofs.«01_k».proof.Proof.Value.Meets

@[expose] public section

set_option maxRecDepth 16384

noncomputable section

namespace Cert.Proof.KernelIdeal

open Cert.KernelIdeal Cert.KernelIdeal.Gen Cert.Proof.Ref
open Idealize.ShloMosaic

/-! ## The copies read at a row -/

theorem eq_ix2 {n0 n1 : Nat} (y : (⟨2, ![n0, n1]⟩ : Shape).Idx) : y = ix2 (y 0) (y 1) := by
  funext a
  match a with
  | ⟨0, _⟩ => rfl
  | ⟨1, _⟩ => rfl

theorem eq_ix3 {n0 n1 n2 : Nat} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext t
  match t with
  | ⟨0, _⟩ => exact Fin.ext h0
  | ⟨1, _⟩ => exact Fin.ext h1
  | ⟨2, _⟩ => exact Fin.ext h2

section Copies

variable (x : Vec Ideal S1x2048x128 .bf16)

theorem pay3_at (r : Fin 2048) (l : Fin 128) : k0_pay3 x (ix2 r l) = x (ix3 0 r l) := by pointwise [k0_pay3]
theorem pay8_at (r : Fin 2048) (l : Fin 128) : k0_pay8 x (ix2 r l) = x (ix3 0 r l) := by pointwise [k0_pay8]
theorem vRows_at (r : Fin 2048) (l : Fin 128) : vRows x (ix2 r l) = x (ix3 0 r l) := by pointwise [vRows, k0_pay9, k0_pay10]

/-- A copy whose row `r` is the block's row `r`. -/
def Copies (w : S2048x128.Idx → Ideal .f32) : Prop := ∀ (r : Fin 2048) (l : Fin 128), w (ix2 r l) = x (ix3 0 r l)

theorem copies_q : Copies x (k0_pay3 x) := pay3_at x
theorem copies_k : Copies x (k0_pay8 x) := pay8_at x
theorem copies_v : Copies x (vRows x) := vRows_at x

variable {x} {w : S2048x128.Idx → Ideal .f32} (hw : Copies x w)
include hw

theorem at_row (y : S2048x128.Idx) (r : Fin 2048) (l : Fin 128) (h0 : (y 0).val = r.val) (h1 : (y 1).val = l.val) :
    w y = x (ix3 0 r l) := by
  rw [eq_ix2 y, show y 0 = r from Fin.ext h0, show y 1 = l from Fin.ext h1]
  exact hw r l

theorem stream_row (y : S2048x128.Idx) (r : Fin 2048) (l : Fin 128) (h0 : 4 * ((y 0).val % 512) + (y 0).val / 512 = r.val)
    (h1 : (y 1).val = l.val) : byStream w y = x (ix3 0 r l) := by
  unfold byStream
  exact at_row hw _ r l h0 h1

theorem shifted_row (z : S128x128.Idx → Ideal .f32) (y : S2176x128.Idx) (r : Fin 2048) (l : Fin 128) (h0 : (y 0).val = 128 + r.val)
    (h1 : (y 1).val = l.val) : shifted z w y = x (ix3 0 r l) := by
  unfold shifted
  rw [dif_neg (by omega)]
  exact at_row hw _ r l (by show (y 0).val - 128 = r.val; omega) h1

theorem shifted_stream (z : S128x128.Idx → Ideal .f32) (y : S2176x128.Idx) (r : Fin 2048) (l : Fin 128) (hy : 128 ≤ (y 0).val)
    (h0 : 4 * (((y 0).val - 128) % 512) + ((y 0).val - 128) / 512 = r.val)
    (h1 : (y 1).val = l.val) : shifted z (byStream w) y = x (ix3 0 r l) := by
  unfold shifted
  rw [dif_neg (by omega)]
  exact stream_row hw _ r l h0 h1

end Copies

/-! ## The three windows' rows -/

theorem word_ne : ∀ n : Fin 16, (BitVec.ofNat 32 n.val ≠ 0#32 ↔ n.val ≠ 0) := by decide
theorem word_ne4 : ∀ n : Fin 16, (BitVec.ofNat 32 (n.val % 4) ≠ 0#32 ↔ n.val % 4 ≠ 0) := by decide

variable (q k v : Vec Ideal S1x2048x128 .bf16)

/-- A block's rows. -/
abbrev rowsOf (x : Vec Ideal S1x2048x128 .bf16) : Fin 2048 → Fin 128 → EReal := fun u y => x (ix3 0 u y)

variable (t : Fin 2048) (l : Fin 128) (hreal : ∀ u, Soft.IsReal (headDot (rowsOf q t) (rowsOf k u) l))
include hreal

omit hreal in
theorem reads0 (t u : ℕ) : Reads 0 t u ↔ u ≤ t ∧ t - u ≤ 128 := by
  simp [Reads, reach, step, Nat.mod_one]
omit hreal in
theorem reads1 (t u : ℕ) : Reads 1 t u ↔ u ≤ t ∧ t - u ≤ 512 ∧ (t - u) % 4 = 0 := by
  simp [Reads, reach, step]
omit hreal in
theorem reads2 (t u : ℕ) : Reads 2 t u ↔ u ≤ t ∧ t - u ≤ 2048 ∧ (t - u) % 16 = 0 := by
  simp [Reads, reach, step]

theorem near_meets (n : Fin 16) (i : Fin 128) (ht : t.val = 128 * n.val + i.val) :
    Meets (denseRow (rowsOf q) (rowsOf k) 0 t l) (fun u => rowsOf v u l)
      (wideLse (BitVec.ofNat 32 n.val) (fun j => k0_pay3 q ((rows128 n).idx j))
        (fun j => shifted k0_pay4 (k0_pay8 k) ((rows256 n).idx j)) (fun j => shifted k0_pay5 (vRows v) ((rows256 n).idx j)) (ix3 0 i l))
      (wideOut (BitVec.ofNat 32 n.val) (fun j => k0_pay3 q ((rows128 n).idx j))
        (fun j => shifted k0_pay4 (k0_pay8 k) ((rows256 n).idx j)) (fun j => shifted k0_pay5 (vRows v) ((rows256 n).idx j)) (ix3 0 i l)) := by
  have hn := n.isLt
  have hi := i.isLt
  refine wide_meets (rowsOf q) (rowsOf k) (rowsOf v) 0 t l _ _ _ _ i (fun j => ⟨(128 * n.val + j.val + 1920) % 2048, Nat.mod_lt _ (by omega)⟩)
    (fun x => ?_) (fun j hj x => ?_) (fun j hj x => ?_) (fun j j' hj hj' h => ?_) (fun j hj => ?_) (fun u hu => ?_) hreal
  · refine at_row (copies_q q) _ t x ?_ ?_
    · show 128 * n.val + 1 * i.val = t.val; omega
    · show 0 + 1 * x.val = x.val; omega
  · rw [WideReads, word_ne] at hj
    refine shifted_row (copies_k k) _ _ _ x ?_ ?_
    · show 128 * n.val + 1 * j.val = 128 + (128 * n.val + j.val + 1920) % 2048; omega
    · show 0 + 1 * x.val = x.val; omega
  · rw [WideReads, word_ne] at hj
    refine shifted_row (copies_v v) _ _ _ x ?_ ?_
    · show 128 * n.val + 1 * j.val = 128 + (128 * n.val + j.val + 1920) % 2048; omega
    · show 0 + 1 * x.val = x.val; omega
  · rw [WideReads, word_ne] at hj hj'
    have := congrArg Fin.val h
    simp only at this
    omega
  · rw [WideReads, word_ne] at hj
    rw [reads0]
    simp only
    omega
  · rw [reads0] at hu
    have hlt := t.isLt
    exact ⟨⟨128 + i.val - (t.val - u.val), by omega⟩, by rw [WideReads, word_ne]; simp only; omega, Fin.ext (by simp only; omega)⟩

omit hreal in
theorem mid_key (n i j : ℕ) (hn : n < 16) (hi : i < 128) (hj : i ≤ j ∧ j ≤ i + 128 ∧ (n % 4 ≠ 0 ∨ 128 ≤ j)) :
    128 ≤ 128 * n + 1 * j
    ∧ 4 * ((128 * n + 1 * j - 128) % 512) + (128 * n + 1 * j - 128) / 512 = (512 * (n % 4) + 4 * j + n / 4 + 1536) % 2048
    ∧ (512 * (n % 4) + 4 * j + n / 4 + 1536) % 2048 + 4 * (128 + i - j) = 4 * (128 * (n % 4) + i) + n / 4 := by
  interval_cases n <;> omega

omit hreal in
theorem mid_place (n i u : ℕ) (hn : n < 16) (hi : i < 128)
    (hu : u ≤ 4 * (128 * (n % 4) + i) + n / 4 ∧ 4 * (128 * (n % 4) + i) + n / 4 - u ≤ 512 ∧ (4 * (128 * (n % 4) + i) + n / 4 - u) % 4 = 0) :
    (i ≤ 128 + i - (4 * (128 * (n % 4) + i) + n / 4 - u) / 4 ∧ 128 + i - (4 * (128 * (n % 4) + i) + n / 4 - u) / 4 ≤ i + 128
      ∧ (n % 4 ≠ 0 ∨ 128 ≤ 128 + i - (4 * (128 * (n % 4) + i) + n / 4 - u) / 4))
    ∧ (512 * (n % 4) + 4 * (128 + i - (4 * (128 * (n % 4) + i) + n / 4 - u) / 4) + n / 4 + 1536) % 2048 = u := by
  interval_cases n <;> omega

theorem mid_meets (n : Fin 16) (i : Fin 128) (ht : t.val = 4 * (128 * (n.val % 4) + i.val) + n.val / 4) :
    Meets (denseRow (rowsOf q) (rowsOf k) 1 t l) (fun u => rowsOf v u l)
      (wideLse (BitVec.ofNat 32 (n.val % 4)) (fun j => byStream (k0_pay3 q) ((rows128 n).idx j))
        (fun j => shifted k0_pay6 (byStream (k0_pay8 k)) ((rows256 n).idx j)) (fun j => shifted k0_pay7 (byStream (vRows v)) ((rows256 n).idx j)) (ix3 0 i l))
      (wideOut (BitVec.ofNat 32 (n.val % 4)) (fun j => byStream (k0_pay3 q) ((rows128 n).idx j))
        (fun j => shifted k0_pay6 (byStream (k0_pay8 k)) ((rows256 n).idx j)) (fun j => shifted k0_pay7 (byStream (vRows v)) ((rows256 n).idx j)) (ix3 0 i l)) := by
  have hn := n.isLt
  have hi := i.isLt
  refine wide_meets (rowsOf q) (rowsOf k) (rowsOf v) 1 t l _ _ _ _ i
    (fun j => ⟨(512 * (n.val % 4) + 4 * j.val + n.val / 4 + 1536) % 2048, Nat.mod_lt _ (by omega)⟩)
    (fun x => ?_) (fun j hj x => ?_) (fun j hj x => ?_) (fun j j' hj hj' h => ?_) (fun j hj => ?_) (fun u hu => ?_) hreal
  · refine stream_row (copies_q q) _ t x ?_ ?_
    · show 4 * ((128 * n.val + 1 * i.val) % 512) + (128 * n.val + 1 * i.val) / 512 = t.val; omega
    · show 0 + 1 * x.val = x.val; omega
  · rw [WideReads, word_ne4] at hj
    refine shifted_stream (copies_k k) _ _ _ x ?_ ?_ ?_
    · exact (mid_key n.val i.val j.val hn hi hj).1
    · exact (mid_key n.val i.val j.val hn hi hj).2.1
    · show 0 + 1 * x.val = x.val; omega
  · rw [WideReads, word_ne4] at hj
    refine shifted_stream (copies_v v) _ _ _ x ?_ ?_ ?_
    · exact (mid_key n.val i.val j.val hn hi hj).1
    · exact (mid_key n.val i.val j.val hn hi hj).2.1
    · show 0 + 1 * x.val = x.val; omega
  · rw [WideReads, word_ne4] at hj hj'
    have := congrArg Fin.val h
    simp only at this
    have h1 := (mid_key n.val i.val j.val hn hi hj).2.2
    have h2 := (mid_key n.val i.val j'.val hn hi hj').2.2
    exact Fin.ext (by omega)
  · rw [WideReads, word_ne4] at hj
    rw [reads1]
    have h1 := (mid_key n.val i.val j.val hn hi hj).2.2
    simp only
    omega
  · rw [reads1] at hu
    have h1 := mid_place n.val i.val u.val hn hi (ht ▸ hu)
    exact ⟨⟨128 + i.val - (t.val - u.val) / 4, by omega⟩, by rw [WideReads, word_ne4]; simp only; rw [ht]; exact h1.1, Fin.ext (by simp only; rw [ht]; exact h1.2)⟩

theorem far_meets (n : Fin 16) (i : Fin 128) (ht : t.val = 16 * i.val + n.val) :
    Meets (denseRow (rowsOf q) (rowsOf k) 2 t l) (fun u => rowsOf v u l)
      (narrowLse (fun j => byStream (k0_pay3 q) ((spreadQ n).idx j))
        (fun j => shifted k0_pay6 (byStream (k0_pay8 k)) ((spreadK n).idx j)) (fun j => shifted k0_pay7 (byStream (vRows v)) ((spreadK n).idx j)) (ix3 0 i l))
      (narrowOut (fun j => byStream (k0_pay3 q) ((spreadQ n).idx j))
        (fun j => shifted k0_pay6 (byStream (k0_pay8 k)) ((spreadK n).idx j)) (fun j => shifted k0_pay7 (byStream (vRows v)) ((spreadK n).idx j)) (ix3 0 i l)) := by
  have hn := n.isLt
  have hi := i.isLt
  have hq0 : ∀ j x : Fin 128, ((spreadQ n).idx (ix2 j x) 0).val = 512 * (n.val % 4) + n.val / 4 + 4 * j.val := fun j x => by
    show (k0_off5 (BitVec.ofNat 32 n.val) 0) + 4 * j.val = _
    rw [spreadQ_off]; rfl
  have hq1 : ∀ j x : Fin 128, ((spreadQ n).idx (ix2 j x) 1).val = x.val := fun j x => by
    show (k0_off5 (BitVec.ofNat 32 n.val) 1) + 1 * x.val = _
    rw [spreadQ_off]; show 0 + 1 * x.val = x.val; omega
  have hk0 : ∀ j x : Fin 128, ((spreadK n).idx (ix2 j x) 0).val = 128 + (512 * (n.val % 4) + n.val / 4) + 4 * j.val := fun j x => by
    show (k0_off6 (BitVec.ofNat 32 n.val) 0) + 4 * j.val = _
    rw [spreadK_off]; rfl
  have hk1 : ∀ j x : Fin 128, ((spreadK n).idx (ix2 j x) 1).val = x.val := fun j x => by
    show (k0_off6 (BitVec.ofNat 32 n.val) 1) + 1 * x.val = _
    rw [spreadK_off]; show 0 + 1 * x.val = x.val; omega
  refine narrow_meets (rowsOf q) (rowsOf k) (rowsOf v) 2 t l _ _ _ i (fun j => ⟨16 * j.val + n.val, by omega⟩)
    (fun x => ?_) (fun j hj x => ?_) (fun j hj x => ?_) (fun j j' hj hj' h => ?_) (fun j hj => ?_) (fun u hu => ?_) hreal
  · refine stream_row (copies_q q) _ t x ?_ (hq1 i x)
    rw [hq0]
    omega
  · refine shifted_stream (copies_k k) _ _ _ x ?_ ?_ (hk1 j x) <;> rw [hk0]
    · omega
    · simp only; omega
  · refine shifted_stream (copies_v v) _ _ _ x ?_ ?_ (hk1 j x) <;> rw [hk0]
    · omega
    · simp only; omega
  · have := congrArg Fin.val h
    simp only at this
    omega
  · rw [reads2]
    simp only
    omega
  · rw [reads2] at hu
    have hlt := t.isLt
    exact ⟨⟨i.val - (t.val - u.val) / 16, by omega⟩, by simp only; omega, Fin.ext (by simp only; omega)⟩

/-! ## The buffers -/

section Stored
variable {Val : EltTy → Type} {e : EltTy}
variable (a b : Fin 16 → S1x128x128.Idx → Val e) (d : Fin 16 → S1x128x128.Idx → Val e) (y : S3x2048x128.Idx) (u : ℕ) (l : Fin 128)

omit hreal in
theorem stored_near (hu : u < 2048) (h0 : (y 0).val = 0) (h1 : (y 1).val = u) (h2 : (y 2).val = l.val) :
    stored a b d y = a ⟨u / 128, by omega⟩ (ix3 0 ⟨u % 128, Nat.mod_lt _ (by omega)⟩ l) := by
  subst h1
  unfold stored
  rw [if_pos h0, show y 2 = l from Fin.ext h2, ← ix3_eq_valueIdx]

omit hreal in
theorem stored_mid (hu : u < 2048) (h0 : (y 0).val = 1) (h1 : (y 1).val = u) (h2 : (y 2).val = l.val) :
    stored a b d y = b ⟨u / 128, by omega⟩ (ix3 0 ⟨u % 128, Nat.mod_lt _ (by omega)⟩ l) := by
  subst h1
  unfold stored
  rw [if_neg (by omega), if_pos h0, show y 2 = l from Fin.ext h2, ← ix3_eq_valueIdx]

omit hreal in
theorem stored_far (hu : u < 2048) (h0 : (y 0).val = 2) (h1 : (y 1).val = u) (h2 : (y 2).val = l.val) :
    stored a b d y = d ⟨u / 512 + 4 * (u % 4), by omega⟩ (ix3 0 ⟨u % 512 / 4, by omega⟩ l) := by
  subst h1
  unfold stored
  rw [if_neg (by omega), if_neg (by omega), show y 2 = l from Fin.ext h2, ← ix3_eq_valueIdx]

end Stored

/-- The token's place in each plane's buffer. -/
theorem plane0 : Meets (denseRow (rowsOf q) (rowsOf k) 0 t l) (fun u => rowsOf v u l)
    (lses q k v ((tok ⟨t.val % 4, by omega⟩).idx (ix3 0 ⟨t.val / 4, by omega⟩ l)))
    (outs q k v ((tok ⟨t.val % 4, by omega⟩).idx (ix3 0 ⟨t.val / 4, by omega⟩ l))) := by
  have h1 : ((tok ⟨t.val % 4, by omega⟩).idx (ix3 0 ⟨t.val / 4, by omega⟩ l) 1).val = t.val := by
    show t.val % 4 + 4 * (t.val / 4) = t.val; omega
  have h2 : ((tok ⟨t.val % 4, by omega⟩).idx (ix3 0 ⟨t.val / 4, by omega⟩ l) 2).val = l.val := by
    show 0 + 1 * l.val = l.val; omega
  rw [lses, outs, stored_near _ _ _ _ t.val l t.isLt rfl h1 h2, stored_near _ _ _ _ t.val l t.isLt rfl h1 h2]
  exact near_meets q k v t l hreal ⟨t.val / 128, by omega⟩ ⟨t.val % 128, by omega⟩ (by simp only; omega)

theorem plane1 : Meets (denseRow (rowsOf q) (rowsOf k) 1 t l) (fun u => rowsOf v u l)
    (lses q k v ((strm 1 ⟨t.val % 4, by omega⟩).idx (ix3 0 ⟨t.val / 4, by omega⟩ l)))
    (outs q k v ((strm 1 ⟨t.val % 4, by omega⟩).idx (ix3 0 ⟨t.val / 4, by omega⟩ l))) := by
  have ht := t.isLt
  have h1 : ((strm 1 ⟨t.val % 4, by omega⟩).idx (ix3 0 ⟨t.val / 4, by omega⟩ l) 1).val = 512 * (t.val % 4) + t.val / 4 := by
    show 512 * (t.val % 4) + 1 * (t.val / 4) = _; omega
  have h2 : ((strm 1 ⟨t.val % 4, by omega⟩).idx (ix3 0 ⟨t.val / 4, by omega⟩ l) 2).val = l.val := by
    show 0 + 1 * l.val = l.val; omega
  rw [lses, outs, stored_mid _ _ _ _ (512 * (t.val % 4) + t.val / 4) l (by omega) rfl h1 h2,
    stored_mid _ _ _ _ (512 * (t.val % 4) + t.val / 4) l (by omega) rfl h1 h2]
  exact mid_meets q k v t l hreal ⟨(512 * (t.val % 4) + t.val / 4) / 128, by omega⟩ ⟨(512 * (t.val % 4) + t.val / 4) % 128, by omega⟩ (by simp only; omega)

theorem plane2 : Meets (denseRow (rowsOf q) (rowsOf k) 2 t l) (fun u => rowsOf v u l)
    (lses q k v ((strm 2 ⟨t.val % 4, by omega⟩).idx (ix3 0 ⟨t.val / 4, by omega⟩ l)))
    (outs q k v ((strm 2 ⟨t.val % 4, by omega⟩).idx (ix3 0 ⟨t.val / 4, by omega⟩ l))) := by
  have ht := t.isLt
  have h1 : ((strm 2 ⟨t.val % 4, by omega⟩).idx (ix3 0 ⟨t.val / 4, by omega⟩ l) 1).val = 512 * (t.val % 4) + t.val / 4 := by
    show 512 * (t.val % 4) + 1 * (t.val / 4) = _; omega
  have h2 : ((strm 2 ⟨t.val % 4, by omega⟩).idx (ix3 0 ⟨t.val / 4, by omega⟩ l) 2).val = l.val := by
    show 0 + 1 * l.val = l.val; omega
  rw [lses, outs, stored_far _ _ _ _ (512 * (t.val % 4) + t.val / 4) l (by omega) rfl h1 h2,
    stored_far _ _ _ _ (512 * (t.val % 4) + t.val / 4) l (by omega) rfl h1 h2]
  have e1 : (512 * (t.val % 4) + t.val / 4) / 512 = t.val % 4 := by omega
  have e2 : (512 * (t.val % 4) + t.val / 4) % 4 = t.val / 4 % 4 := by omega
  have e3 : (512 * (t.val % 4) + t.val / 4) % 512 = t.val / 4 := by omega
  exact far_meets q k v t l hreal ⟨(512 * (t.val % 4) + t.val / 4) / 512 + 4 * ((512 * (t.val % 4) + t.val / 4) % 4), by omega⟩
    ⟨(512 * (t.val % 4) + t.val / 4) % 512 / 4, by omega⟩ (by simp only [e1, e2, e3]; omega)

/-! ## The step's result -/

omit hreal in
theorem left_row : left q k v (ix3 0 t l) = joinedAt q k v ⟨t.val % 4, by omega⟩ (ix2 ⟨t.val / 4, by omega⟩ l) := by
  have h : ∀ w : S2048x128.Idx → Ideal .f32, @Eq EReal (k0_pay1 (F := Ideal) w (ix3 0 t l)) (w (ix2 t l)) := by
    intro w
    pointwise [k0_pay1]
  rw [left, h]
  exact congrArg (joinedAt q k v ⟨t.val % 4, by omega⟩) (ix2_eq_valueIdx (⟨t.val / 4, by omega⟩ : Fin 512) l).symm

/-- The step's result at a token and a lane: the three windows' outputs by the softmax of their log-sum-exps. -/
theorem left_at (s : Fin 3 → Fin 2048 → EReal) (hs : ∀ g, s g = denseRow (rowsOf q) (rowsOf k) g t l) :
    left q k v (ix3 0 t l) = ∑ g, Ideal.div
        (Soft.wtE (fun g => Soft.top (s g) + Ideal.log (∑ u, Soft.wtE (s g) u)) g)
        (∑ g', Soft.wtE (fun g => Soft.top (s g) + Ideal.log (∑ u, Soft.wtE (s g) u)) g')
      * Ideal.div (∑ u, rowsOf v u l * Soft.wtE (s g) u) (∑ u, Soft.wtE (s g) u) := by
  obtain ⟨L, O, h0, h1, h2, h3, h4, h5, hm⟩ : ∃ L O : Fin 3 → EReal,
      lses q k v ((tok ⟨t.val % 4, by omega⟩).idx (ix3 0 ⟨t.val / 4, by omega⟩ l)) = L 0
      ∧ lses q k v ((strm 1 ⟨t.val % 4, by omega⟩).idx (ix3 0 ⟨t.val / 4, by omega⟩ l)) = L 1
      ∧ lses q k v ((strm 2 ⟨t.val % 4, by omega⟩).idx (ix3 0 ⟨t.val / 4, by omega⟩ l)) = L 2
      ∧ outs q k v ((tok ⟨t.val % 4, by omega⟩).idx (ix3 0 ⟨t.val / 4, by omega⟩ l)) = O 0
      ∧ outs q k v ((strm 1 ⟨t.val % 4, by omega⟩).idx (ix3 0 ⟨t.val / 4, by omega⟩ l)) = O 1
      ∧ outs q k v ((strm 2 ⟨t.val % 4, by omega⟩).idx (ix3 0 ⟨t.val / 4, by omega⟩ l)) = O 2
      ∧ ∀ g, Meets (s g) (fun u => rowsOf v u l) (L g) (O g) := by
    refine ⟨![_, _, _], ![_, _, _], rfl, rfl, rfl, rfl, rfl, rfl, fun g => ?_⟩
    rw [hs g]
    obtain rfl | rfl | rfl : g = 0 ∨ g = 1 ∨ g = 2 := by omega
    · exact plane0 q k v t l hreal
    · exact plane1 q k v t l hreal
    · exact plane2 q k v t l hreal
  rw [left_row, joinedAt, joined_at _ _ _ _ _ _ _ _ L O h0 h1 h2 h3 h4 h5, ← Soft.mix L O fun g => (hm g).real]
  simp only [(hm _).lse, (hm _).out]

end Cert.Proof.KernelIdeal
-- ==== Proof.Value.Row.lean ====
/- The step's result against the reference's: a token and a lane of the block are a token and a column of the result. -/
module

public import proofs.«01_k».proof.Proof.Value.LeftAt
public import proofs.«01_k».proof.Proof.Value.RefAt

@[expose] public section

set_option maxRecDepth 16384

noncomputable section

namespace Cert.Proof.KernelIdeal

open Idealize.ShloMosaic

variable (x : Ref.Arg Ideal)

/-- Queries and keys are real numbers. -/
def RealQK : Prop := ∀ (b : Fin 16) (t : Fin 2048) (l : Fin 1024), Soft.IsReal (x (ix3 b t ⟨l.val, by omega⟩))

/-- The blocks of batch `b` and of the pair of heads `p`. -/
structure Blocks (b : Fin 16) (p : Fin 4) (q k v : Vec Ideal Cert.KernelIdeal.S1x2048x128 .bf16) : Prop where
  q : ∀ (u : Fin 2048) (y : Fin 128), q (ix3 0 u y) = x (ix3 b u ⟨128 * p.val + y.val, by omega⟩)
  k : ∀ (u : Fin 2048) (y : Fin 128), k (ix3 0 u y) = x (ix3 b u ⟨512 + (128 * p.val + y.val), by omega⟩)
  v : ∀ (u : Fin 2048) (y : Fin 128), v (ix3 0 u y) = x (ix3 b u ⟨1024 + (128 * p.val + y.val), by omega⟩)

/-- The reference's masked scores are the dense rows. -/
theorem masked_dense (b : Fin 16) (p : Fin 4) (q k v : Vec Ideal Cert.KernelIdeal.S1x2048x128 .bf16) (hb : Blocks x b p q k v)
    (g : Fin 3) (t : Fin 2048) (l : Fin 128) :
    (fun u => Ref.masked x (ix5 g b ⟨(128 * p.val + l.val) / 64, by omega⟩ t u)) = denseRow (rowsOf q) (rowsOf k) g t l := by
  funext u
  have hd : ∀ d : Fin 64, (128 * p.val + l.val) / 64 * 64 + d.val = 128 * p.val + (64 * (l.val / 64) + d.val) := fun d => by omega
  rw [Ref.masked_at, Ref.score_at, Scalar.select]
  by_cases h : Ref.Reads g t.val u.val
  · rw [denseRow_reads _ _ _ _ _ _ h, if_pos (show Ref.mask (ix3 g t u) = 1 from (Ref.mask_at g t u).2 h), headDot]
    simp only [Ref.qh_at, Ref.kh_at, rowsOf, hb.q, hb.k, hd]
  · rw [denseRow_off _ _ _ _ _ _ h, if_neg (show ¬ Ref.mask (ix3 g t u) = 1 from fun e => h ((Ref.mask_at g t u).1 e))]

theorem left_result (hx : RealQK x) (b : Fin 16) (p : Fin 4) (q k v : Vec Ideal Cert.KernelIdeal.S1x2048x128 .bf16) (hb : Blocks x b p q k v)
    (t : Fin 2048) (l : Fin 128) :
    left q k v (ix3 0 t l) = Ref.result x (ix3 b t ⟨128 * p.val + l.val, by omega⟩) := by
  have hreal : ∀ u, Soft.IsReal (headDot (rowsOf q t) (rowsOf k u) l) := fun u => by
    refine Soft.IsReal.sum _ _ fun d _ => Soft.IsReal.mul ?_ ?_
    · simp only [rowsOf, hb.q]
      exact hx b t ⟨_, by omega⟩
    · simp only [rowsOf, hb.k]
      exact hx b u ⟨_, by omega⟩
  have hv : ∀ u : Fin 2048, Ref.vh x (ix4 b ⟨(128 * p.val + l.val) / 64, by omega⟩ u ⟨(128 * p.val + l.val) % 64, by omega⟩) = rowsOf v u l := fun u => by
    rw [Ref.vh_at, rowsOf, hb.v]
    exact congrArg (fun c => x (ix3 b u c)) (Fin.ext (by simp only; omega))
  rw [left_at q k v t l hreal (fun g u => Ref.masked x (ix5 g b ⟨(128 * p.val + l.val) / 64, by omega⟩ t u))
    fun g => masked_dense x b p q k v hb g t l, Ref.result_at]
  simp only [Ref.alpha_at, Ref.mixW_at, Ref.lse_at, Ref.out_at, Ref.den_at, Ref.weight_at, Ref.rowMax_at, hv]
  rfl

end Cert.Proof.KernelIdeal
-- ==== Proof.Value.Out.lean ====
/- The result array after the run, at the extended reals: the reference's result of the same argument. -/
module

public import proofs.«01_k».proof.Proof.Value.Row
public import proofs.«01_k».proof.Proof.Ideal.Run
public import proofs.«01_k».proof.Proof.Gen.Pre_finite_qk
public import Idealize.ShloMosaic.Lib.Pipeline.ValueKit.Geometry

@[expose] public section

set_option maxRecDepth 16384

noncomputable section

namespace Cert.Proof.KernelIdeal

open Cert.KernelIdeal Cert.KernelIdeal.Gen
open Idealize.ShloMosaic Idealize.ShloMosaic.TcCoe
open Idealize.SL Idealize.SL.Sem

/-! ## The precondition -/

/-- What the precondition says of one entry. -/
theorem real_of_finite (x : FVec Ideal Cert.Pre_finite_qk.S16x2048x3072 .bf16)
    (h : Cert.Pre_finite_qk.fn (F := Ideal) x = fun _ => 1#1) : RealQK x := by
  intro b t l
  have hp := congrFun h (ix3 b t l)
  have hr : ∀ z : EReal, FloatOps.cmpf (F := Ideal) (φ := .f32) .olt (FloatOps.hostAbsf (F := Ideal) (φ := .f32) z) (Ideal.ofBits .f32 0x7F800000#32) = 1#1 → Soft.IsReal z := by
    intro z hz
    rw [show Ideal.ofBits .f32 0x7F800000#32 = ⊤ by simp [Ideal.ofBits, Ideal.ieee]] at hz
    refine Soft.IsReal.of_ne ?_ ?_
    · rintro rfl
      simp [FloatOps.cmpf, FloatOps.hostAbsf, Ideal.cmp] at hz
    · rintro rfl
      simp [FloatOps.cmpf, FloatOps.hostAbsf, Ideal.cmp] at hz
  refine hr _ (Eq.trans ?_ hp)
  symm
  pointwise [Cert.Pre_finite_qk.fn]

/-! ## The windows' blocks -/

variable (m : (ℓ : Loc nD τ sig) → Buf (Elt Ideal) ℓ)

theorem index0 : ∀ t : Fin cfg0.N, win0_0.index t = ![(grid0.coords t 0).val, 0, (grid0.coords t 1).val] :=
  (by decide +kernel : ∀ t : Fin grid0.N, _)
theorem index1 : ∀ t : Fin cfg0.N, win0_1.index t = ![(grid0.coords t 0).val, 0, 4 + (grid0.coords t 1).val] :=
  (by decide +kernel : ∀ t : Fin grid0.N, _)
theorem index2 : ∀ t : Fin cfg0.N, win0_2.index t = ![(grid0.coords t 0).val, 0, 8 + (grid0.coords t 1).val] :=
  (by decide +kernel : ∀ t : Fin grid0.N, _)
theorem index3 : ∀ t : Fin cfg0.N, win0_3.index t = ![(grid0.coords t 0).val, 0, (grid0.coords t 1).val] :=
  (by decide +kernel : ∀ t : Fin grid0.N, _)

/-- The argument on core `c`. -/
abbrev argOf (c : Dev nD) : Ref.Arg Ideal := m ((c.tc : Thread nD τ).loc main_arg0)

theorem blocks_at (c : Dev nD) (t : Fin cfg0.N) :
    Blocks (argOf m c) ⟨(grid0.coords t 0).val, (grid0.coords t 0).isLt⟩ ⟨(grid0.coords t 1).val, (grid0.coords t 1).isLt⟩
      (Gen.iblk m c 0 t) (Gen.iblk m c 1 t) (Gen.iblk m c 2 t) where
  q u y := by
    blk_simp [Gen.iblk]
    refine congrArg (argOf m c) ?_
    blk_ext [index0]
  k u y := by
    blk_simp [Gen.iblk]
    refine congrArg (argOf m c) ?_
    blk_ext [index1]
  v u y := by
    blk_simp [Gen.iblk]
    refine congrArg (argOf m c) ?_
    blk_ext [index2]

/-- The result's array after the launch. -/
theorem final_out (c : Dev nD) (hx : RealQK (argOf m c)) : (dats m 0 c).arrAt 3 cfg0.N = Ref.result (argOf m c) := by
  refine (dats m 0 c).arrAt_eq_of_covers 3 _ (by decide +kernel) fun t _ y => ?_
  blk_simp
  change leftAt m c t y = _
  rw [eq_ix3 y 0 (y 1) (y 2) (by have : (y 0).val < 1 := (y 0).isLt; simp only [Fin.val_zero]; omega) rfl rfl]
  refine (left_result (argOf m c) hx _ _ _ _ _ (blocks_at m c t) (y 1) (y 2)).trans (congrArg (Ref.result (argOf m c)) ?_)
  blk_ext [index3]

end Cert.Proof.KernelIdeal
-- ==== Proof.Value.Claims.lean ====
/- The claims about the dilated attention, each from the run of its program. -/
module

public import proofs.«01_k».proof.Defs
public import proofs.«01_k».proof.Proof.Value.Out
public import proofs.«01_k».proof.Proof.Gen.ReferenceIdeal.Run

@[expose] public section

noncomputable section

namespace Cert.Proof.KernelIdeal

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The kernel's run ends with the reference's result of the argument, the argument unchanged. -/
theorem run_value (hx : ∀ c, RealQK (argOf m c)) :
    θ_run defs (onTc (τ := τ) (main (F := Ideal))) ⟨m, fun _ => 0, ρ⟩ (fun r => ∀ c : Dev nD,
      r.2.mem ((c.tc : Thread nD τ).loc main_v0) = Ref.result (argOf m c)
      ∧ r.2.mem ((c.tc : Thread nD τ).loc main_arg0) = m ((c.tc : Thread nD τ).loc main_arg0)) :=
  (θ_run defs _ _).mono (fun _ h c => ⟨((h.1 c).1 3).trans (final_out m c (hx c)),
    ((h.1 c).1 2).trans (((dats m 0 c).arrAt_in 2 rfl _).trans (Gen.V_main_arg0 m c))⟩) (run_main m ρ)

end Cert.Proof.KernelIdeal

namespace Cert.Proof.Claims

open Idealize.ShloMosaic Idealize.SL.Sem

/-- The reference leaves its argument and has no counter. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The named constant stands for the printed one. -/
theorem preserves : Cert.preserves_Kernel_KernelIdeal :=
  IdealRules.named_const.statement Cert.KernelIdeal.κ "log2e" .f32 0x3FB8AA3B#32 (((Real.log 2)⁻¹ : ℝ) : EReal) rfl

/-- From arguments that agree, queries and keys real, kernel and reference end with the same result. -/
theorem algebraic : Cert.algebraic_KernelIdeal_ReferenceIdeal_pre_finite_qk := by
  intro m g m' g' hpre hagree
  refine ⟨_, KernelIdeal.run_value m g fun c => KernelIdeal.real_of_finite _ (hpre c), ?_⟩
  refine (θ_run Cert.ReferenceIdeal.defs _ _).mono (fun _ h c => ⟨(h c).1.trans ?_, (h c).2⟩)
    (Cert.ReferenceIdeal.Value.run (F := Ideal) m' g')
  exact (Ref.res_eq m' c).trans (congrArg Ref.result (hagree c))

end Cert.Proof.Claims

end
-- ==== Proof.Layer.Norm.lean ====
/- The layer's row functions at the extended reals: the normalisation of a row, a row against a column, and a
   sum over a row cut into equal pieces. -/
module

public import Idealize.ShloMosaic.PureOps.Ideal
public import Mathlib.Data.EReal.Operations
public import Mathlib.Logic.Equiv.Fin.Basic

@[expose] public section

noncomputable section

namespace Cert.Proof.Layer

open Idealize.ShloMosaic

/-- A row's inverse root mean square: the mean of the squares, with the printed literals for 1024 and for 1e-6. -/
def scale (x : Fin 1024 → EReal) : EReal :=
  Ideal.rsqrt (Ideal.div (∑ k, x k * x k) (Ideal.ofBits .f32 0x44800000#32) + Ideal.ofBits .f32 0x358637BD#32)

/-- A row normalised, with its gains. -/
def norm (x g : Fin 1024 → EReal) (k : Fin 1024) : EReal := x k * scale x * g k

/-- A row against a column. -/
def dot {n : Nat} (x w : Fin n → EReal) : EReal := ∑ k, x k * w k

/-- A hidden column of the feed-forward part: the gate's `silu` times the other product. -/
def hidden {n : Nat} (x wg wu : Fin n → EReal) : EReal := dot x wg * Ideal.logistic (dot x wg) * dot x wu

/-- The residual stream's row after the feed-forward part. -/
def ffn (x g : Fin 1024 → EReal) (wg wu : Fin 1024 → Fin 2816 → EReal) (wd : Fin 2816 → Fin 1024 → EReal) (l : Fin 1024) : EReal :=
  x l + ∑ f, hidden (norm x g) (fun k => wg k f) (fun k => wu k f) * wd f l

/-- The residual stream's row after the gated mix of the two mixers' outputs `a` and `b`. -/
def mix (x : Fin 1024 → EReal) (a b : Fin 512 → EReal) (g : Fin 1024 → EReal) (wa wb : Fin 1024 → Fin 1024 → EReal)
    (ua ub : Fin 512 → Fin 1024 → EReal) (wo : Fin 1024 → Fin 1024 → EReal) (l : Fin 1024) : EReal :=
  x l + ∑ f, (Ideal.logistic (dot (norm x g) fun k => wa k f) * dot a (fun k => ua k f)
    + Ideal.logistic (dot (norm x g) fun k => wb k f) * dot b (fun k => ub k f)) * wo f l

/-- A sum over a row is the sum over its pieces. -/
theorem sum_pieces (p n : Nat) (f : Fin (p * n) → EReal) :
    ∑ x, f x = ∑ c : Fin p, ∑ y : Fin n, f (finProdFinEquiv (c, y)) := by
  rw [← Fintype.sum_prod_type' (fun c y => f (finProdFinEquiv (c, y)))]
  exact (finProdFinEquiv.sum_comp f).symm

end Cert.Proof.Layer

end
-- ==== Proof.Ffn.Body.lean ====
/- The feed-forward kernel's block: the normalised rows, one piece of 256 hidden columns, and the eleven pieces in turn. -/
module

public import proofs.«01_k».proof.Proof.Gen.Kernel2Ideal.Value
public import proofs.«01_k».proof.Proof.Layer.Norm
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Ffn

open Idealize.ShloMosaic Cert.Kernel2Ideal Cert.Kernel2Ideal.Gen

variable {F : FTy → Type} [FloatOps F]

/-- A block's rows normalised, with their gains. -/
def rms (x : FVec F S512x1024 .f32) (g : FVec F S1x1024 .f32) : FVec F S512x1024 .f32 :=
  mulf (mulf x (broadcastTo S512x1024 (rsqrt (addf (divf (shapeCast S512x1 (multiReduction .add [1] S512 (mulf x x)
      0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024)) (broadcastTo S512x1024 g broadcasts_S1x1024_S512x1024)

/-- The normalised rows against 256 of a weight's columns. -/
def wide (n : FVec F S512x1024 .bf16) (w : FVec F S1x1024x256 .f32) : FVec F S512x256 .f32 :=
  matmul dot_S512x1024_S1024x256_S512x256_1_0_0_1_n_n none n
    (truncf .bf16 (shapeCast S1024x256 w shapeCasts_S1x1024x256_S1024x256) bitsLt_bf16_f32) (constant S512x256 .f32 0x00000000#32)

/-- What 256 hidden columns add to the residual stream. -/
def piece (n : FVec F S512x1024 .bf16) (wg wu : FVec F S1x1024x256 .f32) (wd : FVec F S1x256x1024 .f32) : FVec F S512x1024 .f32 :=
  matmul dot_S512x256_S256x1024_S512x1024_1_0_0_1_n_n none
    (truncf .bf16 (mulf (mulf (wide n wg) (logistic (wide n wg))) (wide n wu)) bitsLt_bf16_f32)
    (truncf .bf16 (shapeCast S256x1024 wd shapeCasts_S1x256x1024_S256x1024) bitsLt_bf16_f32) (constant S512x1024 .f32 0x00000000#32)

/-- The piece of hidden columns from `o` on, of the whole weights. -/
def pieceAt (n : FVec F S512x1024 .bf16) (wg wu : Vec F S1x1024x2816 .f32) (wd : Vec F S1x2816x1024 .f32) (o : Nat)
    (h : ∀ a, (![0, 0, o] : Fin 3 → Nat) a + S1x1024x256.size a ≤ S1x1024x2816.size a)
    (h' : ∀ a, (![0, o, 0] : Fin 3 → Nat) a + S1x256x1024.size a ≤ S1x2816x1024.size a) : FVec F S512x1024 .f32 :=
  piece n (View.ld wg (Rect.unit (s := S1x1024x2816) ![0, 0, o] S1x1024x256.size h))
    (View.ld wu (Rect.unit (s := S1x1024x2816) ![0, 0, o] S1x1024x256.size h))
    (View.ld wd (Rect.unit (s := S1x2816x1024) ![0, o, 0] S1x256x1024.size h'))

theorem inb_cols (c : Fin 11) : ∀ a, (![0, 0, 256 * c.val] : Fin 3 → Nat) a + S1x1024x256.size a ≤ S1x1024x2816.size a := by
  revert c; decide
theorem inb_rows (c : Fin 11) : ∀ a, (![0, 256 * c.val, 0] : Fin 3 → Nat) a + S1x256x1024.size a ≤ S1x2816x1024.size a := by
  revert c; decide

/-- The block's rows as the hidden columns multiply them. -/
def rows (x : Vec F S512x1024 .f32) (g : Vec F S1x1024 .f32) : FVec F S512x1024 .bf16 :=
  truncf .bf16 (rms (View.ld x r0_0) (View.ld g r0_1)) bitsLt_bf16_f32

/-- The stream after the first `k` pieces. -/
def stream (x : Vec F S512x1024 .f32) (g : Vec F S1x1024 .f32) (wg wu : Vec F S1x1024x2816 .f32) (wd : Vec F S1x2816x1024 .f32) :
    (k : Nat) → k ≤ 11 → FVec F S512x1024 .f32
  | 0, _ => View.ld x r0_0
  | k + 1, h => addf (stream x g wg wu wd k (by omega))
      (pieceAt (rows x g) wg wu wd (256 * k) (inb_cols ⟨k, h⟩) (inb_rows ⟨k, h⟩))

theorem out_eq (x : Vec F S512x1024 .f32) (g : Vec F S1x1024 .f32) (wg wu : Vec F S1x1024x2816 .f32) (wd : Vec F S1x2816x1024 .f32)
    (gf : Vec F S1x1024 .f32) :
    out0_6 x g wg wu wd gf = View.canon [⟨r0_0, rms (stream x g wg wu wd 11 le_rfl) (View.ld gf r0_1)⟩] := rfl

/-! ## At an index -/

theorem rms_at (x : FVec Ideal S512x1024 .f32) (g : FVec Ideal S1x1024 .f32) (r : Fin 512) (l : Fin 1024) :
    rms x g (ix2 r l) = Layer.norm (fun k => x (ix2 r k)) (fun k => g (ix2 0 k)) l := by
  pointwise [rms]
  rfl

theorem wide_at (n : FVec Ideal S512x1024 .bf16) (w : FVec Ideal S1x1024x256 .f32) (r : Fin 512) (f : Fin 256) :
    wide n w (ix2 r f) = Layer.dot (fun k => (n (ix2 r k) : EReal)) (fun k => w (ix3 0 k f)) := by
  pointwise [wide]
  rfl

theorem piece_of (a b : FVec Ideal S512x256 .f32) (wd : FVec Ideal S1x256x1024 .f32) (r : Fin 512) (l : Fin 1024) :
    matmul dot_S512x256_S256x1024_S512x1024_1_0_0_1_n_n none (truncf .bf16 (mulf (mulf a (logistic a)) b) bitsLt_bf16_f32)
      (truncf .bf16 (shapeCast S256x1024 wd shapeCasts_S1x256x1024_S256x1024) bitsLt_bf16_f32)
      (constant S512x1024 .f32 0x00000000#32) (ix2 r l)
      = ∑ f, a (ix2 r f) * Ideal.logistic (a (ix2 r f)) * b (ix2 r f) * wd (ix3 0 f l) := by
  pointwise

theorem ld_rows (x : Vec Ideal S512x1024 .f32) : View.ld x r0_0 = x := View.ld_unit_lit _ x (by decide)
theorem ld_gains (g : Vec Ideal S1x1024 .f32) : View.ld g r0_1 = g := View.ld_unit_lit _ g (by decide)

theorem ld_cols (w : Vec Ideal S1x1024x2816 .f32) (o : Nat) (h) (k : Fin 1024) (f : Fin 256) (ho : o + 256 ≤ 2816) :
    View.ld w (Rect.unit (s := S1x1024x2816) ![0, 0, o] S1x1024x256.size h) (ix3 0 k f) = w (ix3 0 k ⟨o + f.val, by omega⟩) := by
  refine View.ld_unit_apply_of w _ _ h _ _ fun a => ?_
  match a with
  | ⟨0, _⟩ => rfl
  | ⟨1, _⟩ => exact (Nat.zero_add _).symm
  | ⟨2, _⟩ => rfl

theorem ld_wrows (w : Vec Ideal S1x2816x1024 .f32) (o : Nat) (h) (f : Fin 256) (k : Fin 1024) (ho : o + 256 ≤ 2816) :
    View.ld w (Rect.unit (s := S1x2816x1024) ![0, o, 0] S1x256x1024.size h) (ix3 0 f k) = w (ix3 0 ⟨o + f.val, by omega⟩ k) := by
  refine View.ld_unit_apply_of w _ _ h _ _ fun a => ?_
  match a with
  | ⟨0, _⟩ => rfl
  | ⟨1, _⟩ => rfl
  | ⟨2, _⟩ => exact (Nat.zero_add _).symm

theorem pieceAt_at (n : Vec Ideal S512x1024 .bf16) (wg wu : Vec Ideal S1x1024x2816 .f32) (wd : Vec Ideal S1x2816x1024 .f32)
    (o : Nat) (h h') (ho : o + 256 ≤ 2816) (r : Fin 512) (l : Fin 1024) :
    pieceAt n wg wu wd o h h' (ix2 r l) = ∑ f : Fin 256, Layer.hidden (fun k => (n (ix2 r k) : EReal))
      (fun k => wg (ix3 0 k ⟨o + f.val, by omega⟩)) (fun k => wu (ix3 0 k ⟨o + f.val, by omega⟩))
      * wd (ix3 0 ⟨o + f.val, by omega⟩ l) := by
  rw [pieceAt, piece, piece_of]
  refine Finset.sum_congr rfl fun f _ => ?_
  have e : ∀ w : Vec Ideal S1x1024x2816 .f32, @Eq EReal (wide (F := Ideal) n (View.ld w (Rect.unit (s := S1x1024x2816) ![0, 0, o] S1x1024x256.size h)) (ix2 r f))
      (Layer.dot (fun k => (n (ix2 r k) : EReal)) (fun k => w (ix3 0 k ⟨o + f.val, by omega⟩))) := fun w =>
    (wide_at n _ r f).trans (congrArg _ (funext fun k => ld_cols w o h k f ho))
  exact congrArg₂ (fun a b : EReal => a * b) (congrArg₂ (fun a b : EReal => a * Ideal.logistic a * b) (e wg) (e wu))
    (ld_wrows wd o h' f l ho)

variable (x : Vec Ideal S512x1024 .f32) (g : Vec Ideal S1x1024 .f32) (wg wu : Vec Ideal S1x1024x2816 .f32)
  (wd : Vec Ideal S1x2816x1024 .f32) (gf : Vec Ideal S1x1024 .f32)

theorem rows_at (r : Fin 512) (l : Fin 1024) :
    (rows x g (ix2 r l) : EReal) = Layer.norm (fun k => x (ix2 r k)) (fun k => g (ix2 0 k)) l := by
  rw [rows, ld_rows, ld_gains]
  exact rms_at x g r l

/-- What hidden column `f` adds at a row and a lane. -/
def term (r : Fin 512) (l : Fin 1024) (f : Fin 2816) : EReal :=
  Layer.hidden (Layer.norm (fun k => x (ix2 r k)) (fun k => g (ix2 0 k))) (fun k => wg (ix3 0 k f)) (fun k => wu (ix3 0 k f))
    * wd (ix3 0 f l)

theorem stream_at (r : Fin 512) (l : Fin 1024) : ∀ (k : Nat) (hk : k ≤ 11), stream x g wg wu wd k hk (ix2 r l)
    = x (ix2 r l) + ∑ c : Fin k, ∑ f : Fin 256, term x g wg wu wd r l ⟨256 * c.val + f.val, by omega⟩
  | 0, _ => by
    rw [stream, ld_rows]
    simp
  | k + 1, hk => by
    rw [Fin.sum_univ_castSucc, ← add_assoc, stream]
    refine congrArg₂ (fun a b : EReal => a + b) (stream_at r l k (by omega)) ?_
    rw [pieceAt_at _ _ _ _ _ _ _ (by omega)]
    simp only [rows_at]
    rfl

theorem stream_all (r : Fin 512) (l : Fin 1024) : stream x g wg wu wd 11 le_rfl (ix2 r l)
    = Layer.ffn (fun k => x (ix2 r k)) (fun k => g (ix2 0 k)) (fun k f => wg (ix3 0 k f))
      (fun k f => wu (ix3 0 k f)) (fun f k => wd (ix3 0 f k)) l := by
  rw [stream_at, Layer.ffn]
  refine congrArg (x (ix2 r l) + ·) (Eq.trans ?_ (Layer.sum_pieces 11 256 (term x g wg wu wd r l)).symm)
  refine Finset.sum_congr rfl fun c _ => Finset.sum_congr rfl fun f _ => congrArg _ (Fin.ext ?_)
  exact Nat.add_comm _ _

/-- The block the kernel leaves. -/
theorem out_at (r : Fin 512) (l : Fin 1024) : out0_6 x g wg wu wd gf (ix2 r l)
    = Layer.norm (Layer.ffn (fun k => x (ix2 r k)) (fun k => g (ix2 0 k)) (fun k f => wg (ix3 0 k f))
      (fun k f => wu (ix3 0 k f)) (fun f k => wd (ix3 0 f k))) (fun k => gf (ix2 0 k)) l := by
  rw [out_eq, show View.canon _ = _ from View.canon_cons_unit_lit _ _ _ (by decide), ld_gains, rms_at]
  simp only [stream_all]

end Cert.Proof.Ffn

end
-- ==== Proof.Ffn.Ref.lean ====
/- The feed-forward part's reference: its operations under names, and each read at an index. -/
module

public import proofs.«01_k».proof.Proof.Gen.Reference2Ideal.Run
public import proofs.«01_k».proof.Proof.Layer.Norm
public import Idealize.ShloMosaic.Lib.Pointwise

@[expose] public section

set_option maxRecDepth 16384

noncomputable section

namespace Cert.Proof.Ffn.Ref

open Idealize.ShloMosaic Cert.Reference2Ideal Facts₀ Facts

variable {F : FTy → Type} [FloatOps F]

/-- The rows normalised, with their gains. -/
def rms (x : FVec F S32768x1024 .f32) (g : FVec F S1x1024 .f32) : FVec F S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 (shapeCast _ g shapeCasts_S1x1024_S1024)))

/-- The normalised rows against a weight's columns. -/
def wide (n : FVec F S32768x1024 .f32) (w : FVec F S1x1024x2816 .f32) : FVec F S32768x2816 .f32 :=
  Host.dotGeneral dot_S32768x1024_S1024x2816_S32768x2816_1_0_0_1_n_n none n
    (shapeCast _ w shapeCasts_S1x1024x2816_S1024x2816)

/-- `silu` of the gate. -/
def silu (z : FVec F S32768x2816 .f32) : FVec F S32768x2816 .f32 :=
  mulf z (Host.divf (broadcastInDim S32768x2816 ![] bcast_S_S32768x2816 (constant S_ .f32 0x3F800000#32))
    (addf (broadcastInDim S32768x2816 ![] bcast_S_S32768x2816 (constant S_ .f32 0x3F800000#32)) (Host.exp (Host.negf z))))

/-- The residual stream after the feed-forward part. -/
def stream (h : FVec F S32768x1024 .f32) (g : FVec F S1x1024 .f32) (wg wu : FVec F S1x1024x2816 .f32)
    (wd : FVec F S1x2816x1024 .f32) : FVec F S32768x1024 .f32 :=
  addf h (Host.dotGeneral dot_S32768x2816_S2816x1024_S32768x1024_1_0_0_1_n_n none
    (mulf (silu (wide (rms h g) wg)) (wide (rms h g) wu)) (shapeCast _ wd shapeCasts_S1x2816x1024_S2816x1024))

/-- The result. -/
def result (h : FVec F S32768x1024 .f32) (g : FVec F S1x1024 .f32) (wg wu : FVec F S1x1024x2816 .f32)
    (wd : FVec F S1x2816x1024 .f32) (gf : FVec F S1x1024 .f32) : FVec F S32768x1024 .f32 :=
  rms (stream h g wg wu wd) gf

theorem res_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  unfold Value.res_out0 Value.res_main_v36
  rfl

/-! ## At an index -/

theorem rms_at (x : FVec Ideal S32768x1024 .f32) (g : FVec Ideal S1x1024 .f32) (r : Fin 32768) (l : Fin 1024) :
    rms x g (ix2 r l) = Layer.norm (fun k => x (ix2 r k)) (fun k => g (ix2 0 k)) l := by
  pointwise [rms]
  rfl

theorem wide_at (n : FVec Ideal S32768x1024 .f32) (w : FVec Ideal S1x1024x2816 .f32) (r : Fin 32768) (f : Fin 2816) :
    wide n w (ix2 r f) = Layer.dot (fun k => n (ix2 r k)) (fun k => w (ix3 0 k f)) := by
  pointwise [wide]
  rfl

theorem silu_at (z : FVec Ideal S32768x2816 .f32) (r : Fin 32768) (f : Fin 2816) :
    silu z (ix2 r f) = z (ix2 r f) * Ideal.logistic (z (ix2 r f)) := by
  pointwise [silu]
  rfl

theorem stream_of (h : FVec Ideal S32768x1024 .f32) (a b : FVec Ideal S32768x2816 .f32)
    (wd : FVec Ideal S1x2816x1024 .f32) (r : Fin 32768) (l : Fin 1024) :
    addf h (Host.dotGeneral dot_S32768x2816_S2816x1024_S32768x1024_1_0_0_1_n_n none
      (mulf a b) (shapeCast _ wd shapeCasts_S1x2816x1024_S2816x1024)) (ix2 r l)
      = h (ix2 r l) + ∑ f, a (ix2 r f) * b (ix2 r f) * wd (ix3 0 f l) := by
  pointwise

theorem stream_at (h : FVec Ideal S32768x1024 .f32) (g : FVec Ideal S1x1024 .f32) (wg wu : FVec Ideal S1x1024x2816 .f32)
    (wd : FVec Ideal S1x2816x1024 .f32) (r : Fin 32768) (l : Fin 1024) :
    stream h g wg wu wd (ix2 r l) = Layer.ffn (fun k => h (ix2 r k)) (fun k => g (ix2 0 k)) (fun k f => wg (ix3 0 k f))
      (fun k f => wu (ix3 0 k f)) (fun f k => wd (ix3 0 f k)) l := by
  rw [stream, stream_of]
  simp only [silu_at, wide_at, rms_at]
  rfl

theorem result_at (h : FVec Ideal S32768x1024 .f32) (g : FVec Ideal S1x1024 .f32) (wg wu : FVec Ideal S1x1024x2816 .f32)
    (wd : FVec Ideal S1x2816x1024 .f32) (gf : FVec Ideal S1x1024 .f32) (r : Fin 32768) (l : Fin 1024) :
    result h g wg wu wd gf (ix2 r l) = Layer.norm (Layer.ffn (fun k => h (ix2 r k)) (fun k => g (ix2 0 k))
      (fun k f => wg (ix3 0 k f)) (fun k f => wu (ix3 0 k f)) (fun f k => wd (ix3 0 f k))) (fun k => gf (ix2 0 k)) l := by
  rw [result, rms_at]
  simp only [stream_at]

end Cert.Proof.Ffn.Ref

end
-- ==== Proof.Ffn.Out.lean ====
/- The feed-forward kernel's array after the run is its reference's result; the claims about the two. -/
module

public import proofs.«01_k».proof.Defs
public import proofs.«01_k».proof.Proof.Ffn.Body
public import proofs.«01_k».proof.Proof.Ffn.Ref
public import Idealize.ShloMosaic.Lib.Pipeline.ValueKit.Geometry
public import Idealize.ShloMosaic.Adequacy
public import Idealize.ShloMosaic.Init

@[expose] public section

set_option maxRecDepth 16384

noncomputable section

namespace Cert.Proof.Ffn

open Cert.Kernel2Ideal Cert.Kernel2Ideal.Gen
open Idealize.ShloMosaic Idealize.ShloMosaic.TcCoe
open Idealize.SL Idealize.SL.Sem

variable (m : (ℓ : Loc nD τ sig) → Buf (Elt Ideal) ℓ)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![(grid0.coords t 0).val, 0] := (by decide +kernel : ∀ t : Fin grid0.N, _)

/-- The reference's result of the arguments on core `c`. -/
abbrev want (c : Dev nD) : FVec Ideal S32768x1024 .f32 :=
  Ref.result (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

theorem rows_blk (c : Dev nD) (t : Fin cfg0.N) (r : Fin 512) (k : Fin 1024) (h : (grid0.coords t 0).val * 512 + r.val < 32768) :
    Gen.iblk m c 0 t (ix2 r k) = m ((c.tc : Thread nD τ).loc main_arg0) (ix2 ⟨(grid0.coords t 0).val * 512 + r.val, h⟩ k) := by
  blk_simp [Gen.iblk]
  refine congrArg (m ((c.tc : Thread nD τ).loc main_arg0)) ?_
  blk_ext [index0]

theorem g_blk (c : Dev nD) (t : Fin cfg0.N) : Gen.iblk m c 1 t = m ((c.tc : Thread nD τ).loc main_arg1) := by
  funext y
  blk_simp [Gen.iblk]
  refine congrArg (m ((c.tc : Thread nD τ).loc main_arg1)) ?_
  blk_ext [index1]

theorem wg_blk (c : Dev nD) (t : Fin cfg0.N) : Gen.iblk m c 2 t = m ((c.tc : Thread nD τ).loc main_arg2) := by
  funext y
  blk_simp [Gen.iblk]
  refine congrArg (m ((c.tc : Thread nD τ).loc main_arg2)) ?_
  blk_ext [index2]

theorem wu_blk (c : Dev nD) (t : Fin cfg0.N) : Gen.iblk m c 3 t = m ((c.tc : Thread nD τ).loc main_arg3) := by
  funext y
  blk_simp [Gen.iblk]
  refine congrArg (m ((c.tc : Thread nD τ).loc main_arg3)) ?_
  blk_ext [index3]

theorem wd_blk (c : Dev nD) (t : Fin cfg0.N) : Gen.iblk m c 4 t = m ((c.tc : Thread nD τ).loc main_arg4) := by
  funext y
  blk_simp [Gen.iblk]
  refine congrArg (m ((c.tc : Thread nD τ).loc main_arg4)) ?_
  blk_ext [index4]

theorem gf_blk (c : Dev nD) (t : Fin cfg0.N) : Gen.iblk m c 5 t = m ((c.tc : Thread nD τ).loc main_arg5) := by
  funext y
  blk_simp [Gen.iblk]
  refine congrArg (m ((c.tc : Thread nD τ).loc main_arg5)) ?_
  blk_ext [index5]

theorem block_eq (c : Dev nD) (t : Fin cfg0.N) (r : Fin 512) (l : Fin 1024) (h : (grid0.coords t 0).val * 512 + r.val < 32768) :
    out0_6 (F := Ideal) (Gen.iblk m c 0 t) (Gen.iblk m c 1 t) (Gen.iblk m c 2 t) (Gen.iblk m c 3 t) (Gen.iblk m c 4 t)
      (Gen.iblk m c 5 t) (ix2 r l) = want m c (ix2 ⟨(grid0.coords t 0).val * 512 + r.val, h⟩ l) := by
  rw [out_at, want, Ref.result_at, g_blk, wg_blk, wu_blk, wd_blk, gf_blk]
  simp only [rows_blk m c t r _ h]

/-- The kernel's array after the run. -/
theorem final_out (c : Dev nD) : (dats m 0 c).arrAt 6 cfg0.N = want m c := by
  refine (dats m 0 c).arrAt_eq_of_covers 6 _ (by decide +kernel) fun t _ y => ?_
  rw [after0_6]
  blk_simp
  have ht : (grid0.coords t 0).val < 64 := (grid0.coords t 0).isLt
  have hr : (y 0).val < 512 := (y 0).isLt
  rw [show y = ix2 (y 0) (y 1) from eq_ix2 y]
  refine (block_eq m c t (y 0) (y 1) (by omega)).trans (congrArg (want m c) ?_)
  blk_ext [index6]

/-! ## The claims -/

theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- From arguments that agree, kernel and reference end with the same result. -/
theorem algebraic : Cert.algebraic_Kernel2Ideal_Reference2Ideal := by
  intro m g m' g' _ hagree
  refine ⟨fun c => want m c, (θ_run defs _ _).mono (fun _ h c => ⟨(h c).1.trans (final_out m c), (h c).2⟩)
    (Cert.Kernel2Ideal.Value.run_blocks (F := Ideal) m g), ?_⟩
  refine (θ_run Cert.Reference2Ideal.defs _ _).mono (fun _ h c => ⟨(h c).1.trans ?_, (h c).2⟩)
    (Cert.Reference2Ideal.Value.run (F := Ideal) m' g')
  refine (Ref.res_eq m' c).trans ?_
  obtain ⟨h0, h1, h2, h3, h4, h5⟩ := hagree c
  rw [h0, h1, h2, h3, h4, h5]

end Cert.Proof.Ffn

end
-- ==== Proof.Mix.Body.lean ====
/- The gated mix's block: its operations under names, and each read at an index. -/
module

public import proofs.«01_k».proof.Proof.Gen.Kernel3Ideal.Value
public import proofs.«01_k».proof.Proof.Layer.Norm
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.Mix

open Idealize.ShloMosaic Cert.Kernel3Ideal Cert.Kernel3Ideal.Gen

variable {F : FTy → Type} [FloatOps F]

/-- The block's rows against a gate's columns, before the logistic. -/
def gate (n : FVec F S1024x1024 .bf16) (w : FVec F S1x1024x1024 .f32) : FVec F S1024x1024 .f32 :=
  matmul dot_S1024x1024_S1024x1024_S1024x1024_1_0_0_1_n_n none n
    (truncf .bf16 (shapeCast S1024x1024 w shapeCasts_S1x1024x1024_S1024x1024) bitsLt_bf16_f32) (constant S1024x1024 .f32 0x00000000#32)

/-- A mixer's output brought up to the layer's width. -/
def up (o : FVec F S1024x512 .bf16) (w : FVec F S1x512x1024 .f32) : FVec F S1024x1024 .f32 :=
  matmul dot_S1024x512_S512x1024_S1024x1024_1_0_0_1_n_n none o
    (truncf .bf16 (shapeCast S512x1024 w shapeCasts_S1x512x1024_S512x1024) bitsLt_bf16_f32) (constant S1024x1024 .f32 0x00000000#32)

/-- The block's residual stream with the mix added. -/
def stream (x a b : FVec F S1024x1024 .f32) (w : FVec F S1x1024x1024 .f32) : FVec F S1024x1024 .f32 :=
  addf x (gate (truncf .bf16 (addf a b) bitsLt_bf16_f32) w)

theorem out_eq (x : Vec F S1024x1024 .f32) (oa ob : Vec F S1024x512 .bf16) (g : Vec F S1x1024 .f32) (wa wb : Vec F S1x1024x1024 .f32)
    (ua ub : Vec F S1x512x1024 .f32) (wo : Vec F S1x1024x1024 .f32) :
    out0_9 x oa ob g wa wb ua ub wo = View.canon [⟨r0_0, stream (View.ld x r0_0)
      (mulf (logistic (gate (k0_pay2 (View.ld x r0_0) (View.ld g r0_1)) (View.ld wa r0_2))) (up (View.ld oa r0_3) (View.ld ua r0_4)))
      (mulf (logistic (gate (k0_pay2 (View.ld x r0_0) (View.ld g r0_1)) (View.ld wb r0_2))) (up (View.ld ob r0_3) (View.ld ub r0_4)))
      (View.ld wo r0_2)⟩] := rfl

/-! ## At an index -/

theorem rms_at (x : FVec Ideal S1024x1024 .f32) (g : FVec Ideal S1x1024 .f32) (r l : Fin 1024) :
    @Eq EReal (k0_pay2 (F := Ideal) x g (ix2 r l)) (Layer.norm (fun k => x (ix2 r k)) (fun k => g (ix2 0 k)) l) := by
  pointwise [k0_pay2]
  rfl

theorem gate_at (n : FVec Ideal S1024x1024 .bf16) (w : FVec Ideal S1x1024x1024 .f32) (r l : Fin 1024) :
    gate n w (ix2 r l) = Layer.dot (fun k => (n (ix2 r k) : EReal)) (fun k => w (ix3 0 k l)) := by
  pointwise [gate]
  rfl

theorem up_at (o : FVec Ideal S1024x512 .bf16) (w : FVec Ideal S1x512x1024 .f32) (r l : Fin 1024) :
    up o w (ix2 r l) = Layer.dot (fun k => (o (ix2 r k) : EReal)) (fun k => w (ix3 0 k l)) := by
  pointwise [up]
  rfl

theorem stream_at (x z u z' u' : FVec Ideal S1024x1024 .f32) (w : FVec Ideal S1x1024x1024 .f32) (r l : Fin 1024) :
    stream x (mulf (logistic z) u) (mulf (logistic z') u') w (ix2 r l)
      = x (ix2 r l) + ∑ f, (Ideal.logistic (z (ix2 r f)) * u (ix2 r f) + Ideal.logistic (z' (ix2 r f)) * u' (ix2 r f)) * w (ix3 0 f l) := by
  pointwise [stream, gate]

theorem ld_rows (x : Vec Ideal S1024x1024 .f32) : View.ld x r0_0 = x := View.ld_unit_lit _ x (by decide)
theorem ld_gains (g : Vec Ideal S1x1024 .f32) : View.ld g r0_1 = g := View.ld_unit_lit _ g (by decide)
theorem ld_square (w : Vec Ideal S1x1024x1024 .f32) : View.ld w r0_2 = w := View.ld_unit_lit _ w (by decide)
theorem ld_mixer (o : Vec Ideal S1024x512 .bf16) : View.ld o r0_3 = o := View.ld_unit_lit _ o (by decide)
theorem ld_up (w : Vec Ideal S1x512x1024 .f32) : View.ld w r0_4 = w := View.ld_unit_lit _ w (by decide)

/-- The block the kernel leaves. -/
theorem out_at (x : Vec Ideal S1024x1024 .f32) (oa ob : Vec Ideal S1024x512 .bf16) (g : Vec Ideal S1x1024 .f32)
    (wa wb : Vec Ideal S1x1024x1024 .f32) (ua ub : Vec Ideal S1x512x1024 .f32) (wo : Vec Ideal S1x1024x1024 .f32) (r l : Fin 1024) :
    out0_9 x oa ob g wa wb ua ub wo (ix2 r l) = Layer.mix (fun k => x (ix2 r k)) (fun k => oa (ix2 r k)) (fun k => ob (ix2 r k))
      (fun k => g (ix2 0 k)) (fun k f => wa (ix3 0 k f)) (fun k f => wb (ix3 0 k f))
      (fun k f => ua (ix3 0 k f)) (fun k f => ub (ix3 0 k f)) (fun f k => wo (ix3 0 f k)) l := by
  rw [out_eq, show View.canon _ = _ from View.canon_cons_unit_lit _ _ _ (by decide), ld_rows, ld_gains, ld_square, ld_square,
    ld_square, ld_mixer, ld_mixer, ld_up, ld_up, stream_at]
  simp only [gate_at, up_at, rms_at]
  rfl

end Cert.Proof.Mix

end
-- ==== Proof.Mix.Ref.lean ====
/- The gated mix's reference: its operations under names, and each read at an index. -/
module

public import proofs.«01_k».proof.Proof.Gen.Reference3Ideal.Run
public import proofs.«01_k».proof.Proof.Layer.Norm
public import Idealize.ShloMosaic.Lib.Pointwise

@[expose] public section

set_option maxRecDepth 16384

noncomputable section

namespace Cert.Proof.Mix.Ref

open Idealize.ShloMosaic Cert.Reference3Ideal Facts₀ Facts

variable {F : FTy → Type} [FloatOps F]

/-- The rows normalised, with their gains. -/
def rms (x : FVec F S32768x1024 .f32) (g : FVec F S1x1024 .f32) : FVec F S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 (shapeCast _ g shapeCasts_S1x1024_S1024)))

/-- The first mixer's gate, before the logistic. -/
def gateA (n : FVec F S32768x1024 .f32) (w : FVec F S1x1024x5120 .f32) : FVec F S32768x1024 .f32 :=
  Host.dotGeneral dot_S32768x1024_S1024x1024_S32768x1024_1_0_0_1_n_n none n (shapeCast _
    (extractStridedSlice S1x1024x1024 ![0, 0, 3072] w slices_S1x1024x5120_S1x1024x1024_0_0_3072) shapeCasts_S1x1024x1024_S1024x1024)

/-- The second mixer's gate, before the logistic. -/
def gateB (n : FVec F S32768x1024 .f32) (w : FVec F S1x1024x5120 .f32) : FVec F S32768x1024 .f32 :=
  Host.dotGeneral dot_S32768x1024_S1024x1024_S32768x1024_1_0_0_1_n_n none n (shapeCast _
    (extractStridedSlice S1x1024x1024 ![0, 0, 4096] w slices_S1x1024x5120_S1x1024x1024_0_0_4096) shapeCasts_S1x1024x1024_S1024x1024)

/-- A mixer's output brought up to the layer's width. -/
def up (o : FVec F S32768x512 .bf16) (w : FVec F S1x512x1024 .f32) : FVec F S32768x1024 .f32 :=
  Host.dotGeneral dot_S32768x512_S512x1024_S32768x1024_1_0_0_1_n_n none (extf .f32 o bitsLt_bf16_f32)
    (shapeCast _ w shapeCasts_S1x512x1024_S512x1024)

/-- The logistic of a gate, times what it lets through. -/
def gated (z u : FVec F S32768x1024 .f32) : FVec F S32768x1024 .f32 :=
  mulf (Host.divf (broadcastInDim S32768x1024 ![] bcast_S_S32768x1024 (constant S_ .f32 0x3F800000#32))
    (addf (broadcastInDim S32768x1024 ![] bcast_S_S32768x1024 (constant S_ .f32 0x3F800000#32)) (Host.exp (Host.negf z)))) u

/-- The residual stream with the mix, through the layer's output weight, added. -/
def stream (h a b : FVec F S32768x1024 .f32) (w : FVec F S1x1024x1024 .f32) : FVec F S32768x1024 .f32 :=
  addf h (Host.dotGeneral dot_S32768x1024_S1024x1024_S32768x1024_1_0_0_1_n_n none (addf a b)
    (shapeCast _ w shapeCasts_S1x1024x1024_S1024x1024))

/-- The result. -/
def result (h : FVec F S32768x1024 .f32) (oa ob : FVec F S32768x512 .bf16) (g : FVec F S1x1024 .f32)
    (w : FVec F S1x1024x5120 .f32) (ua ub : FVec F S1x512x1024 .f32) (wo : FVec F S1x1024x1024 .f32) : FVec F S32768x1024 .f32 :=
  stream h (gated (gateA (rms h g) w) (up oa ua)) (gated (gateB (rms h g) w) (up ob ub)) wo

/-! ## At an index -/

theorem rms_at (x : FVec Ideal S32768x1024 .f32) (g : FVec Ideal S1x1024 .f32) (r : Fin 32768) (l : Fin 1024) :
    rms x g (ix2 r l) = Layer.norm (fun k => x (ix2 r k)) (fun k => g (ix2 0 k)) l := by
  pointwise [rms]
  rfl

theorem gateA_at (n : FVec Ideal S32768x1024 .f32) (w : FVec Ideal S1x1024x5120 .f32) (r : Fin 32768) (l : Fin 1024) :
    gateA n w (ix2 r l) = Layer.dot (fun k => n (ix2 r k)) (fun k => w (ix3 0 k ⟨3072 + l.val, by omega⟩)) := by
  pointwise [gateA]
  rfl

theorem gateB_at (n : FVec Ideal S32768x1024 .f32) (w : FVec Ideal S1x1024x5120 .f32) (r : Fin 32768) (l : Fin 1024) :
    gateB n w (ix2 r l) = Layer.dot (fun k => n (ix2 r k)) (fun k => w (ix3 0 k ⟨4096 + l.val, by omega⟩)) := by
  pointwise [gateB]
  rfl

theorem up_at (o : FVec Ideal S32768x512 .bf16) (w : FVec Ideal S1x512x1024 .f32) (r : Fin 32768) (l : Fin 1024) :
    up o w (ix2 r l) = Layer.dot (fun k => (o (ix2 r k) : EReal)) (fun k => w (ix3 0 k l)) := by
  pointwise [up]
  rfl

theorem gated_at (z u : FVec Ideal S32768x1024 .f32) (r : Fin 32768) (l : Fin 1024) :
    gated z u (ix2 r l) = Ideal.logistic (z (ix2 r l)) * u (ix2 r l) := by
  pointwise [gated]
  rfl

theorem stream_at (h a b : FVec Ideal S32768x1024 .f32) (w : FVec Ideal S1x1024x1024 .f32) (r : Fin 32768) (l : Fin 1024) :
    stream h a b w (ix2 r l) = h (ix2 r l) + ∑ f, (a (ix2 r f) + b (ix2 r f)) * w (ix3 0 f l) := by
  pointwise [stream]

theorem result_at (h : FVec Ideal S32768x1024 .f32) (oa ob : FVec Ideal S32768x512 .bf16) (g : FVec Ideal S1x1024 .f32)
    (w : FVec Ideal S1x1024x5120 .f32) (ua ub : FVec Ideal S1x512x1024 .f32) (wo : FVec Ideal S1x1024x1024 .f32)
    (r : Fin 32768) (l : Fin 1024) :
    result h oa ob g w ua ub wo (ix2 r l) = Layer.mix (fun k => h (ix2 r k)) (fun k => oa (ix2 r k)) (fun k => ob (ix2 r k))
      (fun k => g (ix2 0 k)) (fun k f => w (ix3 0 k ⟨3072 + f.val, by omega⟩)) (fun k f => w (ix3 0 k ⟨4096 + f.val, by omega⟩))
      (fun k f => ua (ix3 0 k f)) (fun k f => ub (ix3 0 k f)) (fun f k => wo (ix3 0 f k)) l := by
  rw [result, stream_at]
  simp only [gated_at, gateA_at, gateB_at, up_at, rms_at]
  rfl

end Cert.Proof.Mix.Ref

end
-- ==== Proof.Mix.Out.lean ====
/- The gated mix's array after the run is its reference's result; the claims about the two. -/
module

public import proofs.«01_k».proof.Defs
public import proofs.«01_k».proof.Proof.Mix.Body
public import proofs.«01_k».proof.Proof.Mix.Ref
public import Idealize.ShloMosaic.Lib.Pipeline.ValueKit.Geometry
public import Idealize.ShloMosaic.Adequacy
public import Idealize.ShloMosaic.Init

@[expose] public section

set_option maxRecDepth 16384

noncomputable section

namespace Cert.Proof.Mix

open Cert.Kernel3Ideal Cert.Kernel3Ideal.Gen
open Idealize.ShloMosaic Idealize.ShloMosaic.TcCoe
open Idealize.SL Idealize.SL.Sem

variable (m : (ℓ : Loc nD τ sig) → Buf (Elt Ideal) ℓ)

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 3] := (by decide +kernel : ∀ t : Fin grid0.N, _)
theorem index5 : ∀ t : Fin cfg0.N, win0_5.index t = ![0, 0, 4] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![(grid0.coords t 0).val, 0] := (by decide +kernel : ∀ t : Fin grid0.N, _)

/-- The reference's result of the arguments on core `c`. -/
abbrev want (c : Dev nD) : FVec Ideal S32768x1024 .f32 :=
  Ref.result (F := Ideal) (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

theorem rows_blk (c : Dev nD) (t : Fin cfg0.N) (r k : Fin 1024) (h : (grid0.coords t 0).val * 1024 + r.val < 32768) :
    Gen.iblk m c 0 t (ix2 r k) = m ((c.tc : Thread nD τ).loc main_arg0) (ix2 ⟨(grid0.coords t 0).val * 1024 + r.val, h⟩ k) := by
  blk_simp [Gen.iblk]
  refine congrArg (m ((c.tc : Thread nD τ).loc main_arg0)) ?_
  blk_ext [index0]

theorem oa_blk (c : Dev nD) (t : Fin cfg0.N) (r : Fin 1024) (k : Fin 512) (h : (grid0.coords t 0).val * 1024 + r.val < 32768) :
    Gen.iblk m c 1 t (ix2 r k) = m ((c.tc : Thread nD τ).loc main_arg1) (ix2 ⟨(grid0.coords t 0).val * 1024 + r.val, h⟩ k) := by
  blk_simp [Gen.iblk]
  refine congrArg (m ((c.tc : Thread nD τ).loc main_arg1)) ?_
  blk_ext [index1]

theorem ob_blk (c : Dev nD) (t : Fin cfg0.N) (r : Fin 1024) (k : Fin 512) (h : (grid0.coords t 0).val * 1024 + r.val < 32768) :
    Gen.iblk m c 2 t (ix2 r k) = m ((c.tc : Thread nD τ).loc main_arg2) (ix2 ⟨(grid0.coords t 0).val * 1024 + r.val, h⟩ k) := by
  blk_simp [Gen.iblk]
  refine congrArg (m ((c.tc : Thread nD τ).loc main_arg2)) ?_
  blk_ext [index2]

theorem g_blk (c : Dev nD) (t : Fin cfg0.N) : Gen.iblk m c 3 t = m ((c.tc : Thread nD τ).loc main_arg3) := by
  funext y
  blk_simp [Gen.iblk]
  refine congrArg (m ((c.tc : Thread nD τ).loc main_arg3)) ?_
  blk_ext [index3]

theorem wa_blk (c : Dev nD) (t : Fin cfg0.N) (k f : Fin 1024) :
    Gen.iblk m c 4 t (ix3 0 k f) = m ((c.tc : Thread nD τ).loc main_arg4) (ix3 0 k ⟨3072 + f.val, by omega⟩) := by
  blk_simp [Gen.iblk]
  refine congrArg (m ((c.tc : Thread nD τ).loc main_arg4)) ?_
  blk_ext [index4]

theorem wb_blk (c : Dev nD) (t : Fin cfg0.N) (k f : Fin 1024) :
    Gen.iblk m c 5 t (ix3 0 k f) = m ((c.tc : Thread nD τ).loc main_arg4) (ix3 0 k ⟨4096 + f.val, by omega⟩) := by
  blk_simp [Gen.iblk]
  refine congrArg (m ((c.tc : Thread nD τ).loc main_arg4)) ?_
  blk_ext [index5]

theorem ua_blk (c : Dev nD) (t : Fin cfg0.N) : Gen.iblk m c 6 t = m ((c.tc : Thread nD τ).loc main_arg5) := by
  funext y
  blk_simp [Gen.iblk]
  refine congrArg (m ((c.tc : Thread nD τ).loc main_arg5)) ?_
  blk_ext [index6]

theorem ub_blk (c : Dev nD) (t : Fin cfg0.N) : Gen.iblk m c 7 t = m ((c.tc : Thread nD τ).loc main_arg6) := by
  funext y
  blk_simp [Gen.iblk]
  refine congrArg (m ((c.tc : Thread nD τ).loc main_arg6)) ?_
  blk_ext [index7]

theorem wo_blk (c : Dev nD) (t : Fin cfg0.N) : Gen.iblk m c 8 t = m ((c.tc : Thread nD τ).loc main_arg7) := by
  funext y
  blk_simp [Gen.iblk]
  refine congrArg (m ((c.tc : Thread nD τ).loc main_arg7)) ?_
  blk_ext [index8]

theorem block_eq (c : Dev nD) (t : Fin cfg0.N) (r l : Fin 1024) (h : (grid0.coords t 0).val * 1024 + r.val < 32768) :
    out0_9 (F := Ideal) (Gen.iblk m c 0 t) (Gen.iblk m c 1 t) (Gen.iblk m c 2 t) (Gen.iblk m c 3 t) (Gen.iblk m c 4 t)
      (Gen.iblk m c 5 t) (Gen.iblk m c 6 t) (Gen.iblk m c 7 t) (Gen.iblk m c 8 t) (ix2 r l)
      = want m c (ix2 ⟨(grid0.coords t 0).val * 1024 + r.val, h⟩ l) := by
  rw [out_at, want, Ref.result_at, g_blk, ua_blk, ub_blk, wo_blk]
  simp only [rows_blk m c t r _ h, oa_blk m c t r _ h, ob_blk m c t r _ h, wa_blk, wb_blk]

/-- The kernel's array after the run. -/
theorem final_out (c : Dev nD) : (dats m 0 c).arrAt 9 cfg0.N = want m c := by
  refine (dats m 0 c).arrAt_eq_of_covers 9 _ (by decide +kernel) fun t _ y => ?_
  rw [after0_9]
  blk_simp
  have ht : (grid0.coords t 0).val < 32 := (grid0.coords t 0).isLt
  have hr : (y 0).val < 1024 := (y 0).isLt
  rw [show y = ix2 (y 0) (y 1) from eq_ix2 y]
  refine (block_eq m c t (y 0) (y 1) (by omega)).trans (congrArg (want m c) ?_)
  blk_ext [index9]

/-! ## The claims -/

theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- From arguments that agree, kernel and reference end with the same result. -/
theorem algebraic : Cert.algebraic_Kernel3Ideal_Reference3Ideal := by
  intro m g m' g' _ hagree
  refine ⟨fun c => want m c, (θ_run defs _ _).mono (fun _ h c => ⟨(h c).1.trans (final_out m c), (h c).2⟩)
    (Cert.Kernel3Ideal.Value.run_blocks (F := Ideal) m g), ?_⟩
  refine (θ_run Cert.Reference3Ideal.defs _ _).mono (fun _ h c => ⟨(h c).1.trans ?_, (h c).2⟩)
    (Cert.Reference3Ideal.Value.run (F := Ideal) m' g')
  obtain ⟨h0, h1, h2, h3, h4, h5, h6, h7⟩ := hagree c
  rw [h0, h1, h2, h3, h4, h5, h6, h7]
  rfl

end Cert.Proof.Mix

end
-- ==== Proof.MemKv.Ref.lean ====
/- The memory's keys and values: the reference's operations under names, and each read at an index. -/
module

public import proofs.«01_k».proof.Proof.Gen.Reference4Ideal.Run
public import proofs.«01_k».proof.Proof.Layer.Norm
public import Idealize.ShloMosaic.Lib.Pointwise

@[expose] public section

set_option maxRecDepth 16384

noncomputable section

namespace Cert.Proof.MemKv.Ref

open Idealize.ShloMosaic Cert.Reference4Ideal Facts₀ Facts

variable {F : FTy → Type} [FloatOps F]

/-- The memory's rows normalised, with their gains. -/
def rms (x : FVec F S4096x1024 .f32) (g : FVec F S1x1024 .f32) : FVec F S4096x1024 .f32 :=
  mulf (mulf x (broadcastInDim S4096x1024 ![0, 1] bcast_S4096x1_S4096x1024_0_1
    (Host.rsqrt (addf (Host.divf (broadcastInDim S4096x1 ![0] bcast_S4096_S4096x1_0
        (Host.reduceAdd (mulf x x) (constant S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1
      (broadcastInDim S1x1024 ![1] bcast_S1024_S1x1024_1 (shapeCast _ g shapeCasts_S1x1024_S1024)))

/-- The result. -/
def result (x : FVec F S4096x1024 .f32) (g : FVec F S1x1024 .f32) (w : FVec F S1x1024x1024 .f32) : FVec F S4096x1024 .bf16 :=
  truncf .bf16 (Host.dotGeneral dot_S4096x1024_S1024x1024_S4096x1024_1_0_0_1_n_n none (rms x g)
    (shapeCast _ w shapeCasts_S1x1024x1024_S1024x1024)) bitsLt_bf16_f32

theorem rms_at (x : FVec Ideal S4096x1024 .f32) (g : FVec Ideal S1x1024 .f32) (r : Fin 4096) (l : Fin 1024) :
    rms x g (ix2 r l) = Layer.norm (fun k => x (ix2 r k)) (fun k => g (ix2 0 k)) l := by
  pointwise [rms]
  rfl

theorem result_of (n : FVec Ideal S4096x1024 .f32) (w : FVec Ideal S1x1024x1024 .f32) (r : Fin 4096) (l : Fin 1024) :
    @Eq EReal (truncf (F := Ideal) .bf16 (Host.dotGeneral dot_S4096x1024_S1024x1024_S4096x1024_1_0_0_1_n_n none n
      (shapeCast _ w shapeCasts_S1x1024x1024_S1024x1024)) bitsLt_bf16_f32 (ix2 r l))
      (Layer.dot (fun k => n (ix2 r k)) (fun k => w (ix3 0 k l))) := by
  pointwise
  rfl

theorem result_at (x : FVec Ideal S4096x1024 .f32) (g : FVec Ideal S1x1024 .f32) (w : FVec Ideal S1x1024x1024 .f32)
    (r : Fin 4096) (l : Fin 1024) : @Eq EReal (result (F := Ideal) x g w (ix2 r l))
      (Layer.dot (Layer.norm (fun k => x (ix2 r k)) (fun k => g (ix2 0 k))) (fun k => w (ix3 0 k l))) := by
  rw [result, result_of]
  simp only [rms_at]

end Cert.Proof.MemKv.Ref

end
-- ==== Proof.MemKv.Out.lean ====
/- The memory's keys and values: the kernel's block, its array after the run, and the claims. -/
module

public import proofs.«01_k».proof.Defs
public import proofs.«01_k».proof.Proof.Gen.Kernel4Ideal.Value
public import proofs.«01_k».proof.Proof.MemKv.Ref
public import Idealize.ShloMosaic.Lib.Pipeline.ValueKit.Geometry
public import Idealize.ShloMosaic.Lib.Pipeline.ValueKit.Tiles
public import Idealize.ShloMosaic.Adequacy
public import Idealize.ShloMosaic.Init

@[expose] public section

set_option maxRecDepth 16384

noncomputable section

namespace Cert.Proof.MemKv

open Cert.Kernel4Ideal Cert.Kernel4Ideal.Gen
open Idealize.ShloMosaic Idealize.ShloMosaic.TcCoe
open Idealize.SL Idealize.SL.Sem

/-! ## The block -/

theorem pay_at (x : FVec Ideal S256x1024 .f32) (g : FVec Ideal S1x1024 .f32) (w : FVec Ideal S1x1024x1024 .f32) (r : Fin 256) (l : Fin 1024) :
    @Eq EReal (k0_pay1 (F := Ideal) x g w (ix2 r l))
      (Layer.dot (Layer.norm (fun k => x (ix2 r k)) (fun k => g (ix2 0 k))) (fun k => w (ix3 0 k l))) := by
  pointwise [k0_pay1]
  rfl

theorem ld_rows (x : Vec Ideal S256x1024 .f32) : View.ld x r0_0 = x := View.ld_unit_lit _ x (by decide)
theorem ld_gains (g : Vec Ideal S1x1024 .f32) : View.ld g r0_1 = g := View.ld_unit_lit _ g (by decide)
theorem ld_square (w : Vec Ideal S1x1024x1024 .f32) : View.ld w r0_2 = w := View.ld_unit_lit _ w (by decide)

/-- The block the kernel leaves. -/
theorem out_at (x : Vec Ideal S256x1024 .f32) (g : Vec Ideal S1x1024 .f32) (w : Vec Ideal S1x1024x1024 .f32) (r : Fin 256) (l : Fin 1024) :
    @Eq EReal (out0_3 (F := Ideal) x g w (ix2 r l))
      (Layer.dot (Layer.norm (fun k => x (ix2 r k)) (fun k => g (ix2 0 k))) (fun k => w (ix3 0 k l))) := by
  rw [out0_3, show View.canon _ = _ from View.canon_cons_unit_lit _ _ _ (by decide), ld_rows, ld_gains, ld_square, pay_at]

/-! ## The array -/

variable (m : (ℓ : Loc nD τ sig) → Buf (Elt Ideal) ℓ)

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0] := (by decide +kernel : ∀ t : Fin grid0.N, _)

/-- The reference's result of the arguments on core `c`. -/
abbrev want (c : Dev nD) : FVec Ideal S4096x1024 .bf16 :=
  Ref.result (F := Ideal) (m ((c.tc : Thread nD τ).loc main_arg0)) (m ((c.tc : Thread nD τ).loc main_arg1))
    (m ((c.tc : Thread nD τ).loc main_arg2))

theorem rows_blk (c : Dev nD) (t : Fin cfg0.N) (r : Fin 256) (k : Fin 1024) (h : (grid0.coords t 0).val * 256 + r.val < 4096) :
    Gen.iblk m c 0 t (ix2 r k) = m ((c.tc : Thread nD τ).loc main_arg0) (ix2 ⟨(grid0.coords t 0).val * 256 + r.val, h⟩ k) := by
  blk_simp [Gen.iblk]
  refine congrArg (m ((c.tc : Thread nD τ).loc main_arg0)) ?_
  blk_ext [index0]

theorem g_blk (c : Dev nD) (t : Fin cfg0.N) : Gen.iblk m c 1 t = m ((c.tc : Thread nD τ).loc main_arg1) := by
  funext y
  blk_simp [Gen.iblk]
  refine congrArg (m ((c.tc : Thread nD τ).loc main_arg1)) ?_
  blk_ext [index1]

theorem w_blk (c : Dev nD) (t : Fin cfg0.N) : Gen.iblk m c 2 t = m ((c.tc : Thread nD τ).loc main_arg2) := by
  funext y
  blk_simp [Gen.iblk]
  refine congrArg (m ((c.tc : Thread nD τ).loc main_arg2)) ?_
  blk_ext [index2]

theorem block_eq (c : Dev nD) (t : Fin cfg0.N) (r : Fin 256) (l : Fin 1024) (h : (grid0.coords t 0).val * 256 + r.val < 4096) :
    @Eq EReal (out0_3 (F := Ideal) (Gen.iblk m c 0 t) (Gen.iblk m c 1 t) (Gen.iblk m c 2 t) (ix2 r l))
      (want m c (ix2 ⟨(grid0.coords t 0).val * 256 + r.val, h⟩ l)) := by
  rw [out_at, want, Ref.result_at, g_blk, w_blk]
  simp only [rows_blk m c t r _ h]

/-- The kernel's array after the run. -/
theorem final_out (c : Dev nD) : (dats m 0 c).arrAt 3 cfg0.N = want m c := by
  refine (dats m 0 c).arrAt_eq_of_covers 3 _ (by decide +kernel) fun t _ y => ?_
  rw [after0_3]
  blk_simp
  have ht : (grid0.coords t 0).val < 16 := (grid0.coords t 0).isLt
  have hr : (y 0).val < 256 := (y 0).isLt
  rw [show y = ix2 (y 0) (y 1) from eq_ix2 y]
  refine (block_eq m c t (y 0) (y 1) (by omega)).trans (congrArg (want m c) ?_)
  blk_ext [index3]

/-! ## The claims -/

theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- From arguments that agree, kernel and reference end with the same result. -/
theorem algebraic : Cert.algebraic_Kernel4Ideal_Reference4Ideal := by
  intro m g m' g' _ hagree
  refine ⟨fun c => want m c, (θ_run defs _ _).mono (fun _ h c => ⟨(h c).1.trans (final_out m c), (h c).2⟩)
    (Cert.Kernel4Ideal.Value.run_blocks (F := Ideal) m g), ?_⟩
  refine (θ_run Cert.Reference4Ideal.defs _ _).mono (fun _ h c => ⟨(h c).1.trans ?_, (h c).2⟩)
    (Cert.Reference4Ideal.Value.run (F := Ideal) m' g')
  obtain ⟨h0, h1, h2⟩ := hagree c
  rw [h0, h1, h2]
  rfl

end Cert.Proof.MemKv

end
-- ==== Proof.Layer.Mem.lean ====
/- The memory attention's rows at the extended reals: a query row against the memory, in the kernel's order (the query
   scaled, the sum divided) and in the reference's (the scores scaled, each weight divided), which agree on real scores. -/
module

public import proofs.«01_k».proof.Proof.Layer.Norm
public import proofs.«01_k».proof.Proof.Value.Soft

@[expose] public section

noncomputable section

namespace Cert.Proof.Layer.Mem

open Idealize.ShloMosaic Soft

/-! ## Sums times a real -/

theorem sum_mul_real {ι : Type} (s : Finset ι) (f : ι → EReal) (r : ℝ) (hr : 0 ≤ r) :
    (∑ j ∈ s, f j) * (r : EReal) = ∑ j ∈ s, f j * (r : EReal) := by
  classical
  induction s using Finset.induction_on with
  | empty => simp
  | insert a s h ih =>
    rw [Finset.sum_insert h, Finset.sum_insert h, EReal.right_distrib_of_nonneg_of_ne_top (EReal.coe_nonneg.2 hr) (EReal.coe_ne_top _), ih]

/-- The greatest of a row as a fold from the printed literal. -/
theorem fold_top {ι : Type} [Fintype ι] (f : ι → EReal) :
    max (Ideal.ofBits .f32 0xFF800000#32) (Finset.univ.fold max (Ideal.ofBits .f32 0xFF800000#32) f) = top f := by
  rw [show Ideal.ofBits .f32 0xFF800000#32 = ⊥ by simp [Ideal.ofBits, Ideal.ieee]]
  exact bot_sup_eq _

theorem fold_top' {ι : Type} [Fintype ι] (f : ι → EReal) : Finset.univ.fold max (Ideal.ofBits .f32 0xFF800000#32) f = top f := by
  rw [show Ideal.ofBits .f32 0xFF800000#32 = ⊥ by simp [Ideal.ofBits, Ideal.ieee]]
  rfl

/-! ## A normalised row is real -/

/-- A row times its inverse root mean square is real, whatever the row. -/
theorem scaled_real (x : Fin 1024 → EReal) (k : Fin 1024) : IsReal (x k * scale x) := by
  have hn : Ideal.ofBits .f32 0x44800000#32 = ((1024 : ℝ) : EReal) := by
    simp [Ideal.ofBits, Ideal.ieee]
    rw [← EReal.coe_mul]
    norm_num
  obtain ⟨e, he, hep⟩ : ∃ e : ℝ, Ideal.ofBits .f32 0x358637BD#32 = (e : EReal) ∧ 0 < e := by
    refine ⟨_, rfl, ?_⟩
    norm_num
    rw [if_neg (by decide)]
    positivity
  have h0 : ∀ j, 0 ≤ x j * x j := fun j => by
    rcases le_total 0 (x j) with h | h
    · exact mul_nonneg h h
    · exact EReal.mul_nonneg_iff.2 (.inr ⟨h, h⟩)
  rw [scale, hn, he]
  by_cases ht : ∑ j, x j * x j = ⊤
  · rw [ht]
    have : Ideal.div ⊤ ((1024 : ℝ) : EReal) = ⊤ := by
      rw [Ideal.div, if_neg (by norm_num), ← EReal.coe_inv]
      exact EReal.top_mul_coe_of_pos (by norm_num)
    rw [this, EReal.top_add_coe, Ideal.rsqrt_top, mul_zero]
    exact ⟨0, rfl⟩
  · have hx : IsReal (x k) := by
      have hle : x k * x k ≤ ∑ j, x j * x j := Finset.single_le_sum (f := fun j => x j * x j) (fun j _ => h0 j) (Finset.mem_univ k)
      refine IsReal.of_ne ?_ ?_ <;> intro h <;> rw [h] at hle
      · exact ht (top_le_iff.1 (by simpa using hle))
      · exact ht (top_le_iff.1 (by simpa using hle))
    obtain ⟨s, hs⟩ : IsReal (∑ j, x j * x j) :=
      IsReal.of_ne ht (ne_bot_of_le_ne_bot EReal.zero_ne_bot (Finset.sum_nonneg fun j _ => h0 j))
    have hs0 : 0 ≤ s := by
      have := Finset.sum_nonneg (s := Finset.univ) fun j _ => h0 j
      rw [hs] at this
      exact_mod_cast this
    refine hx.mul ?_
    rw [hs, Ideal.div, if_neg (by norm_num), ← EReal.coe_inv, ← EReal.coe_mul, ← EReal.coe_add, Ideal.rsqrt_coe]
    have hp : 0 < s * (1024 : ℝ)⁻¹ + e := by positivity
    rw [if_neg (not_lt.2 hp.le), if_neg hp.ne']
    exact ⟨_, rfl⟩

theorem norm_real (x g : Fin 1024 → EReal) (hg : ∀ k, IsReal (g k)) (k : Fin 1024) : IsReal (norm x g k) :=
  (scaled_real x k).mul (hg k)

theorem dot_real {n : Nat} (x w : Fin n → EReal) (hx : ∀ k, IsReal (x k)) (hw : ∀ k, IsReal (w k)) : IsReal (dot x w) :=
  IsReal.sum _ _ fun k _ => (hx k).mul (hw k)

/-! ## The attention of one head at one row -/

/-- The printed literal for one over the square root of 128. -/
def c : EReal := Ideal.ofBits .f32 0x3DB504F3#32

theorem c_real : ∃ r : ℝ, 0 ≤ r ∧ c = (r : EReal) := by
  refine ⟨_, ?_, rfl⟩
  norm_num
  rw [if_neg (by decide)]
  positivity

/-- Lane `d` of head `h`. -/
abbrev lane (h : Fin 4) (d : Fin 128) : Fin 512 := ⟨h.val * 128 + d.val, by omega⟩

/-- The head of a lane. -/
abbrev headOf (f : Fin 512) : Fin 4 := ⟨f.val / 128, by omega⟩

/-- A lane's place in its head. -/
abbrev inHead (f : Fin 512) : Fin 128 := ⟨f.val % 128, by omega⟩

/-- A head's scores as the kernel has them: the query is scaled. -/
def scoreK (q : Fin 512 → EReal) (K : Fin 256 → Fin 512 → EReal) (h : Fin 4) (j : Fin 256) : EReal :=
  ∑ d : Fin 128, q (lane h d) * c * K j (lane h d)

/-- A head's scores as the reference has them: the product is scaled. -/
def score (q : Fin 512 → EReal) (K : Fin 256 → Fin 512 → EReal) (h : Fin 4) (j : Fin 256) : EReal :=
  (∑ d : Fin 128, q (lane h d) * K j (lane h d)) * c

theorem scoreK_eq (q : Fin 512 → EReal) (K : Fin 256 → Fin 512 → EReal) (h : Fin 4) : scoreK q K h = score q K h := by
  funext j
  obtain ⟨r, hr, hc⟩ := c_real
  rw [scoreK, score, hc, sum_mul_real _ _ r hr]
  exact Finset.sum_congr rfl fun d _ => mul_right_comm _ _ _

/-- The weights' sum over the sum of the weights, as the kernel divides. -/
def attnK (s v : Fin 256 → EReal) : EReal := Ideal.div (∑ j, wtE s j * v j) (∑ j, wtE s j)

/-- The sum of the values times the softmax. -/
def attn (s v : Fin 256 → EReal) : EReal := ∑ j, v j * Ideal.div (wtE s j) (∑ j', wtE s j')

theorem den_real (s : Fin 256 → EReal) (hs : ∀ j, IsReal (s j)) : ∃ r : ℝ, 0 < r ∧ ∑ j, wtE s j = (r : EReal) := by
  have hb : ∀ j, s j ≠ ⊤ ∧ s j ≠ ⊥ := fun j => by
    obtain ⟨r, h⟩ := hs j
    rw [h]
    exact ⟨EReal.coe_ne_top r, EReal.coe_ne_bot r⟩
  obtain ⟨t, ht⟩ := top_real s (fun j => (hb j).1) 0 (hb 0).2
  have hw : ∀ j, ∃ r : ℝ, 0 < r ∧ wtE s j = (r : EReal) := fun j => by
    obtain ⟨r, h⟩ := hs j
    refine ⟨Real.exp (r - t), Real.exp_pos _, ?_⟩
    rw [wtE, ht, h, ← EReal.coe_sub, Ideal.exp_coe]
  choose f hf hw using hw
  refine ⟨∑ j, f j, Finset.sum_pos (fun j _ => hf j) ⟨0, Finset.mem_univ 0⟩, ?_⟩
  rw [Finset.sum_congr rfl fun j _ => hw j]
  push_cast
  rfl

theorem attnK_eq (s v : Fin 256 → EReal) (hs : ∀ j, IsReal (s j)) : attnK s v = attn s v := by
  obtain ⟨r, hr, h⟩ := den_real s hs
  have hd : ∀ y : EReal, Ideal.div y (r : EReal) = y * ((r⁻¹ : ℝ) : EReal) := fun y => by
    rw [Ideal.div, if_neg (by exact_mod_cast hr.ne'), EReal.coe_inv]
  rw [attnK, attn, h, hd, sum_mul_real _ _ _ (inv_nonneg.2 hr.le)]
  refine Finset.sum_congr rfl fun j _ => ?_
  rw [hd, mul_comm (wtE s j), mul_assoc]

/-- The residual stream's row after the memory attention, the heads' outputs `o` by lane. -/
def stream (x : Fin 1024 → EReal) (o : Fin 512 → EReal) (wo : Fin 512 → Fin 1024 → EReal) (l : Fin 1024) : EReal :=
  x l + ∑ f, o f * wo f l

/-- A row after the memory attention in the reference's order, from its query, the memory's keys and its values. -/
def row (x : Fin 1024 → EReal) (q : Fin 512 → EReal) (K V : Fin 256 → Fin 512 → EReal) (wo : Fin 512 → Fin 1024 → EReal)
    (l : Fin 1024) : EReal :=
  stream x (fun f => attn (score q K (headOf f)) fun j => V j (lane (headOf f) (inHead f))) wo l

/-- A row after the memory attention in the kernel's order. -/
def rowK (x : Fin 1024 → EReal) (q : Fin 512 → EReal) (K V : Fin 256 → Fin 512 → EReal) (wo : Fin 512 → Fin 1024 → EReal)
    (l : Fin 1024) : EReal :=
  stream x (fun f => attnK (scoreK q K (headOf f)) fun j => V j (lane (headOf f) (inHead f))) wo l

theorem score_real (q : Fin 512 → EReal) (K : Fin 256 → Fin 512 → EReal) (hq : ∀ f, IsReal (q f)) (hK : ∀ j f, IsReal (K j f))
    (h : Fin 4) (j : Fin 256) : IsReal (score q K h j) := by
  obtain ⟨r, -, hc⟩ := c_real
  exact (IsReal.sum _ _ fun d _ => (hq _).mul (hK j _)).mul ⟨r, hc⟩

/-- Where query and keys are real, the two orders agree. -/
theorem rowK_eq (x : Fin 1024 → EReal) (q : Fin 512 → EReal) (K V : Fin 256 → Fin 512 → EReal) (wo : Fin 512 → Fin 1024 → EReal)
    (hq : ∀ f, IsReal (q f)) (hK : ∀ j f, IsReal (K j f)) (l : Fin 1024) : rowK x q K V wo l = row x q K V wo l := by
  rw [rowK, row]
  refine congrArg (fun o => stream x o wo l) (funext fun f => ?_)
  rw [scoreK_eq, attnK_eq _ _ (score_real q K hq hK _)]

end Cert.Proof.Layer.Mem

end
-- ==== Proof.MemAttn.Body.lean ====
/- The memory attention's block: its operations under names, and each read at an index. -/
module

public import proofs.«01_k».proof.Proof.Gen.Kernel5Ideal.Value
public import proofs.«01_k».proof.Proof.Layer.Mem
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Cert.Proof.MemAttn

open Idealize.ShloMosaic Cert.Kernel5Ideal Cert.Kernel5Ideal.Gen
open Layer.Mem (lane headOf inHead)

variable {F : FTy → Type} [FloatOps F]

/-- A head's scores. -/
def score (q : FVec F S1024x128 .bf16) (k : FVec F S1x256x128 .bf16) : FVec F S1024x256 .f32 :=
  matmul dot_S1024x128_S256x128_S1024x256_1_1_0_0_n_n none q (shapeCast S256x128 k shapeCasts_S1x256x128_S256x128)
    (constant S1024x256 .f32 0x00000000#32)

/-- Its weights. -/
def weight (s : FVec F S1024x256 .f32) : FVec F S1024x256 .f32 :=
  exp (subf s (broadcastTo S1024x256 (shapeCast S1024x1
    (multiReduction .maximumf [1] S1024 s 0xFF800000#32 reduces_S1024x256_S1024 (.inl rfl) rfl) shapeCasts_S1024_S1024x1)
    broadcasts_S1024x1_S1024x256))

/-- The values under the weights, over the weights' sum. -/
def quot (p : FVec F S1024x256 .f32) (v : FVec F S1x256x128 .bf16) : FVec F S1024x128 .bf16 :=
  truncf .bf16 (divf
    (matmul dot_S1024x256_S256x128_S1024x128_1_0_0_1_n_n none (truncf .bf16 p bitsLt_bf16_f32)
      (shapeCast S256x128 v shapeCasts_S1x256x128_S256x128) (constant S1024x128 .f32 0x00000000#32))
    (broadcastTo S1024x128 (shapeCast S1024x1
      (multiReduction .add [1] S1024 p 0x00000000#32 reduces_S1024x256_S1024 (.inl rfl) rfl) shapeCasts_S1024_S1024x1)
      broadcasts_S1024x1_S1024x128)) bitsLt_bf16_f32

/-- One head. -/
def head (q : FVec F S1024x128 .bf16) (k v : FVec F S1x256x128 .bf16) : FVec F S1024x128 .bf16 := quot (weight (score q k)) v

/-- The query columns of a head. -/
def part (Q : FVec F S1024x512 .bf16) : Fin 4 → FVec F S1024x128 .bf16
  | 0 => extractStridedSlice S1024x128 ![0, 0] Q slices_S1024x512_o0_0_S1024x128
  | 1 => extractStridedSlice S1024x128 ![0, 128] Q slices_S1024x512_o0_128_S1024x128
  | 2 => extractStridedSlice S1024x128 ![0, 256] Q slices_S1024x512_o0_256_S1024x128
  | 3 => extractStridedSlice S1024x128 ![0, 384] Q slices_S1024x512_o0_384_S1024x128

/-- The memory's keys of a head. -/
def keys (kv : Vec F S1x256x1024 .bf16) : Fin 4 → FVec F S1x256x128 .bf16
  | 0 => View.ld kv r0_3
  | 1 => View.ld kv r0_5
  | 2 => View.ld kv r0_7
  | 3 => View.ld kv r0_9

/-- The memory's values of a head. -/
def values (kv : Vec F S1x256x1024 .bf16) : Fin 4 → FVec F S1x256x128 .bf16
  | 0 => View.ld kv r0_4
  | 1 => View.ld kv r0_6
  | 2 => View.ld kv r0_8
  | 3 => View.ld kv r0_10

/-- The heads side by side. -/
def cat (A : Fin 4 → FVec F S1024x128 .bf16) : FVec F S1024x512 .bf16 :=
  concatenate S1024x512 1 [⟨S1024x128, A 0⟩, ⟨S1024x128, A 1⟩, ⟨S1024x128, A 2⟩, ⟨S1024x128, A 3⟩]
    concatenates_S1024x128_S1024x128_S1024x128_S1024x128_S1024x512_d1

/-- The residual stream with the heads, through the output weight, added. -/
def stream (x : FVec F S1x1024x1024 .f32) (o : FVec F S1024x512 .bf16) (w : FVec F S1x512x1024 .f32) : FVec F S1x1024x1024 .f32 :=
  shapeCast S1x1024x1024 (addf (k0_pay2 x) (matmul dot_S1024x512_S512x1024_S1024x1024_1_0_0_1_n_n none o
    (truncf .bf16 (shapeCast S512x1024 w shapeCasts_S1x512x1024_S512x1024) bitsLt_bf16_f32) (constant S1024x1024 .f32 0x00000000#32)))
    shapeCasts_S1024x1024_S1x1024x1024

theorem out_eq (x : Vec F S1x1024x1024 .f32) (kv : Vec F S1x256x1024 .bf16) (g : Vec F S1x1024 .f32) (wq : Vec F S1x1024x512 .f32)
    (wo : Vec F S1x512x1024 .f32) : out0_5 x kv g wq wo = View.canon [⟨r0_0, stream (View.ld x r0_0)
      (cat fun h => head (part (k0_pay3 (View.ld x r0_0) (View.ld g r0_1) (View.ld wq r0_2)) h) (keys kv h) (values kv h))
      (View.ld wo r0_11)⟩] := rfl

/-! ## At an index -/

theorem query_at (x : FVec Ideal S1x1024x1024 .f32) (g : FVec Ideal S1x1024 .f32) (w : FVec Ideal S1x1024x512 .f32) (r : Fin 1024) (f : Fin 512) :
    @Eq EReal (k0_pay3 (F := Ideal) x g w (ix2 r f))
      (Layer.dot (Layer.norm (fun k => x (ix3 0 r k)) (fun k => g (ix2 0 k))) (fun k => w (ix3 0 k f)) * Layer.Mem.c) := by
  pointwise [k0_pay3, k0_pay2]
  rfl

theorem score_at (q : FVec Ideal S1024x128 .bf16) (k : FVec Ideal S1x256x128 .bf16) (r : Fin 1024) (j : Fin 256) :
    score q k (ix2 r j) = ∑ d : Fin 128, (q (ix2 r d) : EReal) * k (ix3 0 j d) := by
  pointwise [score]

theorem weight_at (s : FVec Ideal S1024x256 .f32) (r : Fin 1024) (j : Fin 256) :
    weight s (ix2 r j) = Soft.wtE (fun j => s (ix2 r j)) j := by
  rw [Soft.wtE, ← Layer.Mem.fold_top']
  pointwise [weight]

theorem quot_at (p : FVec Ideal S1024x256 .f32) (v : FVec Ideal S1x256x128 .bf16) (r : Fin 1024) (d : Fin 128) :
    @Eq EReal (quot (F := Ideal) p v (ix2 r d)) (Ideal.div (∑ j, p (ix2 r j) * (v (ix3 0 j d) : EReal)) (∑ j, p (ix2 r j))) := by
  pointwise [quot]

theorem part_at (Q : FVec Ideal S1024x512 .bf16) (h : Fin 4) (r : Fin 1024) (d : Fin 128) :
    @Eq EReal (part (F := Ideal) Q h (ix2 r d)) (Q (ix2 r (lane h d))) := by
  match h with
  | 0 =>
    pointwise [part]
    exact congrArg (fun f => Q (ix2 r f)) (Fin.ext (by simp))
  | 1 =>
    pointwise [part]
    exact congrArg (fun f => Q (ix2 r f)) (Fin.ext (by simp))
  | 2 =>
    pointwise [part]
    exact congrArg (fun f => Q (ix2 r f)) (Fin.ext (by simp))
  | 3 =>
    pointwise [part]
    exact congrArg (fun f => Q (ix2 r f)) (Fin.ext (by simp))

theorem keys_at (kv : Vec Ideal S1x256x1024 .bf16) (h : Fin 4) (j : Fin 256) (d : Fin 128) :
    @Eq EReal (keys (F := Ideal) kv h (ix3 0 j d)) (kv (ix3 0 j ⟨h.val * 128 + d.val, by omega⟩)) := by
  match h with
  | 0 => exact View.ld_unit_apply_of kv _ _ _ _ _ fun a => by fin_cases a <;> simp [ix3]
  | 1 => exact View.ld_unit_apply_of kv _ _ _ _ _ fun a => by fin_cases a <;> simp [ix3]
  | 2 => exact View.ld_unit_apply_of kv _ _ _ _ _ fun a => by fin_cases a <;> simp [ix3]
  | 3 => exact View.ld_unit_apply_of kv _ _ _ _ _ fun a => by fin_cases a <;> simp [ix3]

theorem values_at (kv : Vec Ideal S1x256x1024 .bf16) (h : Fin 4) (j : Fin 256) (d : Fin 128) :
    @Eq EReal (values (F := Ideal) kv h (ix3 0 j d)) (kv (ix3 0 j ⟨512 + (h.val * 128 + d.val), by omega⟩)) := by
  match h with
  | 0 => exact View.ld_unit_apply_of kv _ _ _ _ _ fun a => by fin_cases a <;> simp [ix3]
  | 1 => exact View.ld_unit_apply_of kv _ _ _ _ _ fun a => by fin_cases a <;> simp [ix3] <;> omega
  | 2 => exact View.ld_unit_apply_of kv _ _ _ _ _ fun a => by fin_cases a <;> simp [ix3] <;> omega
  | 3 => exact View.ld_unit_apply_of kv _ _ _ _ _ fun a => by fin_cases a <;> simp [ix3] <;> omega

theorem cat_at (A : Fin 4 → FVec Ideal S1024x128 .bf16) (r : Fin 1024) (f : Fin 512) :
    @Eq EReal (cat (F := Ideal) A (ix2 r f)) (A (headOf f) (ix2 r (inHead f))) := by
  obtain ⟨h, d, rfl⟩ : ∃ h d, f = lane h d := ⟨headOf f, inHead f, Fin.ext (by simp only []; omega)⟩
  rw [show headOf (lane h d) = h from Fin.ext (by simp only []; omega), show inHead (lane h d) = d from Fin.ext (by simp only []; omega)]
  match h with
  | 0 => pointwise [cat]
  | 1 => pointwise [cat]
  | 2 =>
    pointwise [cat]
    rw [dif_neg (by omega), dif_neg (by omega), dif_pos (by omega)]
    exact congrArg (fun f => A 2 (ix2 r f)) (Fin.ext (by simp only []; omega))
  | 3 =>
    pointwise [cat]
    rw [dif_neg (by omega), dif_neg (by omega), dif_neg (by omega)]
    exact congrArg (fun f => A 3 (ix2 r f)) (Fin.ext (by simp only []; omega))

theorem stream_at (x : FVec Ideal S1x1024x1024 .f32) (o : FVec Ideal S1024x512 .bf16) (w : FVec Ideal S1x512x1024 .f32) (r l : Fin 1024) :
    stream x o w (ix3 0 r l) = Layer.Mem.stream (fun k => x (ix3 0 r k)) (fun f => (o (ix2 r f) : EReal)) (fun f k => w (ix3 0 f k)) l := by
  pointwise [stream, k0_pay2]
  rfl

theorem ld_rows (x : Vec Ideal S1x1024x1024 .f32) : View.ld x r0_0 = x := View.ld_unit_lit _ x (by decide)
theorem ld_gains (g : Vec Ideal S1x1024 .f32) : View.ld g r0_1 = g := View.ld_unit_lit _ g (by decide)
theorem ld_wq (w : Vec Ideal S1x1024x512 .f32) : View.ld w r0_2 = w := View.ld_unit_lit _ w (by decide)
theorem ld_wo (w : Vec Ideal S1x512x1024 .f32) : View.ld w r0_11 = w := View.ld_unit_lit _ w (by decide)

theorem head_at (q : FVec Ideal S1024x128 .bf16) (k v : FVec Ideal S1x256x128 .bf16) (r : Fin 1024) (d : Fin 128) :
    @Eq EReal (head (F := Ideal) q k v (ix2 r d))
      (Layer.Mem.attnK (fun j => ∑ d : Fin 128, (q (ix2 r d) : EReal) * k (ix3 0 j d)) (fun j => (v (ix3 0 j d) : EReal))) := by
  rw [head, quot_at, Layer.Mem.attnK]
  simp only [weight_at, score_at]

/-- The block the kernel leaves. -/
theorem out_at (x : Vec Ideal S1x1024x1024 .f32) (kv : Vec Ideal S1x256x1024 .bf16) (g : Vec Ideal S1x1024 .f32) (wq : Vec Ideal S1x1024x512 .f32)
    (wo : Vec Ideal S1x512x1024 .f32) (r l : Fin 1024) :
    out0_5 x kv g wq wo (ix3 0 r l) = Layer.Mem.rowK (fun k => x (ix3 0 r k))
      (fun f => Layer.dot (Layer.norm (fun k => x (ix3 0 r k)) (fun k => g (ix2 0 k))) (fun k => wq (ix3 0 k f)))
      (fun j f => kv (ix3 0 j ⟨f.val, by omega⟩)) (fun j f => kv (ix3 0 j ⟨512 + f.val, by omega⟩)) (fun f k => wo (ix3 0 f k)) l := by
  rw [out_eq, show View.canon _ = _ from View.canon_cons_unit_lit _ _ _ (by decide), ld_rows, ld_gains, ld_wq, ld_wo, stream_at,
    Layer.Mem.rowK]
  refine congrArg (fun o => Layer.Mem.stream (fun k => x (ix3 0 r k)) o (fun f k => wo (ix3 0 f k)) l) (funext fun f => ?_)
  rw [cat_at, head_at]
  simp only [part_at, keys_at, values_at, query_at]
  rfl

end Cert.Proof.MemAttn

end
-- ==== Proof.MemAttn.Ref.lean ====
/- The memory attention's reference: its operations under names, and each read at an index. -/
module

public import proofs.«01_k».proof.Proof.Gen.Reference5Ideal.Run
public import proofs.«01_k».proof.Proof.Layer.Mem
public import Idealize.ShloMosaic.Lib.Pointwise

@[expose] public section

set_option maxRecDepth 16384

noncomputable section

namespace Cert.Proof.MemAttn.Ref

open Idealize.ShloMosaic Cert.Reference5Ideal Facts₀ Facts

variable {F : FTy → Type} [FloatOps F]

/-- The rows normalised, with their gains. -/
def rms (x : FVec F S16x2048x1024 .f32) (g : FVec F S1x1024 .f32) : FVec F S16x2048x1024 .f32 :=
  mulf (mulf x (broadcastInDim S16x2048x1024 ![0, 1, 2] bcast_S16x2048x1_S16x2048x1024_0_1_2
    (Host.rsqrt (addf (Host.divf (broadcastInDim S16x2048x1 ![0, 1] bcast_S16x2048_S16x2048x1_0_1
        (Host.reduceAdd (mulf x x) (constant S_ .f32 0x00000000#32) reducesTo_S16x2048x1024_S16x2048_d2 h_S_))
      (broadcastInDim S16x2048x1 ![] bcast_S_S16x2048x1 (constant S_ .f32 0x44800000#32)))
      (broadcastInDim S16x2048x1 ![] bcast_S_S16x2048x1 (constant S_ .f32 0x358637BD#32))))))
    (broadcastInDim S16x2048x1024 ![0, 1, 2] bcast_S1x1x1024_S16x2048x1024_0_1_2
      (broadcastInDim S1x1x1024 ![2] bcast_S1024_S1x1x1024_2 (shapeCast _ g shapeCasts_S1x1024_S1024)))

/-- The queries, by head. -/
def query (n : FVec F S16x2048x1024 .f32) (w : FVec F S1x1024x512 .f32) : FVec F S16x2048x4x128 .f32 :=
  shapeCast _ (Host.dotGeneral dot_S16x2048x1024_S1024x512_S16x2048x512_2_0_01_1_n_n none n
    (shapeCast _ w shapeCasts_S1x1024x512_S1024x512)) shapeCasts_S16x2048x512_S16x2048x4x128

/-- The memory's keys, by head. -/
def keys (kv : FVec F S16x256x1024 .bf16) : FVec F S16x256x4x128 .f32 :=
  shapeCast _ (extractStridedSlice S16x256x512 ![0, 0, 0] (extf .f32 kv bitsLt_bf16_f32) slices_S16x256x1024_S16x256x512_0_0_0)
    shapeCasts_S16x256x512_S16x256x4x128

/-- The memory's values, by head. -/
def values (kv : FVec F S16x256x1024 .bf16) : FVec F S16x256x4x128 .f32 :=
  shapeCast _ (extractStridedSlice S16x256x512 ![0, 0, 512] (extf .f32 kv bitsLt_bf16_f32) slices_S16x256x1024_S16x256x512_0_0_512)
    shapeCasts_S16x256x512_S16x256x4x128

/-- The scores. -/
def score (q : FVec F S16x2048x4x128 .f32) (k : FVec F S16x256x4x128 .f32) : FVec F S16x4x2048x256 .f32 :=
  mulf (Host.dotGeneral dot_S16x2048x4x128_S16x256x4x128_S16x4x2048x256_3_3_1_1_02_02 none q k)
    (broadcastInDim S16x4x2048x256 ![] bcast_S_S16x4x2048x256 (constant S_ .f32 0x3DB504F3#32))

/-- Each row's greatest score. -/
def rowMax (s : FVec F S16x4x2048x256 .f32) : FVec F S16x4x2048 .f32 :=
  maximumf (broadcastInDim S16x4x2048 ![] bcast_S_S16x4x2048 (constant S_ .f32 0xFF800000#32))
    (Host.reduce FloatOps.maximumf s (constant S_ .f32 0xFF800000#32) reducesTo_S16x4x2048x256_S16x4x2048_d3 h_S_)

/-- The weights before they are divided. -/
def weight (s : FVec F S16x4x2048x256 .f32) : FVec F S16x4x2048x256 .f32 :=
  Host.exp (subf s (broadcastInDim S16x4x2048x256 ![0, 1, 2, 3] bcast_S16x4x2048x1_S16x4x2048x256_0_1_2_3
    (broadcastInDim S16x4x2048x1 ![0, 1, 2] bcast_S16x4x2048_S16x4x2048x1_0_1_2 (rowMax s))))

/-- The softmax. -/
def soft (p : FVec F S16x4x2048x256 .f32) : FVec F S16x4x2048x256 .f32 :=
  Host.divf p (broadcastInDim S16x4x2048x256 ![0, 1, 2, 3] bcast_S16x4x2048x1_S16x4x2048x256_0_1_2_3
    (broadcastInDim S16x4x2048x1 ![0, 1, 2] bcast_S16x4x2048_S16x4x2048x1_0_1_2
      (Host.reduceAdd p (constant S_ .f32 0x00000000#32) reducesTo_S16x4x2048x256_S16x4x2048_d3 h_S_)))

/-- The heads' outputs, side by side. -/
def heads (v : FVec F S16x256x4x128 .f32) (a : FVec F S16x4x2048x256 .f32) : FVec F S16x2048x512 .f32 :=
  shapeCast _ (transpose S16x2048x4x128 [0, 3, 1, 2]
    (Host.dotGeneral dot_S16x256x4x128_S16x4x2048x256_S16x4x128x2048_1_3_3_2_02_01 none v a)
    transposes_S16x4x128x2048_S16x2048x4x128_0_3_1_2) shapeCasts_S16x2048x4x128_S16x2048x512

/-- The residual stream with the heads' outputs, through the output weight, added. -/
def stream (h : FVec F S16x2048x1024 .f32) (o : FVec F S16x2048x512 .f32) (w : FVec F S1x512x1024 .f32) : FVec F S16x2048x1024 .f32 :=
  addf h (Host.dotGeneral dot_S16x2048x512_S512x1024_S16x2048x1024_2_0_01_1_n_n none o (shapeCast _ w shapeCasts_S1x512x1024_S512x1024))

/-- The result. -/
def result (h : FVec F S16x2048x1024 .f32) (kv : FVec F S16x256x1024 .bf16) (g : FVec F S1x1024 .f32) (wq : FVec F S1x1024x512 .f32)
    (wo : FVec F S1x512x1024 .f32) : FVec F S16x2048x1024 .f32 :=
  stream h (heads (values kv) (soft (weight (score (query (rms h g) wq) (keys kv))))) wo

theorem res_eq (m : (ℓ : Loc nD τ sig) → Buf (Elt F) ℓ) (c : Dev nD) :
    Value.res_main_v41 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## At an index -/

open Layer.Mem (lane)

theorem rms_at (x : FVec Ideal S16x2048x1024 .f32) (g : FVec Ideal S1x1024 .f32) (b : Fin 16) (r : Fin 2048) (l : Fin 1024) :
    rms x g (ix3 b r l) = Layer.norm (fun k => x (ix3 b r k)) (fun k => g (ix2 0 k)) l := by
  pointwise [rms]
  rfl

theorem query_at (n : FVec Ideal S16x2048x1024 .f32) (w : FVec Ideal S1x1024x512 .f32) (b : Fin 16) (r : Fin 2048) (h : Fin 4) (d : Fin 128) :
    query n w (ix4 b r h d) = Layer.dot (fun k => n (ix3 b r k)) (fun k => w (ix3 0 k ⟨h.val * 128 + d.val, by omega⟩)) := by
  pointwise [query]
  rfl

theorem keys_at (kv : FVec Ideal S16x256x1024 .bf16) (b : Fin 16) (j : Fin 256) (h : Fin 4) (d : Fin 128) :
    @Eq EReal (keys (F := Ideal) kv (ix4 b j h d)) (kv (ix3 b j ⟨h.val * 128 + d.val, by omega⟩)) := by
  pointwise [keys]

theorem values_at (kv : FVec Ideal S16x256x1024 .bf16) (b : Fin 16) (j : Fin 256) (h : Fin 4) (d : Fin 128) :
    @Eq EReal (values (F := Ideal) kv (ix4 b j h d)) (kv (ix3 b j ⟨512 + (h.val * 128 + d.val), by omega⟩)) := by
  pointwise [values]

theorem score_at (q : FVec Ideal S16x2048x4x128 .f32) (k : FVec Ideal S16x256x4x128 .f32) (b : Fin 16) (h : Fin 4) (r : Fin 2048) (j : Fin 256) :
    score q k (ix4 b h r j) = (∑ d : Fin 128, q (ix4 b r h d) * k (ix4 b j h d)) * Layer.Mem.c := by
  pointwise [score]
  rfl

theorem max_at (s : FVec Ideal S16x4x2048x256 .f32) (b : Fin 16) (h : Fin 4) (r : Fin 2048) :
    Host.reduce FloatOps.maximumf s (constant S_ .f32 0xFF800000#32) reducesTo_S16x4x2048x256_S16x4x2048_d3 h_S_ (ix3 b h r)
      = Soft.top (fun j => s (ix4 b h r j)) := by
  rw [← Layer.Mem.fold_top']
  pointwise

theorem rowMax_of (y : FVec Ideal S16x4x2048 .f32) (b : Fin 16) (h : Fin 4) (r : Fin 2048) :
    maximumf (broadcastInDim S16x4x2048 ![] bcast_S_S16x4x2048 (constant S_ .f32 0xFF800000#32)) y (ix3 b h r) = y (ix3 b h r) := by
  pointwise
  rw [show Ideal.ofBits .f32 0xFF800000#32 = ⊥ by simp [Ideal.ofBits, Ideal.ieee]]
  exact bot_sup_eq _

theorem rowMax_at (s : FVec Ideal S16x4x2048x256 .f32) (b : Fin 16) (h : Fin 4) (r : Fin 2048) :
    rowMax s (ix3 b h r) = Soft.top (fun j => s (ix4 b h r j)) := (rowMax_of _ b h r).trans (max_at s b h r)

theorem weight_at (s : FVec Ideal S16x4x2048x256 .f32) (b : Fin 16) (h : Fin 4) (r : Fin 2048) (j : Fin 256) :
    weight s (ix4 b h r j) = Soft.wtE (fun j => s (ix4 b h r j)) j := by
  rw [Soft.wtE, ← rowMax_at]
  pointwise [weight]

theorem soft_at (p : FVec Ideal S16x4x2048x256 .f32) (b : Fin 16) (h : Fin 4) (r : Fin 2048) (j : Fin 256) :
    soft p (ix4 b h r j) = Ideal.div (p (ix4 b h r j)) (∑ j', p (ix4 b h r j')) := by
  pointwise [soft]

theorem heads_at (v : FVec Ideal S16x256x4x128 .f32) (a : FVec Ideal S16x4x2048x256 .f32) (b : Fin 16) (r : Fin 2048) (f : Fin 512) :
    heads v a (ix3 b r f) = ∑ j, v (ix4 b j ⟨f.val / 128, by omega⟩ ⟨f.val % 128, by omega⟩) * a (ix4 b ⟨f.val / 128, by omega⟩ r j) := by
  pointwise [heads]

theorem stream_at (x : FVec Ideal S16x2048x1024 .f32) (o : FVec Ideal S16x2048x512 .f32) (w : FVec Ideal S1x512x1024 .f32)
    (b : Fin 16) (r : Fin 2048) (l : Fin 1024) : stream x o w (ix3 b r l)
      = Layer.Mem.stream (fun k => x (ix3 b r k)) (fun f => o (ix3 b r f)) (fun f k => w (ix3 0 f k)) l := by
  pointwise [stream]
  rfl

theorem result_at (x : FVec Ideal S16x2048x1024 .f32) (kv : FVec Ideal S16x256x1024 .bf16) (g : FVec Ideal S1x1024 .f32)
    (wq : FVec Ideal S1x1024x512 .f32) (wo : FVec Ideal S1x512x1024 .f32) (b : Fin 16) (r : Fin 2048) (l : Fin 1024) :
    result x kv g wq wo (ix3 b r l) = Layer.Mem.row (fun k => x (ix3 b r k))
      (fun f => Layer.dot (Layer.norm (fun k => x (ix3 b r k)) (fun k => g (ix2 0 k))) (fun k => wq (ix3 0 k f)))
      (fun j f => kv (ix3 b j ⟨f.val, by omega⟩)) (fun j f => kv (ix3 b j ⟨512 + f.val, by omega⟩)) (fun f k => wo (ix3 0 f k)) l := by
  rw [result, stream_at, Layer.Mem.row]
  refine congrArg (fun o => Layer.Mem.stream (fun k => x (ix3 b r k)) o (fun f k => wo (ix3 0 f k)) l) (funext fun f => ?_)
  rw [heads_at, Layer.Mem.attn]
  have hs : (fun j => score (query (rms x g) wq) (keys kv) (ix4 b (Layer.Mem.headOf f) r j)) = Layer.Mem.score
      (fun f => Layer.dot (Layer.norm (fun k => x (ix3 b r k)) (fun k => g (ix2 0 k))) (fun k => wq (ix3 0 k f)))
      (fun j f => kv (ix3 b j ⟨f.val, by omega⟩)) (Layer.Mem.headOf f) := by
    funext j
    rw [score_at, Layer.Mem.score]
    simp only [query_at, keys_at, rms_at]
  refine Finset.sum_congr rfl fun j _ => ?_
  rw [values_at, soft_at]
  simp only [weight_at]
  rw [hs]

end Cert.Proof.MemAttn.Ref

end
-- ==== Proof.MemAttn.Out.lean ====
/- The memory attention: the kernel's array after the run, what the precondition says, and the claims. -/
module

public import proofs.«01_k».proof.Defs
public import proofs.«01_k».proof.Proof.Gen.Pre_finite_mem
public import proofs.«01_k».proof.Proof.Value.Mask
public import proofs.«01_k».proof.Proof.MemAttn.Body
public import proofs.«01_k».proof.Proof.MemAttn.Ref
public import Idealize.ShloMosaic.Adequacy
public import Idealize.ShloMosaic.Init

@[expose] public section

set_option maxRecDepth 16384

noncomputable section

namespace Cert.Proof.MemAttn

open Cert.Kernel5Ideal Cert.Kernel5Ideal.Gen
open Idealize.ShloMosaic Idealize.ShloMosaic.TcCoe
open Idealize.SL Idealize.SL.Sem

/-! ## The precondition -/

/-- Keys, gains and the queries' weight are real. -/
structure RealIn (kv : FVec Ideal S16x256x1024 .bf16) (g : FVec Ideal S1x1024 .f32) (wq : FVec Ideal S1x1024x512 .f32) : Prop where
  keys : ∀ (b : Fin 16) (j : Fin 256) (f : Fin 512), Soft.IsReal (kv (ix3 b j ⟨f.val, by omega⟩))
  gains : ∀ k : Fin 1024, Soft.IsReal (g (ix2 0 k))
  weight : ∀ (k : Fin 1024) (f : Fin 512), Soft.IsReal (wq (ix3 0 k f))

/-- The printed comparison of one entry. -/
def fin (z : EReal) : BitVec 1 :=
  FloatOps.cmpf (F := Ideal) (φ := .f32) .olt (FloatOps.hostAbsf (F := Ideal) (φ := .f32) z) (Ideal.ofBits .f32 0x7F800000#32)

theorem real_of_fin (z : EReal) (hz : fin z = 1#1) : Soft.IsReal z := by
  rw [fin, show Ideal.ofBits .f32 0x7F800000#32 = ⊤ by simp [Ideal.ofBits, Ideal.ieee]] at hz
  refine Soft.IsReal.of_ne ?_ ?_
  · rintro rfl
    simp [FloatOps.cmpf, FloatOps.hostAbsf, Ideal.cmp] at hz
  · rintro rfl
    simp [FloatOps.cmpf, FloatOps.hostAbsf, Ideal.cmp] at hz

theorem pre_at (x : FVec Ideal Cert.Pre_finite_mem.S16x2048x1024 .f32) (kv : FVec Ideal Cert.Pre_finite_mem.S16x256x1024 .bf16)
    (g : FVec Ideal Cert.Pre_finite_mem.S1x1024 .f32) (wq : FVec Ideal Cert.Pre_finite_mem.S1x1024x512 .f32)
    (wo : FVec Ideal Cert.Pre_finite_mem.S1x512x1024 .f32) (a a' : Fin 4) (j : Fin 256) (f : Fin 512) :
    Cert.Pre_finite_mem.fn (F := Ideal) x kv g wq wo (ix4 a a' j f)
      = (fin (kv (ix3 ⟨a.val * 4 + a'.val, by omega⟩ j ⟨f.val, by omega⟩))
          &&& fin (wq (ix3 0 ⟨a'.val * 256 + j.val, by omega⟩ f))) &&& fin (g (ix2 0 ⟨a'.val * 256 + j.val, by omega⟩)) := by
  pointwise [Cert.Pre_finite_mem.fn]
  rfl

theorem real_of_finite (x : FVec Ideal S16x2048x1024 .f32) (kv : FVec Ideal S16x256x1024 .bf16) (g : FVec Ideal S1x1024 .f32)
    (wq : FVec Ideal S1x1024x512 .f32) (wo : FVec Ideal S1x512x1024 .f32)
    (h : Cert.Pre_finite_mem.fn (F := Ideal) x kv g wq wo = fun _ => 1#1) : RealIn kv g wq := by
  have hp : ∀ (a a' : Fin 4) (j : Fin 256) (f : Fin 512),
      (fin (kv (ix3 ⟨a.val * 4 + a'.val, by omega⟩ j ⟨f.val, by omega⟩)) = 1#1
        ∧ fin (wq (ix3 0 ⟨a'.val * 256 + j.val, by omega⟩ f)) = 1#1) ∧ fin (g (ix2 0 ⟨a'.val * 256 + j.val, by omega⟩)) = 1#1 :=
    fun a a' j f => by
      have := (pre_at x kv g wq wo a a' j f).symm.trans (congrFun h _)
      rwa [Ref.and_eq_one, Ref.and_eq_one] at this
  refine ⟨fun b j f => ?_, fun k => ?_, fun k f => ?_⟩
  · have := (hp ⟨b.val / 4, by omega⟩ ⟨b.val % 4, by omega⟩ j f).1.1
    rw [show (⟨b.val / 4 * 4 + b.val % 4, by omega⟩ : Fin 16) = b from Fin.ext (by simp only []; omega)] at this
    exact real_of_fin _ this
  · have := (hp 0 ⟨k.val / 256, by omega⟩ ⟨k.val % 256, by omega⟩ 0).2
    rw [show (⟨k.val / 256 * 256 + k.val % 256, by omega⟩ : Fin 1024) = k from Fin.ext (by simp only []; omega)] at this
    exact real_of_fin _ this
  · have := (hp 0 ⟨k.val / 256, by omega⟩ ⟨k.val % 256, by omega⟩ f).1.2
    rw [show (⟨k.val / 256 * 256 + k.val % 256, by omega⟩ : Fin 1024) = k from Fin.ext (by simp only []; omega)] at this
    exact real_of_fin _ this

/-! ## The array -/

variable (m : (ℓ : Loc nD τ sig) → Buf (Elt Ideal) ℓ)

theorem index0 : ∀ t : Fin cfg0.N, win0_0.index t = ![(grid0.coords t 0).val, (grid0.coords t 1).val, 0] := (by decide +kernel : ∀ t : Fin grid0.N, _)
theorem index1 : ∀ t : Fin cfg0.N, win0_1.index t = ![(grid0.coords t 0).val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![(grid0.coords t 0).val, (grid0.coords t 1).val, 0] := (by decide +kernel : ∀ t : Fin grid0.N, _)

/-- The reference's result of the arguments on core `c`. -/
abbrev want (c : Dev nD) : FVec Ideal S16x2048x1024 .f32 :=
  Ref.result (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The batch of a grid point. -/
abbrev batch (t : Fin cfg0.N) : Fin 16 := ⟨(grid0.coords t 0).val, (grid0.coords t 0).isLt⟩

theorem rows_blk (c : Dev nD) (t : Fin cfg0.N) (r : Fin 1024) (k : Fin 1024) (h : (grid0.coords t 1).val * 1024 + r.val < 2048) :
    Gen.iblk m c 0 t (ix3 0 r k) = m ((c.tc : Thread nD τ).loc main_arg0) (ix3 (batch t) ⟨(grid0.coords t 1).val * 1024 + r.val, h⟩ k) := by
  blk_simp [Gen.iblk]
  refine congrArg (m ((c.tc : Thread nD τ).loc main_arg0)) ?_
  blk_ext [index0]

theorem kv_blk (c : Dev nD) (t : Fin cfg0.N) (j : Fin 256) (k : Fin 1024) :
    @Eq EReal (Gen.iblk m c 1 t (ix3 0 j k)) (m ((c.tc : Thread nD τ).loc main_arg1) (ix3 (batch t) j k)) := by
  blk_simp [Gen.iblk]
  refine congrArg (m ((c.tc : Thread nD τ).loc main_arg1)) ?_
  blk_ext [index1]

theorem g_blk (c : Dev nD) (t : Fin cfg0.N) : Gen.iblk m c 2 t = m ((c.tc : Thread nD τ).loc main_arg2) := by
  funext y
  blk_simp [Gen.iblk]
  refine congrArg (m ((c.tc : Thread nD τ).loc main_arg2)) ?_
  blk_ext [index2]

theorem wq_blk (c : Dev nD) (t : Fin cfg0.N) : Gen.iblk m c 3 t = m ((c.tc : Thread nD τ).loc main_arg3) := by
  funext y
  blk_simp [Gen.iblk]
  refine congrArg (m ((c.tc : Thread nD τ).loc main_arg3)) ?_
  blk_ext [index3]

theorem wo_blk (c : Dev nD) (t : Fin cfg0.N) : Gen.iblk m c 4 t = m ((c.tc : Thread nD τ).loc main_arg4) := by
  funext y
  blk_simp [Gen.iblk]
  refine congrArg (m ((c.tc : Thread nD τ).loc main_arg4)) ?_
  blk_ext [index4]

theorem block_eq (c : Dev nD) (hx : RealIn (m ((c.tc : Thread nD τ).loc main_arg1)) (m ((c.tc : Thread nD τ).loc main_arg2))
      (m ((c.tc : Thread nD τ).loc main_arg3))) (t : Fin cfg0.N) (r : Fin 1024) (l : Fin 1024) (h : (grid0.coords t 1).val * 1024 + r.val < 2048) :
    out0_5 (F := Ideal) (Gen.iblk m c 0 t) (Gen.iblk m c 1 t) (Gen.iblk m c 2 t) (Gen.iblk m c 3 t) (Gen.iblk m c 4 t) (ix3 0 r l)
      = want m c (ix3 (batch t) ⟨(grid0.coords t 1).val * 1024 + r.val, h⟩ l) := by
  rw [out_at, want, Ref.result_at, g_blk, wq_blk, wo_blk]
  simp only [rows_blk m c t r _ h, kv_blk m c t]
  exact Layer.Mem.rowK_eq _ _ _ _ _
    (fun f => Layer.Mem.dot_real _ _ (Layer.Mem.norm_real _ _ hx.gains) fun k => hx.weight k f) (fun j f => hx.keys _ j f) l

/-- The kernel's array after the run. -/
theorem final_out (c : Dev nD) (hx : RealIn (m ((c.tc : Thread nD τ).loc main_arg1)) (m ((c.tc : Thread nD τ).loc main_arg2))
      (m ((c.tc : Thread nD τ).loc main_arg3))) : (dats m 0 c).arrAt 5 cfg0.N = want m c := by
  refine (dats m 0 c).arrAt_eq_of_covers 5 _ (by decide +kernel) fun t _ y => ?_
  rw [after0_5]
  blk_simp
  have ht : (grid0.coords t 1).val < 2 := (grid0.coords t 1).isLt
  have hr : (y 1).val < 1024 := (y 1).isLt
  have hy : y = ix3 0 (y 1) (y 2) := by
    funext a
    fin_cases a
    · exact Subsingleton.elim (α := Fin 1) _ _
    · rfl
    · rfl
  rw [hy]
  refine (block_eq m c hx t (y 1) (y 2) (by omega)).trans (congrArg (want m c) ?_)
  blk_ext [index5]

/-! ## The claims -/

theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem frame_reference_pre : Cert.quiescent_Reference5Ideal_pre_finite_mem := fun m g _ => frame_reference m g trivial

/-- From arguments that agree, kernel and reference end with the same result. -/
theorem algebraic : Cert.algebraic_Kernel5Ideal_Reference5Ideal_pre_finite_mem := by
  intro m g m' g' hpre hagree
  refine ⟨fun c => want m c, (θ_run defs _ _).mono
    (fun _ h c => ⟨(h c).1.trans (final_out m c (real_of_finite _ _ _ _ _ (hpre c))), (h c).2⟩)
    (Cert.Kernel5Ideal.Value.run_blocks (F := Ideal) m g), ?_⟩
  refine (θ_run Cert.Reference5Ideal.defs _ _).mono (fun _ h c => ⟨(h c).1.trans ?_, (h c).2⟩)
    (Cert.Reference5Ideal.Value.run (F := Ideal) m' g')
  obtain ⟨h0, h1, h2, h3, h4⟩ := hagree c
  rw [Ref.res_eq, h0, h1, h2, h3, h4]

end Cert.Proof.MemAttn

end
-- ==== Proof.Layer.Rotary.lean ====
/- The combined projection's row functions at the extended reals: the rotation of the first sixteen lanes of each head
   of 64, two heads to a row of 128 lanes, and what becomes of each of the 24 columns of 128 lanes. -/
module

public import proofs.«01_k».proof.Proof.Layer.Norm
public import Mathlib.Analysis.SpecialFunctions.Log.Basic

@[expose] public section

noncomputable section

namespace Cert.Proof.Layer

open Idealize.ShloMosaic

/-- A row of two heads rotated: of each head the first eight lanes are turned against the next eight, by the cosines in
    the table's first eight lanes and the sines in its next eight; the other lanes stay. -/
def rotary (t x : Fin 128 → EReal) (d : Fin 128) : EReal :=
  if h : d.val % 64 < 8 then x d * t d - x ⟨d.val + 8, by omega⟩ * t ⟨d.val + 8, by omega⟩
  else if h' : d.val % 64 < 16 then x d * t ⟨d.val - 8, by omega⟩ + x ⟨d.val - 8, by omega⟩ * t d
  else x d

/-- The queries' scale, `64 ^ (-1/2) / log 2`. -/
def gain : EReal := (((Real.log 256)⁻¹ : ℝ) : EReal)

/-- What becomes of column `j` of the projection: columns 0-3 are rotated queries, 4-7 rotated keys, 12-15 queries that
    are not rotated; queries are scaled; the others stay. -/
def lanes (t : Fin 128 → EReal) (j : ℕ) (x : Fin 128 → EReal) (d : Fin 128) : EReal :=
  if j < 4 then rotary t x d * gain else if j < 8 then rotary t x d
  else if 12 ≤ j ∧ j < 16 then x d * gain else x d

theorem log_256 : Real.log 256 = 8 * Real.log 2 := by
  rw [show (256 : ℝ) = 2 ^ 8 by norm_num, Real.log_pow]
  norm_num

/-- Scaling by an eighth and dividing by the logarithm of 2 is scaling by the gain. -/
theorem gain_eq (x : EReal) : Ideal.div (x * (((8⁻¹ : ℝ)) : EReal)) ((Real.log 2 : ℝ) : EReal) = x * gain := by
  have h : Real.log 2 ≠ 0 := (Real.log_pos (by norm_num)).ne'
  have h0 : ((Real.log 2 : ℝ) : EReal) ≠ 0 := by exact_mod_cast h
  rw [Ideal.div, if_neg h0, gain, log_256, mul_assoc, ← EReal.coe_inv, ← EReal.coe_mul, mul_inv]

/-- The kernel's form of the rotation: three products, of which the table's masks leave one or two. -/
theorem rotary_of (t x : Fin 128 → EReal) (d : Fin 128) (u v : EReal)
    (hu : ∀ h : d.val % 64 < 8, u = x ⟨d.val + 8, by omega⟩)
    (hv : ∀ h : ¬ d.val % 64 < 8, d.val % 64 < 16 → v = x ⟨d.val - 8, by omega⟩) (a b c : EReal)
    (ha : a = if d.val % 64 < 8 then t d else if d.val % 64 < 16 then t ⟨d.val - 8, by omega⟩ else 1)
    (hb : b = if h : d.val % 64 < 8 then 0 - t ⟨d.val + 8, by omega⟩ else 0)
    (hc : c = if ¬ d.val % 64 < 8 ∧ d.val % 64 < 16 then t d else 0) :
    x d * a + u * b + v * c = rotary t x d := by
  unfold rotary
  by_cases h : d.val % 64 < 8
  · rw [dif_pos h, ha, if_pos h, hb, dif_pos h, hc, if_neg (by simp [h]), mul_zero, add_zero, hu h, zero_sub, mul_neg, ← sub_eq_add_neg]
  · by_cases h' : d.val % 64 < 16
    · rw [dif_neg h, dif_pos h', ha, if_neg h, if_pos h', hb, dif_neg h, hc, if_pos ⟨h, h'⟩, mul_zero, add_zero, hv h h']
    · rw [dif_neg h, dif_neg h', ha, if_neg h, if_neg h', hb, dif_neg h, hc, if_neg (by simp [h'])]
      simp

end Cert.Proof.Layer

end
-- ==== Proof.Qkv.Ref.lean ====
/- The combined projection's reference: its operations under names, and each read at an index. -/
module

public import proofs.«01_k».proof.Proof.Gen.Reference6Ideal.Run
public import proofs.«01_k».proof.Proof.Layer.Rotary
public import Idealize.ShloMosaic.Lib.Pointwise

@[expose] public section

set_option maxRecDepth 16384

noncomputable section

namespace Cert.Proof.Qkv.Ref

open Idealize.ShloMosaic Cert.Reference6Ideal Facts₀ Facts

variable {F : FTy → Type} [FloatOps F]

/-- The rows normalised, with their gains. -/
def rms (x : FVec F S32768x1024 .f32) (g : FVec F S1x1024 .f32) : FVec F S32768x1024 .f32 :=
  mulf (mulf x (broadcastInDim S32768x1024 ![0, 1] bcast_S32768x1_S32768x1024_0_1
    (Host.rsqrt (addf (Host.divf (broadcastInDim S32768x1 ![0] bcast_S32768_S32768x1_0
        (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 (shapeCast _ g shapeCasts_S1x1024_S1024)))

/-- The projection to queries, keys and values of both mixers: the weight's first 3072 columns. -/
def proj (n : FVec F S32768x1024 .f32) (w : FVec F S1x1024x5120 .f32) : FVec F S32768x3072 .f32 :=
  Host.dotGeneral dot_S32768x1024_S1024x3072_S32768x3072_1_0_0_1_n_n none n
    (extractStridedSlice S1024x3072 ![0, 0] (shapeCast _ w shapeCasts_S1x1024x5120_S1024x5120) slices_S1024x5120_S1024x3072_0_0)

/-- The table by head and lane. -/
def table (t : FVec F S32768x128 .f32) : FVec F S32768x1x2x64 .f32 := shapeCast _ t shapeCasts_S32768x128_S32768x1x2x64

/-- The cosines for each head. -/
def cosines (t : FVec F S32768x1x2x64 .f32) : FVec F S32768x4x2x8 .f32 :=
  broadcastInDim S32768x4x2x8 ![0, 1, 2, 3] bcast_S32768x1x2x8_S32768x4x2x8_0_1_2_3
    (extractStridedSlice S32768x1x2x8 ![0, 0, 0, 0] t slices_S32768x1x2x64_S32768x1x2x8_0_0_0_0)

/-- The sines for each head. -/
def sines (t : FVec F S32768x1x2x64 .f32) : FVec F S32768x4x2x8 .f32 :=
  broadcastInDim S32768x4x2x8 ![0, 1, 2, 3] bcast_S32768x1x2x8_S32768x4x2x8_0_1_2_3
    (extractStridedSlice S32768x1x2x8 ![0, 0, 0, 8] t slices_S32768x1x2x64_S32768x1x2x8_0_0_0_8)

/-- The lanes turned, `x1`. -/
def first (x : FVec F S32768x4x2x64 .f32) : FVec F S32768x4x2x8 .f32 :=
  extractStridedSlice S32768x4x2x8 ![0, 0, 0, 0] x slices_S32768x4x2x64_S32768x4x2x8_0_0_0_0

/-- The lanes they are turned against, `x2`. -/
def second (x : FVec F S32768x4x2x64 .f32) : FVec F S32768x4x2x8 .f32 :=
  extractStridedSlice S32768x4x2x8 ![0, 0, 0, 8] x slices_S32768x4x2x64_S32768x4x2x8_0_0_0_8

/-- The three pieces of a head side by side. -/
def head (a b : FVec F S32768x4x2x8 .f32) (x : FVec F S32768x4x2x48 .f32) : FVec F S32768x4x2x64 .f32 :=
  concatenate S32768x4x2x64 3 [⟨S32768x4x2x8, a⟩, ⟨S32768x4x2x8, b⟩, ⟨S32768x4x2x48, x⟩]
    concatenates_S32768x4x2x8_S32768x4x2x8_S32768x4x2x48_S32768x4x2x64_d3

/-- The heads rotated. -/
def turn (x : FVec F S32768x4x2x64 .f32) (t : FVec F S32768x1x2x64 .f32) : FVec F S32768x4x2x64 .f32 :=
  head (subf (mulf (first x) (cosines t)) (mulf (second x) (sines t))) (addf (mulf (second x) (cosines t)) (mulf (first x) (sines t)))
    (extractStridedSlice S32768x4x2x48 ![0, 0, 0, 16] x slices_S32768x4x2x64_S32768x4x2x48_0_0_0_16)

/-- Eight heads' columns rotated. -/
def rope (x : FVec F S32768x512 .f32) (t : FVec F S32768x128 .f32) : FVec F S32768x512 .f32 :=
  shapeCast _ (turn (shapeCast _ x shapeCasts_S32768x512_S32768x4x2x64) (table t)) shapeCasts_S32768x4x2x64_S32768x512

/-- Queries scaled. -/
def scaled (x : FVec F S32768x512 .f32) : FVec F S32768x512 .f32 :=
  Host.divf (mulf x (broadcastInDim S32768x512 ![] bcast_S_S32768x512 (constant S_ .f32 0x3E000000#32)))
    (broadcastInDim S32768x512 ![] bcast_S_S32768x512 (Host.log (constant S_ .f32 0x40000000#32)))

/-- Six groups of 512 columns side by side. -/
def join (a b c d e f : FVec F S32768x512 .f32) : FVec F S32768x3072 .f32 :=
  concatenate S32768x3072 1 [⟨S32768x512, a⟩, ⟨S32768x512, b⟩, ⟨S32768x512, c⟩, ⟨S32768x512, d⟩, ⟨S32768x512, e⟩, ⟨S32768x512, f⟩]
    concatenates_S32768x512_S32768x512_S32768x512_S32768x512_S32768x512_S32768x512_S32768x3072_d1

/-- The groups of a projection: rotated and scaled queries, rotated keys, values; scaled queries, keys, values. -/
def groups (p : FVec F S32768x3072 .f32) (t : FVec F S32768x128 .f32) : FVec F S32768x3072 .f32 :=
  join (scaled (rope (extractStridedSlice S32768x512 ![0, 0] p slices_S32768x3072_S32768x512_0_0) t))
    (rope (extractStridedSlice S32768x512 ![0, 512] p slices_S32768x3072_S32768x512_0_512) t)
    (extractStridedSlice S32768x512 ![0, 1024] p slices_S32768x3072_S32768x512_0_1024)
    (scaled (extractStridedSlice S32768x512 ![0, 1536] p slices_S32768x3072_S32768x512_0_1536))
    (extractStridedSlice S32768x512 ![0, 2048] p slices_S32768x3072_S32768x512_0_2048)
    (extractStridedSlice S32768x512 ![0, 2560] p slices_S32768x3072_S32768x512_0_2560)

/-- The result. -/
def result (x : FVec F S32768x1024 .f32) (g : FVec F S1x1024 .f32) (w : FVec F S1x1024x5120 .f32) (t : FVec F S32768x128 .f32) :
    FVec F S32768x3072 .bf16 :=
  truncf .bf16 (groups (proj (rms x g) w) t) bitsLt_bf16_f32

/-! ## At an index -/

theorem rms_at (x : FVec Ideal S32768x1024 .f32) (g : FVec Ideal S1x1024 .f32) (r : Fin 32768) (l : Fin 1024) :
    rms x g (ix2 r l) = Layer.norm (fun k => x (ix2 r k)) (fun k => g (ix2 0 k)) l := by
  pointwise [rms]
  rfl

theorem proj_at (n : FVec Ideal S32768x1024 .f32) (w : FVec Ideal S1x1024x5120 .f32) (r : Fin 32768) (l : Fin 3072) :
    proj n w (ix2 r l) = Layer.dot (fun k => n (ix2 r k)) (fun k => w (ix3 0 k ⟨l.val, by omega⟩)) := by
  pointwise [proj]
  rfl

theorem table_at (t : FVec Ideal S32768x128 .f32) (r : Fin 32768) (e : Fin 2) (d : Fin 64) :
    table t (ix4 r 0 e d) = t (ix2 r ⟨e.val * 64 + d.val, by omega⟩) := by
  pointwise [table]

theorem cosines_at (t : FVec Ideal S32768x1x2x64 .f32) (r : Fin 32768) (p : Fin 4) (e : Fin 2) (d : Fin 8) :
    cosines t (ix4 r p e d) = t (ix4 r 0 e ⟨d.val, by omega⟩) := by
  pointwise [cosines]

theorem sines_at (t : FVec Ideal S32768x1x2x64 .f32) (r : Fin 32768) (p : Fin 4) (e : Fin 2) (d : Fin 8) :
    sines t (ix4 r p e d) = t (ix4 r 0 e ⟨8 + d.val, by omega⟩) := by
  pointwise [sines]

theorem first_at (x : FVec Ideal S32768x4x2x64 .f32) (r : Fin 32768) (p : Fin 4) (e : Fin 2) (d : Fin 8) :
    first x (ix4 r p e d) = x (ix4 r p e ⟨d.val, by omega⟩) := by
  pointwise [first]

theorem second_at (x : FVec Ideal S32768x4x2x64 .f32) (r : Fin 32768) (p : Fin 4) (e : Fin 2) (d : Fin 8) :
    second x (ix4 r p e d) = x (ix4 r p e ⟨8 + d.val, by omega⟩) := by
  pointwise [second]

theorem head_at (a b : FVec Ideal S32768x4x2x8 .f32) (x : FVec Ideal S32768x4x2x48 .f32) (r : Fin 32768) (p : Fin 4) (e : Fin 2) (d : Fin 64) :
    head a b x (ix4 r p e d) = if h : d.val < 8 then a (ix4 r p e ⟨d.val, h⟩)
      else if h' : d.val < 16 then b (ix4 r p e ⟨d.val - 8, by omega⟩) else x (ix4 r p e ⟨d.val - 16, by omega⟩) := by
  pointwise [head]
  by_cases h : d.val < 8
  · rw [dif_pos h, dif_pos h]
  by_cases h' : d.val < 16
  · rw [dif_neg h, dif_neg h, dif_pos h', dif_pos (by omega)]
  · rw [dif_neg h, dif_neg h, dif_neg h', dif_neg (by omega)]
    exact congrArg (fun f => x (ix4 r p e f)) (Fin.ext (by simp only []; omega))

theorem scaled_at (x : FVec Ideal S32768x512 .f32) (r : Fin 32768) (q : Fin 512) :
    scaled x (ix2 r q) = Ideal.div (x (ix2 r q) * Ideal.ofBits .f32 0x3E000000#32) (Ideal.log (Ideal.ofBits .f32 0x40000000#32)) := by
  pointwise [scaled]

theorem spread_at (x : FVec Ideal S32768x512 .f32) (r : Fin 32768) (p : Fin 4) (e : Fin 2) (d : Fin 64) :
    (shapeCast S32768x4x2x64 x shapeCasts_S32768x512_S32768x4x2x64) (ix4 r p e d) = x (ix2 r ⟨p.val * 128 + e.val * 64 + d.val, by omega⟩) := by
  pointwise

theorem merge_at (x : FVec Ideal S32768x4x2x64 .f32) (r : Fin 32768) (p : Fin 4) (l : Fin 128) :
    (shapeCast S32768x512 x shapeCasts_S32768x4x2x64_S32768x512) (ix2 r ⟨128 * p.val + l.val, by omega⟩)
      = x (ix4 r p ⟨l.val / 64, by omega⟩ ⟨l.val % 64, by omega⟩) := by
  pointwise
  exact congrArg₂ (fun e d => x (ix4 r p e d)) (Fin.ext (by simp only []; omega)) (Fin.ext (by simp only []; omega))

/-! ## The rotation -/

theorem turn_at (x : FVec Ideal S32768x4x2x64 .f32) (t : FVec Ideal S32768x1x2x64 .f32) (r : Fin 32768) (p : Fin 4) (e : Fin 2) (d : Fin 64) :
    turn x t (ix4 r p e d) = if h : d.val < 8 then
        x (ix4 r p e d) * t (ix4 r 0 e d) - x (ix4 r p e ⟨8 + d.val, by omega⟩) * t (ix4 r 0 e ⟨8 + d.val, by omega⟩)
      else if h' : d.val < 16 then
        x (ix4 r p e d) * t (ix4 r 0 e ⟨d.val - 8, by omega⟩) + x (ix4 r p e ⟨d.val - 8, by omega⟩) * t (ix4 r 0 e d)
      else x (ix4 r p e d) := by
  rw [turn, head_at]
  by_cases h : d.val < 8
  · rw [dif_pos h, dif_pos h]
    show first x _ * cosines t _ - second x _ * sines t _ = _
    rw [first_at, second_at, cosines_at, sines_at]
  by_cases h' : d.val < 16
  · rw [dif_neg h, dif_neg h, dif_pos h', dif_pos h']
    show second x _ * cosines t _ + first x _ * sines t _ = _
    rw [first_at, second_at, cosines_at, sines_at]
    have hd : (⟨8 + (d.val - 8), by omega⟩ : Fin 64) = d := Fin.ext (by simp only []; omega)
    simp only [hd]
  · rw [dif_neg h, dif_neg h, dif_neg h', dif_neg h']
    pointwise
    exact congrArg (fun f => x (ix4 r p e f)) (Fin.ext (by simp only []; omega))

theorem rope_at (x : FVec Ideal S32768x512 .f32) (t : FVec Ideal S32768x128 .f32) (r : Fin 32768) (p : Fin 4) (l : Fin 128) :
    rope x t (ix2 r ⟨128 * p.val + l.val, by omega⟩)
      = Layer.rotary (fun k => t (ix2 r k)) (fun k => x (ix2 r ⟨128 * p.val + k.val, by omega⟩)) l := by
  rw [rope, merge_at, turn_at]
  simp only [spread_at, table_at, Layer.rotary]
  have e1 : ∀ n (h : p.val * 128 + l.val / 64 * 64 + n < 512) (h' : 128 * p.val + (l.val / 64 * 64 + n) < 512),
      x (ix2 r ⟨p.val * 128 + l.val / 64 * 64 + n, h⟩) = x (ix2 r ⟨128 * p.val + (l.val / 64 * 64 + n), h'⟩) :=
    fun n h h' => congrArg (fun f => x (ix2 r f)) (Fin.ext (by simp only []; omega))
  have a0 : l.val / 64 * 64 + l.val % 64 = l.val := by omega
  by_cases h : l.val % 64 < 8
  · have a1 : l.val / 64 * 64 + (8 + l.val % 64) = l.val + 8 := by omega
    rw [dif_pos h, dif_pos h, e1 _ _ (by omega), e1 _ _ (by omega)]
    simp only [a0, a1]
  by_cases h' : l.val % 64 < 16
  · have a1 : l.val / 64 * 64 + (l.val % 64 - 8) = l.val - 8 := by omega
    rw [dif_neg h, dif_neg h, dif_pos h', dif_pos h', e1 _ _ (by omega), e1 _ _ (by omega)]
    simp only [a0, a1]
  · rw [dif_neg h, dif_neg h, dif_neg h', dif_neg h', e1 _ _ (by omega)]
    simp only [a0]

theorem bits_eighth : Ideal.ofBits .f32 0x3E000000#32 = (((8⁻¹ : ℝ)) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

theorem scaled_eq (x : FVec Ideal S32768x512 .f32) (r : Fin 32768) (q : Fin 512) : scaled x (ix2 r q) = x (ix2 r q) * Layer.gain := by
  rw [scaled_at, bits_eighth, bits_two, Ideal.log_coe, if_neg (by norm_num), Layer.gain_eq]

/-! ## The groups -/

/-- The six groups side by side, at column `i` of group `k`. -/
theorem join_at (a : Fin 6 → FVec Ideal S32768x512 .f32) (r : Fin 32768) (k : Fin 6) (i : Fin 512) :
    join (a 0) (a 1) (a 2) (a 3) (a 4) (a 5) (ix2 r ⟨512 * k.val + i.val, by omega⟩) = a k (ix2 r i) := by
  pointwise [join]
  have hi := i.isLt
  have pick : ∀ (g : Fin 6) (f f' : Fin 512), f.val = f'.val → a g (ix2 r f) = a g (ix2 r f') := fun g f f' h => by rw [Fin.ext h]
  fin_cases k <;> simp only [] <;> repeat' first | rw [dif_neg (by omega)] | rw [dif_pos (by omega)]
  all_goals exact pick _ _ _ (by simp only []; omega)

/-- The groups at column `j` of 128 lanes. -/
theorem groups_at (p : FVec Ideal S32768x3072 .f32) (t : FVec Ideal S32768x128 .f32) (r : Fin 32768) (j : Fin 24) (l : Fin 128) :
    groups p t (ix2 r ⟨128 * j.val + l.val, by omega⟩)
      = Layer.lanes (fun k => t (ix2 r k)) j (fun k => p (ix2 r ⟨128 * j.val + k.val, by omega⟩)) l := by
  have cut : ∀ (k : Fin 6) (h : S32768x3072.Slices ![0, 512 * k.val] S32768x512) (i : Fin 512),
      extractStridedSlice S32768x512 ![0, 512 * k.val] p h (ix2 r i) = p (ix2 r ⟨512 * k.val + i.val, by omega⟩) := fun k h i => by
    fin_cases k <;> pointwise
  have hp : ∀ (f f' : Fin 3072), f.val = f'.val → p (ix2 r f) = p (ix2 r f') := fun f f' h => by rw [Fin.ext h]
  obtain ⟨k, i, hj⟩ : ∃ (k : Fin 6) (i : Fin 4), j.val = 4 * k.val + i.val :=
    ⟨⟨j.val / 4, by omega⟩, ⟨j.val % 4, by omega⟩, by simp only []; omega⟩
  have hq : 128 * i.val + l.val < 512 := by omega
  rw [show (⟨128 * j.val + l.val, by omega⟩ : Fin 3072) = ⟨512 * k.val + (⟨128 * i.val + l.val, hq⟩ : Fin 512).val, by simp only []; omega⟩ from
    Fin.ext (by simp only []; omega)]
  refine (join_at ![scaled (rope (extractStridedSlice S32768x512 ![0, 0] p slices_S32768x3072_S32768x512_0_0) t),
    rope (extractStridedSlice S32768x512 ![0, 512] p slices_S32768x3072_S32768x512_0_512) t,
    extractStridedSlice S32768x512 ![0, 1024] p slices_S32768x3072_S32768x512_0_1024,
    scaled (extractStridedSlice S32768x512 ![0, 1536] p slices_S32768x3072_S32768x512_0_1536),
    extractStridedSlice S32768x512 ![0, 2048] p slices_S32768x3072_S32768x512_0_2048,
    extractStridedSlice S32768x512 ![0, 2560] p slices_S32768x3072_S32768x512_0_2560] r k ⟨128 * i.val + l.val, hq⟩).trans ?_
  have turned : ∀ (k : Fin 6) (h : S32768x3072.Slices ![0, 512 * k.val] S32768x512), j.val = 4 * k.val + i.val →
      rope (extractStridedSlice S32768x512 ![0, 512 * k.val] p h) t (ix2 r ⟨128 * i.val + l.val, hq⟩)
        = Layer.rotary (fun k => t (ix2 r k)) (fun k => p (ix2 r ⟨128 * j.val + k.val, by omega⟩)) l := fun k h hk => by
    rw [rope_at]
    refine congrArg (fun f => Layer.rotary _ f l) (funext fun d => ?_)
    rw [cut]
    exact hp _ _ (by simp only []; omega)
  have stays : ∀ (k : Fin 6) (h : S32768x3072.Slices ![0, 512 * k.val] S32768x512), j.val = 4 * k.val + i.val →
      extractStridedSlice S32768x512 ![0, 512 * k.val] p h (ix2 r ⟨128 * i.val + l.val, hq⟩) = p (ix2 r ⟨128 * j.val + l.val, by omega⟩) :=
    fun k h hk => (cut k h _).trans (hp _ _ (by simp only []; omega))
  have hi := i.isLt
  unfold Layer.lanes
  fin_cases k <;> simp only [] at hj
  · rw [if_pos (by omega)]
    exact (scaled_eq _ r _).trans (congrArg (· * Layer.gain) (turned 0 slices_S32768x3072_S32768x512_0_0 hj))
  · rw [if_neg (by omega), if_pos (by omega)]
    exact turned 1 slices_S32768x3072_S32768x512_0_512 hj
  · rw [if_neg (by omega), if_neg (by omega), if_neg (by omega)]
    exact stays 2 slices_S32768x3072_S32768x512_0_1024 hj
  · rw [if_neg (by omega), if_neg (by omega), if_pos (by omega)]
    exact (scaled_eq _ r _).trans (congrArg (· * Layer.gain) (stays 3 slices_S32768x3072_S32768x512_0_1536 hj))
  · rw [if_neg (by omega), if_neg (by omega), if_neg (by omega)]
    exact stays 4 slices_S32768x3072_S32768x512_0_2048 hj
  · rw [if_neg (by omega), if_neg (by omega), if_neg (by omega)]
    exact stays 5 slices_S32768x3072_S32768x512_0_2560 hj

theorem result_at (x : FVec Ideal S32768x1024 .f32) (g : FVec Ideal S1x1024 .f32) (w : FVec Ideal S1x1024x5120 .f32)
    (t : FVec Ideal S32768x128 .f32) (r : Fin 32768) (j : Fin 24) (l : Fin 128) :
    @Eq EReal (result x g w t (ix2 r ⟨128 * j.val + l.val, by omega⟩))
      (Layer.lanes (fun k => t (ix2 r k)) j
        (fun d => Layer.dot (Layer.norm (fun k => x (ix2 r k)) (fun k => g (ix2 0 k))) (fun k => w (ix3 0 k ⟨128 * j.val + d.val, by omega⟩))) l) := by
  refine (groups_at (proj (rms x g) w) t r j l).trans ?_
  simp only [proj_at, rms_at]

open Idealize.ShloMosaic.TcCoe in
/-- The reference's run ends with this result. -/
theorem res_eq {F : FTy → Type} [FloatOps F] (m : (ℓ : Loc nD τ sig) → Buf (Elt F) ℓ) (c : Dev nD) :
    Value.res_main_v69 m c = result (F := F) (m ((c.tc : Thread nD τ).loc main_arg0)) (m ((c.tc : Thread nD τ).loc main_arg1))
      (m ((c.tc : Thread nD τ).loc main_arg2)) (m ((c.tc : Thread nD τ).loc main_arg3)) := rfl

end Cert.Proof.Qkv.Ref

end
-- ==== Proof.Qkv.Body.lean ====
/- The combined projection's block: the rotation's masks, what each column of 128 lanes stores, and the block read at an
   index. -/
module

public import proofs.«01_k».proof.Proof.Gen.Kernel6Ideal.Value
public import proofs.«01_k».proof.Proof.Layer.Rotary
public import Idealize.ShloMosaic.Lib.Pipeline.ValueKit.Geometry
public import Idealize.ShloMosaic.Lib.Pipeline.ValueKit.Tiles
public import Idealize.ShloMosaic.Lib.Pipeline.ReadBack
public import Idealize.ShloMosaic.Lib.Pointwise

@[expose] public section

set_option maxRecDepth 16384

noncomputable section

namespace Cert.Proof.Qkv

open Cert.Kernel6Ideal Cert.Kernel6Ideal.Gen
open Idealize.ShloMosaic Idealize.ShloMosaic.TcCoe
open Idealize.SL Idealize.SL.Sem

/-! ## The masks and the table -/

/-- The lane within its head. -/
theorem lane_at (r : Fin 512) (d : Fin 128) : k0_pay5 (ix2 r d) = BitVec.ofNat 32 (d.val % 64) := by
  pointwise [k0_pay5]
  revert d
  decide +kernel

theorem lower_at (r : Fin 512) (d : Fin 128) : k0_pay6 (ix2 r d) = if d.val % 64 < 8 then 1#1 else 0#1 := by
  pointwise [k0_pay6]
  rw [lane_at]
  revert d
  decide +kernel

theorem turned_at (r : Fin 512) (d : Fin 128) : k0_pay7 (ix2 r d) = if d.val % 64 < 16 then 1#1 else 0#1 := by
  pointwise [k0_pay7]
  rw [lane_at]
  revert d
  decide +kernel

theorem up_at (x : FVec Ideal S512x128 .f32) (h : S512x128.Rotates 1 none) (r : Fin 512) (d : Fin 128) :
    (dynamicRotate 1 120#32 none x h) (ix2 r d) = x (ix2 r ⟨(d.val + 128 - 120) % 128, by omega⟩) := by
  pointwise

theorem down_at (x : FVec Ideal S512x128 .f32) (h : S512x128.Rotates 1 none) (r : Fin 512) (d : Fin 128) :
    (dynamicRotate 1 8#32 none x h) (ix2 r d) = x (ix2 r ⟨(d.val + 128 - 8) % 128, by omega⟩) := by
  pointwise

theorem same_at (x : FVec Ideal S512x128 .f32) (r : Fin 512) (d d' : Fin 128) (h : d.val = d'.val) : x (ix2 r d) = x (ix2 r d') := by
  rw [Fin.ext h]

theorem cos_at (x : Vec Ideal S512x128 .f32) (r : Fin 512) (d : Fin 128) :
    @Eq EReal (k0_pay8 (F := Ideal) x (ix2 r d)) (if d.val % 64 < 8 then (x (ix2 r d) : EReal)
      else if d.val % 64 < 16 then x (ix2 r ⟨d.val - 8, by omega⟩) else 1) := by
  pointwise [k0_pay8]
  rw [lower_at, turned_at]
  by_cases h : d.val % 64 < 8
  · rw [if_pos h, if_pos h]; rfl
  by_cases h' : d.val % 64 < 16
  · rw [if_neg h, if_neg h, if_pos h', if_pos h']
    exact same_at x r _ _ (by simp only []; omega)
  · rw [if_neg h, if_neg h, if_neg h', if_neg h']; rfl

theorem sin_up_at (x : Vec Ideal S512x128 .f32) (r : Fin 512) (d : Fin 128) :
    @Eq EReal (k0_pay9 (F := Ideal) x (ix2 r d)) (if h : d.val % 64 < 8 then 0 - (x (ix2 r ⟨d.val + 8, by omega⟩) : EReal) else 0) := by
  pointwise [k0_pay9]
  rw [lower_at]
  by_cases h : d.val % 64 < 8
  · rw [if_pos h, dif_pos h]
    exact congrArg (fun z : EReal => 0 - z) (same_at x r _ _ (by simp only []; omega))
  · rw [if_neg h, dif_neg h]; rfl

theorem sin_down_at (x : Vec Ideal S512x128 .f32) (r : Fin 512) (d : Fin 128) :
    @Eq EReal (k0_pay10 (F := Ideal) x (ix2 r d)) (if ¬ d.val % 64 < 8 ∧ d.val % 64 < 16 then (x (ix2 r d) : EReal) else 0) := by
  pointwise [k0_pay10]
  rw [lower_at, turned_at]
  by_cases h : d.val % 64 < 8
  · rw [if_pos h, if_pos (by omega : d.val % 64 < 16), if_neg (fun hh => hh.1 h)]; rfl
  by_cases h' : d.val % 64 < 16
  · rw [if_neg h, if_pos h', if_pos ⟨h, h'⟩]; rfl
  · rw [if_neg h, if_neg h', if_neg (fun hh => h' hh.2)]; rfl

/-! ## A column -/

/-- The kernel's rotation of a column. -/
def turned (t : Vec Ideal S512x128 .f32) (x : FVec Ideal S512x128 .f32) : FVec Ideal S512x128 .f32 :=
  addf (addf (mulf x (k0_pay8 t)) (mulf (dynamicRotate 1 120#32 none x rotates_S512x128_d1) (k0_pay9 t)))
    (mulf (dynamicRotate 1 8#32 none x rotates_S512x128_d1) (k0_pay10 t))

/-- The scaling of a column of queries. -/
def scaled (x : FVec Ideal S512x128 .f32) : FVec Ideal S512x128 .f32 :=
  mulf x (broadcast S512x128 (Named.named (F := Ideal) κ "scaled_log2e" 0x3E38AA3B#32))

theorem turned_eq (t : Vec Ideal S512x128 .f32) (x : FVec Ideal S512x128 .f32) (r : Fin 512) (d : Fin 128) :
    turned t x (ix2 r d) = Layer.rotary (fun k => t (ix2 r k)) (fun k => x (ix2 r k)) d := by
  show (x (ix2 r d) : EReal) * (k0_pay8 t (ix2 r d) : EReal) + (dynamicRotate 1 120#32 none x rotates_S512x128_d1 (ix2 r d) : EReal) * (k0_pay9 t (ix2 r d) : EReal)
    + (dynamicRotate 1 8#32 none x rotates_S512x128_d1 (ix2 r d) : EReal) * (k0_pay10 t (ix2 r d) : EReal) = _
  refine Layer.rotary_of (fun k => t (ix2 r k)) (fun k => x (ix2 r k)) d _ _ ?_ ?_ _ _ _ (cos_at t r d) (sin_up_at t r d) (sin_down_at t r d)
  · intro h
    exact (up_at x _ r d).trans (same_at x r _ _ (by simp only []; omega))
  · intro h h'
    exact (down_at x _ r d).trans (same_at x r _ _ (by simp only []; omega))

theorem scaled_eq (x : FVec Ideal S512x128 .f32) (r : Fin 512) (d : Fin 128) : scaled x (ix2 r d) = x (ix2 r d) * Layer.gain := rfl

/-- Column `j` of 128 lanes of the projection. -/
theorem slice_at (p : FVec Ideal S512x3072 .f32) (j : Fin 24) (h : S512x3072.Slices ![0, 128 * j.val] S512x128) (r : Fin 512) (d : Fin 128) :
    extractStridedSlice S512x128 ![0, 128 * j.val] p h (ix2 r d) = p (ix2 r ⟨128 * j.val + d.val, by omega⟩) := by
  fin_cases j <;> pointwise

/-- The projection's block. -/
theorem proj_at (x : Vec Ideal S512x1024 .f32) (g : Vec Ideal S1x1024 .f32) (w : Vec Ideal S1x1024x3072 .f32) (r : Fin 512) (l : Fin 3072) :
    @Eq EReal (k0_pay12 (F := Ideal) x g (k0_pay11 x) w (ix2 r l))
      (Layer.dot (Layer.norm (fun k => x (ix2 r k)) (fun k => g (ix2 0 k))) (fun k => w (ix3 0 k l))) := by
  pointwise [k0_pay12, k0_pay11]
  rfl

/-! ## The stores -/

section Stores
variable (t : Vec Ideal S512x128 .f32) (p : FVec Ideal S512x3072 .f32)

/-- What the block holds at an index. -/
def entry (y : S512x3072.Idx) : EReal :=
  Layer.lanes (fun k => t (ix2 (y 0) k)) ((y 1).val / 128)
    (fun d => p (ix2 (y 0) ⟨128 * ((y 1).val / 128) + d.val, by have := (y 1).isLt; simp at this; omega⟩)) ⟨(y 1).val % 128, by omega⟩

theorem entry_at (r : Fin 512) (j : Fin 24) (l : Fin 128) :
    entry t p (ix2 r ⟨128 * j.val + l.val, by omega⟩)
      = Layer.lanes (fun k => t (ix2 r k)) j (fun d => p (ix2 r ⟨128 * j.val + d.val, by omega⟩)) l := by
  have hj : (128 * j.val + l.val) / 128 = j.val := by omega
  have hl : (128 * j.val + l.val) % 128 = l.val := by omega
  show Layer.lanes (fun k => t (ix2 r k)) ((128 * j.val + l.val) / 128)
    (fun d => p (ix2 r ⟨128 * ((128 * j.val + l.val) / 128) + d.val, by omega⟩)) ⟨(128 * j.val + l.val) % 128, by omega⟩ = _
  simp only [hj, hl]

/-- A store of column `j` leaves the block's entries where it writes. -/
theorem tile (j : Fin 24) (y : S512x3072.Idx) (z : Vec Ideal S512x128 .bf16)
    (hz : ∀ r d, @Eq EReal (z (ix2 r d)) (Layer.lanes (fun k => t (ix2 r k)) j (fun d => p (ix2 r ⟨128 * j.val + d.val, by omega⟩)) d)) :
    View.TileAt (S := S512x3072) (Val := Elt Ideal) (e := .bf16) y ![0, 128 * j.val] S512x128.size z (entry t p y) := by
  intro x hx
  have h0 : (y 0).val = (x 0).val := by simpa using hx 0
  have h1 : (y 1).val = 128 * j.val + (x 1).val := by simpa using hx 1
  have hl : (x 1).val < 128 := (x 1).isLt
  have hj : (y 1).val / 128 = j.val := by omega
  have e0 : (y 0 : Fin 512) = x 0 := Fin.ext h0
  have hd : (⟨(y 1).val % 128, by omega⟩ : Fin 128) = x 1 := Fin.ext (by simp only []; omega)
  refine (congrArg z (eq_ix2 x)).trans ((hz (x 0) (x 1)).trans ?_)
  unfold entry
  simp only [hj, e0, hd]

variable (j : Fin 24) (h : S512x3072.Slices ![0, 128 * j.val] S512x128)

/-- The stores of rotated queries. -/
theorem tile_queries (hj : j.val < 4) (y : S512x3072.Idx) :
    View.TileAt (S := S512x3072) (Val := Elt Ideal) (e := .bf16) y ![0, 128 * j.val] S512x128.size
      (truncf .bf16 (scaled (turned t (extractStridedSlice S512x128 ![0, 128 * j.val] p h))) bitsLt_bf16_f32) (entry t p y) :=
  tile t p j y _ fun r d => by
    rw [Layer.lanes, if_pos hj]
    refine (scaled_eq _ r d).trans (congrArg (· * Layer.gain) ((turned_eq t _ r d).trans ?_))
    simp only [slice_at p j h]

/-- The stores of rotated keys. -/
theorem tile_keys (hj : ¬ j.val < 4) (hj' : j.val < 8) (y : S512x3072.Idx) :
    View.TileAt (S := S512x3072) (Val := Elt Ideal) (e := .bf16) y ![0, 128 * j.val] S512x128.size
      (truncf .bf16 (turned t (extractStridedSlice S512x128 ![0, 128 * j.val] p h)) bitsLt_bf16_f32) (entry t p y) :=
  tile t p j y _ fun r d => by
    rw [Layer.lanes, if_neg hj, if_pos hj']
    refine (turned_eq t _ r d).trans ?_
    simp only [slice_at p j h]

/-- The stores of the second mixer's queries. -/
theorem tile_scaled (hj : 12 ≤ j.val) (hj' : j.val < 16) (y : S512x3072.Idx) :
    View.TileAt (S := S512x3072) (Val := Elt Ideal) (e := .bf16) y ![0, 128 * j.val] S512x128.size
      (truncf .bf16 (scaled (extractStridedSlice S512x128 ![0, 128 * j.val] p h)) bitsLt_bf16_f32) (entry t p y) :=
  tile t p j y _ fun r d => by
    rw [Layer.lanes, if_neg (by omega), if_neg (by omega), if_pos ⟨hj, hj'⟩]
    exact (scaled_eq _ r d).trans (congrArg (· * Layer.gain) (slice_at p j h r d))

/-- The other stores. -/
theorem tile_plain (hj : 8 ≤ j.val) (hj' : ¬ (12 ≤ j.val ∧ j.val < 16)) (y : S512x3072.Idx) :
    View.TileAt (S := S512x3072) (Val := Elt Ideal) (e := .bf16) y ![0, 128 * j.val] S512x128.size
      (truncf .bf16 (extractStridedSlice S512x128 ![0, 128 * j.val] p h) bitsLt_bf16_f32) (entry t p y) :=
  tile t p j y _ fun r d => by
    rw [Layer.lanes, if_neg (by omega), if_neg (by omega), if_neg hj']
    exact slice_at p j h r d

end Stores

end Cert.Proof.Qkv

end
-- ==== Proof.Qkv.Out.lean ====
/- The combined projection: the block each grid point leaves, the array after the run, and the claims. -/
module

public import proofs.«01_k».proof.Defs
public import proofs.«01_k».proof.Proof.Qkv.Ref
public import proofs.«01_k».proof.Proof.Qkv.Body
public import Idealize.ShloMosaic.Adequacy
public import Idealize.ShloMosaic.Init

@[expose] public section

set_option maxRecDepth 16384

noncomputable section

namespace Cert.Proof.Qkv

open Cert.Kernel6Ideal Cert.Kernel6Ideal.Gen
open Idealize.ShloMosaic Idealize.ShloMosaic.TcCoe
open Idealize.SL Idealize.SL.Sem

variable (m : (ℓ : Loc nD τ sig) → Buf (Elt Ideal) ℓ)

/-- The projection's block at a grid point. -/
abbrev acc (c : Dev nD) (t : Fin cfg0.N) : FVec Ideal S512x3072 .f32 :=
  k0_pay12 (iblk m c 0 t) (iblk m c 1 t) (k0_pay11 (iblk m c 0 t)) (X0_2 m c t)

/-- The block a grid point leaves: 24 stores, each of its column's entries. -/
theorem outs_at (c : Dev nD) (t : Fin cfg0.N) (y : S512x3072.Idx) :
    @Eq EReal (outsAt0 m c t y)
      (entry (iblk m c 3 t) (acc m c t) y) := by
  rw [outsAt0]
  frame_out
  refine View.canon_eq_of_allAt (S := S512x3072) _ y _ ?_ ?_
  · exact View.cover_of_tiledL (s := S512x3072) _ S512x128.size (by rfl) y
  refine View.allAt_cons_unit _ _ _ _ _ (tile_plain (iblk m c 3 t) (acc m c t) 23 slices_S512x3072_o0_2944_S512x128 (by decide) (by decide) y) ?_
  refine View.allAt_cons_unit _ _ _ _ _ (tile_plain (iblk m c 3 t) (acc m c t) 22 slices_S512x3072_o0_2816_S512x128 (by decide) (by decide) y) ?_
  refine View.allAt_cons_unit _ _ _ _ _ (tile_plain (iblk m c 3 t) (acc m c t) 21 slices_S512x3072_o0_2688_S512x128 (by decide) (by decide) y) ?_
  refine View.allAt_cons_unit _ _ _ _ _ (tile_plain (iblk m c 3 t) (acc m c t) 20 slices_S512x3072_o0_2560_S512x128 (by decide) (by decide) y) ?_
  refine View.allAt_cons_unit _ _ _ _ _ (tile_plain (iblk m c 3 t) (acc m c t) 19 slices_S512x3072_o0_2432_S512x128 (by decide) (by decide) y) ?_
  refine View.allAt_cons_unit _ _ _ _ _ (tile_plain (iblk m c 3 t) (acc m c t) 18 slices_S512x3072_o0_2304_S512x128 (by decide) (by decide) y) ?_
  refine View.allAt_cons_unit _ _ _ _ _ (tile_plain (iblk m c 3 t) (acc m c t) 17 slices_S512x3072_o0_2176_S512x128 (by decide) (by decide) y) ?_
  refine View.allAt_cons_unit _ _ _ _ _ (tile_plain (iblk m c 3 t) (acc m c t) 16 slices_S512x3072_o0_2048_S512x128 (by decide) (by decide) y) ?_
  refine View.allAt_cons_unit _ _ _ _ _ (tile_scaled (iblk m c 3 t) (acc m c t) 15 slices_S512x3072_o0_1920_S512x128 (by decide) (by decide) y) ?_
  refine View.allAt_cons_unit _ _ _ _ _ (tile_scaled (iblk m c 3 t) (acc m c t) 14 slices_S512x3072_o0_1792_S512x128 (by decide) (by decide) y) ?_
  refine View.allAt_cons_unit _ _ _ _ _ (tile_scaled (iblk m c 3 t) (acc m c t) 13 slices_S512x3072_o0_1664_S512x128 (by decide) (by decide) y) ?_
  refine View.allAt_cons_unit _ _ _ _ _ (tile_scaled (iblk m c 3 t) (acc m c t) 12 slices_S512x3072_o0_1536_S512x128 (by decide) (by decide) y) ?_
  refine View.allAt_cons_unit _ _ _ _ _ (tile_plain (iblk m c 3 t) (acc m c t) 11 slices_S512x3072_o0_1408_S512x128 (by decide) (by decide) y) ?_
  refine View.allAt_cons_unit _ _ _ _ _ (tile_plain (iblk m c 3 t) (acc m c t) 10 slices_S512x3072_o0_1280_S512x128 (by decide) (by decide) y) ?_
  refine View.allAt_cons_unit _ _ _ _ _ (tile_plain (iblk m c 3 t) (acc m c t) 9 slices_S512x3072_o0_1152_S512x128 (by decide) (by decide) y) ?_
  refine View.allAt_cons_unit _ _ _ _ _ (tile_plain (iblk m c 3 t) (acc m c t) 8 slices_S512x3072_o0_1024_S512x128 (by decide) (by decide) y) ?_
  refine View.allAt_cons_unit _ _ _ _ _ (tile_keys (iblk m c 3 t) (acc m c t) 7 slices_S512x3072_o0_896_S512x128 (by decide) (by decide) y) ?_
  refine View.allAt_cons_unit _ _ _ _ _ (tile_keys (iblk m c 3 t) (acc m c t) 6 slices_S512x3072_o0_768_S512x128 (by decide) (by decide) y) ?_
  refine View.allAt_cons_unit _ _ _ _ _ (tile_keys (iblk m c 3 t) (acc m c t) 5 slices_S512x3072_o0_640_S512x128 (by decide) (by decide) y) ?_
  refine View.allAt_cons_unit _ _ _ _ _ (tile_keys (iblk m c 3 t) (acc m c t) 4 slices_S512x3072_o0_512_S512x128 (by decide) (by decide) y) ?_
  refine View.allAt_cons_unit _ _ _ _ _ (tile_queries (iblk m c 3 t) (acc m c t) 3 slices_S512x3072_o0_384_S512x128 (by decide) y) ?_
  refine View.allAt_cons_unit _ _ _ _ _ (tile_queries (iblk m c 3 t) (acc m c t) 2 slices_S512x3072_o0_256_S512x128 (by decide) y) ?_
  refine View.allAt_cons_unit _ _ _ _ _ (tile_queries (iblk m c 3 t) (acc m c t) 1 slices_S512x3072_o0_128_S512x128 (by decide) y) ?_
  refine View.allAt_cons_unit _ _ _ _ _ (tile_queries (iblk m c 3 t) (acc m c t) 0 slices_S512x3072_o0_0_S512x128 (by decide) y) ?_
  exact View.allAt_nil _ _

/-! ## The array -/

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)

/-- The reference's result of the arguments on core `c`. -/
abbrev want (c : Dev nD) : FVec Ideal S32768x3072 .bf16 :=
  Ref.result (F := Ideal) (m ((c.tc : Thread nD τ).loc main_arg0)) (m ((c.tc : Thread nD τ).loc main_arg1))
    (m ((c.tc : Thread nD τ).loc main_arg2)) (m ((c.tc : Thread nD τ).loc main_arg3))

theorem rows_blk (c : Dev nD) (t : Fin cfg0.N) (r : Fin 512) (k : Fin 1024) (h : (grid0.coords t 0).val * 512 + r.val < 32768) :
    Gen.iblk m c 0 t (ix2 r k) = m ((c.tc : Thread nD τ).loc main_arg0) (ix2 ⟨(grid0.coords t 0).val * 512 + r.val, h⟩ k) := by
  blk_simp [Gen.iblk]
  refine congrArg (m ((c.tc : Thread nD τ).loc main_arg0)) ?_
  blk_ext [index0]

theorem table_blk (c : Dev nD) (t : Fin cfg0.N) (r : Fin 512) (k : Fin 128) (h : (grid0.coords t 0).val * 512 + r.val < 32768) :
    Gen.iblk m c 3 t (ix2 r k) = m ((c.tc : Thread nD τ).loc main_arg3) (ix2 ⟨(grid0.coords t 0).val * 512 + r.val, h⟩ k) := by
  blk_simp [Gen.iblk]
  refine congrArg (m ((c.tc : Thread nD τ).loc main_arg3)) ?_
  blk_ext [index3]

theorem g_blk (c : Dev nD) (t : Fin cfg0.N) : Gen.iblk m c 1 t = m ((c.tc : Thread nD τ).loc main_arg1) := by
  funext y
  blk_simp [Gen.iblk]
  refine congrArg (m ((c.tc : Thread nD τ).loc main_arg1)) ?_
  blk_ext [index1]

/-- The weight's block is its first 3072 columns. -/
theorem w_blk (c : Dev nD) (t : Fin cfg0.N) (k : Fin 1024) (l : Fin 3072) :
    X0_2 m c t (ix3 0 k l) = m ((c.tc : Thread nD τ).loc main_arg2) (ix3 0 k ⟨l.val, by omega⟩) := by
  unfold X0_2 Pipeline.Window.fill
  rw [dif_pos (moved0_2 t _)]
  blk_simp [Gen.iblk]
  refine congrArg (m ((c.tc : Thread nD τ).loc main_arg2)) ?_
  blk_ext [index2]

theorem block_eq (c : Dev nD) (t : Fin cfg0.N) (r : Fin 512) (l : Fin 3072) (h : (grid0.coords t 0).val * 512 + r.val < 32768) :
    @Eq EReal (outsAt0 m c t (ix2 r l)) (want m c (ix2 ⟨(grid0.coords t 0).val * 512 + r.val, h⟩ l)) := by
  rw [outs_at]
  have hl := l.isLt
  have hj : l.val / 128 < 24 := by omega
  rw [show l = ⟨128 * (⟨l.val / 128, hj⟩ : Fin 24).val + (⟨l.val % 128, by omega⟩ : Fin 128).val, by simp only []; omega⟩ from
    Fin.ext (by simp only []; omega)]
  refine (entry_at _ _ r _ _).trans (Eq.trans ?_ (Ref.result_at _ _ _ _ _ _ _).symm)
  simp only [acc, proj_at, g_blk, rows_blk m c t r _ h, table_blk m c t r _ h, w_blk]

/-- The kernel's array after the run. -/
theorem final_out (c : Dev nD) : (dats m 0 c).arrAt 4 cfg0.N = want m c := by
  refine (dats m 0 c).arrAt_eq_of_covers 4 _ (by decide +kernel) fun t _ y => ?_
  rw [after0_4]
  blk_simp
  have ht : (grid0.coords t 0).val < 64 := (grid0.coords t 0).isLt
  have hr : (y 0).val < 512 := (y 0).isLt
  rw [show y = ix2 (y 0) (y 1) from eq_ix2 y]
  refine (block_eq m c t (y 0) (y 1) (by omega)).trans (congrArg (want m c) ?_)
  blk_ext [index4]

/-! ## The claims -/

theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The named constant stands for the printed one, at each of the eight columns of queries. -/
theorem preserves : Cert.preserves_Kernel6_Kernel6Ideal :=
  IdealRules.named_const.statement Cert.Kernel6Ideal.κ "scaled_log2e" .f32 0x3E38AA3B#32 (((Real.log 256)⁻¹ : ℝ) : EReal) rfl

/-- From arguments that agree, kernel and reference end with the same result. -/
theorem algebraic : Cert.algebraic_Kernel6Ideal_Reference6Ideal := by
  intro m g m' g' _ hagree
  refine ⟨fun c => want m c, (θ_run defs _ _).mono (fun _ h c => ⟨(h c).1.trans (final_out m c), (h c).2⟩)
    (Cert.Kernel6Ideal.Value.run_blocks (F := Ideal) m g), ?_⟩
  refine (θ_run Cert.Reference6Ideal.defs _ _).mono (fun _ h c => ⟨(h c).1.trans ((Ref.res_eq m' c).trans ?_), (h c).2⟩)
    (Cert.Reference6Ideal.Value.run (F := Ideal) m' g')
  obtain ⟨h0, h1, h2, h3⟩ := hagree c
  rw [h0, h1, h2, h3]

end Cert.Proof.Qkv

end
-- ==== Proof.Rope.Ref.lean ====
/- The rotary table's reference: its operations under names, and its result read at an index. -/
module

public import proofs.«01_k».proof.Proof.Gen.Reference7Ideal.Run
public import Idealize.ShloMosaic.Lib.Pointwise

@[expose] public section

set_option maxRecDepth 16384

noncomputable section

namespace Cert.Proof.Rope.Ref

open Idealize.ShloMosaic Cert.Reference7Ideal Facts₀ Facts

variable {F : FTy → Type} [FloatOps F]

/-- The eight frequencies, `500000 ^ (-d / 8)`. -/
def freq : FVec F S8 .f32 :=
  Host.powf (broadcastInDim S8 ![] bcast_S_S8 (constant S_ .f32 0x48F42400#32))
    (Host.divf (Host.negf (sitofp .f32 (iotaInDim S8 32 0))) (broadcastInDim S8 ![] bcast_S_S8 (constant S_ .f32 0x41000000#32)))

/-- A position and the next of its group of four. -/
def both (p : IVec S16x2048 32) : IVec S8192x4x2 32 :=
  concatenate S8192x4x2 2
    [⟨S8192x4x1, broadcastInDim S8192x4x1 ![0, 1] bcast_S8192x4_S8192x4x1_0_1 (shapeCast _ p shapeCasts_S16x2048_S8192x4)⟩,
     ⟨S8192x4x1, broadcastInDim S8192x4x1 ![0, 1] bcast_S8192x4_S8192x4x1_0_1 (concatenate S8192x4 1
       [⟨S8192x3, extractStridedSlice S8192x3 ![0, 1] (shapeCast _ p shapeCasts_S16x2048_S8192x4) slices_S8192x4_S8192x3_0_1⟩,
        ⟨S8192x1, extractStridedSlice S8192x1 ![0, 0] (shapeCast _ p shapeCasts_S16x2048_S8192x4) slices_S8192x4_S8192x1_0_0⟩]
       concatenates_S8192x3_S8192x1_S8192x4_d1)⟩]
    concatenates_S8192x4x1_S8192x4x1_S8192x4x2_d2

/-- The angles. -/
def angle (b : IVec S8192x4x2 32) : FVec F S8192x4x2x8 .f32 :=
  mulf (broadcastInDim S8192x4x2x8 ![0, 1, 2, 3] bcast_S8192x4x2x1_S8192x4x2x8_0_1_2_3
      (broadcastInDim S8192x4x2x1 ![0, 1, 2] bcast_S8192x4x2_S8192x4x2x1_0_1_2 (sitofp .f32 b)))
    (broadcastInDim S8192x4x2x8 ![0, 1, 2, 3] bcast_S1x1x1x8_S8192x4x2x8_0_1_2_3
      (broadcastInDim S1x1x1x8 ![3] bcast_S8_S1x1x1x8_3 freq))

/-- A position's 32 lanes: cosines, sines, ones. -/
def join (x y : FVec F S8192x4x2x8 .f32) : FVec F S8192x4x2x32 .f32 :=
  concatenate S8192x4x2x32 3 [⟨S8192x4x2x8, x⟩, ⟨S8192x4x2x8, y⟩,
    ⟨S8192x4x2x16, broadcastInDim S8192x4x2x16 ![] bcast_S_S8192x4x2x16 (constant S_ .f32 0x3F800000#32)⟩]
    concatenates_S8192x4x2x8_S8192x4x2x8_S8192x4x2x16_S8192x4x2x32_d3

/-- Two positions' lanes side by side, twice. -/
def twice (x : FVec F S8192x4x2x32 .f32) : FVec F S32768x128 .f32 :=
  shapeCast _ (broadcastInDim S32768x2x64 ![0, 1, 2] bcast_S32768x1x64_S32768x2x64_0_1_2
    (shapeCast S32768x1x64 x shapeCasts_S8192x4x2x32_S32768x1x64)) shapeCasts_S32768x2x64_S32768x128

/-- The result. -/
def result (p : IVec S16x2048 32) : FVec F S32768x128 .f32 :=
  twice (join (Host.cos (angle (both p))) (Host.sin (angle (both p))))

/-! ## At an index -/

/-- A position as a number. -/
abbrev pos (w : BitVec 32) : EReal := ((w.toInt : ℝ) : EReal)

/-- Lane `d` of a position. -/
def lane (w : BitVec 32) (d : Fin 32) : EReal :=
  if h : d.val < 8 then Ideal.cos (pos w * freq (F := Ideal) (ix1 ⟨d.val, h⟩))
  else if h' : d.val < 16 then Ideal.sin (pos w * freq (F := Ideal) (ix1 ⟨d.val - 8, by omega⟩)) else 1

/-- Position `n` in the order of the rows. -/
def word (p : IVec S16x2048 32) (n : Fin 32768) : BitVec 32 :=
  p (ix2 (⟨n.val / 2048, by omega⟩ : Fin 16) (⟨n.val % 2048, by omega⟩ : Fin 2048))

theorem cast_at (p : IVec S16x2048 32) (q : Fin 8192) (j : Fin 4) :
    (shapeCast S8192x4 p shapeCasts_S16x2048_S8192x4) (ix2 q j) = word p ⟨4 * q.val + j.val, by omega⟩ := by
  pointwise [word]
  refine congrArg p ?_
  idx_ext

theorem both_at (p : IVec S16x2048 32) (q : Fin 8192) (j : Fin 4) (e : Fin 2) :
    both p (ix3 q j e) = word p ⟨4 * q.val + (j.val + e.val) % 4, by omega⟩ := by
  have hp : ∀ (f : Fin 4) (n : Fin 32768), 4 * q.val + f.val = n.val →
      (shapeCast S8192x4 p shapeCasts_S16x2048_S8192x4) (ix2 q f) = word p n := fun f n h =>
    (cast_at p q f).trans (congrArg (word p) (Fin.ext h))
  unfold both
  generalize (shapeCast S8192x4 p shapeCasts_S16x2048_S8192x4) = x at hp ⊢
  pointwise
  by_cases he : e.val < 1
  · rw [dif_pos he]
    exact hp _ _ (by simp only []; omega)
  rw [dif_neg he]
  by_cases hj : j.val < 3
  · rw [dif_pos hj]
    exact hp _ _ (by simp only []; omega)
  · rw [dif_neg hj]
    exact hp _ _ (by simp only []; omega)

theorem angle_at (b : IVec S8192x4x2 32) (q : Fin 8192) (j : Fin 4) (e : Fin 2) (d : Fin 8) :
    @Eq EReal (angle (F := Ideal) b (ix4 q j e d)) (pos (b (ix3 q j e)) * freq (F := Ideal) (ix1 d)) := by
  pointwise [angle]
  rfl

theorem bits_one : Ideal.ofBits .f32 0x3F800000#32 = 1 := by
  rw [← EReal.coe_one]
  simp [Ideal.ofBits, Ideal.ieee, -EReal.coe_mul]
  norm_num

theorem join_at (x y : FVec Ideal S8192x4x2x8 .f32) (q : Fin 8192) (j : Fin 4) (e : Fin 2) (d : Fin 32) :
    @Eq EReal (join x y (ix4 q j e d)) (if h : d.val < 8 then x (ix4 q j e ⟨d.val, h⟩)
      else if h' : d.val < 16 then y (ix4 q j e ⟨d.val - 8, by omega⟩) else 1) := by
  pointwise [join]
  by_cases h : d.val < 8
  · rw [dif_pos h, dif_pos h]
  by_cases h' : d.val < 16
  · rw [dif_neg h, dif_neg h, dif_pos h', dif_pos (by omega)]
  · rw [dif_neg h, dif_neg h, dif_neg h', dif_neg (by omega)]
    first | done | exact bits_one

theorem twice_at (x : FVec Ideal S8192x4x2x32 .f32) (q : Fin 8192) (j : Fin 4) (l : Fin 128) :
    twice x (ix2 ⟨4 * q.val + j.val, by omega⟩ l) = x (ix4 q j ⟨l.val % 64 / 32, by omega⟩ ⟨l.val % 32, by omega⟩) := by
  pointwise [twice]
  refine congrArg x ?_
  idx_ext

theorem result_at (p : IVec S16x2048 32) (q : Fin 8192) (j : Fin 4) (l : Fin 128) :
    @Eq EReal (result (F := Ideal) p (ix2 ⟨4 * q.val + j.val, by omega⟩ l))
      (lane (word p ⟨4 * q.val + (j.val + l.val % 64 / 32) % 4, by omega⟩) ⟨l.val % 32, by omega⟩) := by
  refine (twice_at _ q j l).trans ((join_at _ _ _ _ _ _).trans ?_)
  have ha : ∀ d, @Eq EReal (angle (F := Ideal) (both p) (ix4 q j ⟨l.val % 64 / 32, by omega⟩ d)) _ := fun d =>
    (angle_at (both p) q j _ d).trans (by rw [both_at])
  unfold lane
  simp only []
  by_cases h : l.val % 32 < 8
  · rw [dif_pos h, dif_pos h]; exact congrArg Ideal.cos (ha _)
  by_cases h' : l.val % 32 < 16
  · rw [dif_neg h, dif_neg h, dif_pos h', dif_pos h']; exact congrArg Ideal.sin (ha _)
  · rw [dif_neg h, dif_neg h, dif_neg h', dif_neg h']

/-! ## The frequencies are real -/

theorem freq_real (d : Fin 8) : ∃ r : ℝ, @Eq EReal (freq (F := Ideal) (ix1 d)) r := by
  pointwise [freq]
  have h1 : Ideal.ofBits .f32 0x48F42400#32 = ((500000 : ℝ) : EReal) := by
    simp [Ideal.ofBits, Ideal.ieee, -EReal.coe_mul]
    norm_num
  have h2 : Ideal.ofBits .f32 0x41000000#32 = ((8 : ℝ) : EReal) := by
    simp [Ideal.ofBits, Ideal.ieee, -EReal.coe_mul]
    norm_num
  obtain ⟨z, hz⟩ : ∃ z : ℝ, @Eq EReal (Ideal.div (-FloatOps.sitofp (F := Ideal) .f32 (BitVec.ofNat 32 d.val)) ((8 : ℝ) : EReal)) z :=
    ⟨-((BitVec.ofNat 32 d.val).toInt : ℝ) * (1 / 8), by
      rw [Ideal.div_coe (by norm_num), EReal.coe_mul, EReal.coe_neg]
      rfl⟩
  rw [h1, h2]
  exact ⟨Real.rpow 500000 z, congrArg (Ideal.pow ((500000 : ℝ) : EReal)) hz⟩

end Cert.Proof.Rope.Ref

end
-- ==== Proof.Rope.Ideal.Run.lean ====
/-
  The rotary table's call, idealized: one launch step run once at symbolic contents, what its four stores of every fourth row
  leave, and the run of the whole module.
-/
module

public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import Idealize.ShloMosaic.Lib.Tactic
public import Idealize.ShloMosaic.Lib.ValueIdx
public import Idealize.ShloMosaic.Lib.VecWindow
public import Idealize.ShloMosaic.Lib.Writes

@[expose] public section

set_option maxRecDepth 16384

noncomputable section

namespace Cert.Proof.Kernel7Ideal

open Cert.Kernel7Ideal Cert.Kernel7Ideal.Gen

open Idealize.ShloMosaic
open Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the table's window, with the proof that it runs to its return. -/
noncomputable def kernelRun (c : Dev nD) (i : grid0.Coords)
    (M1 : Memref sig .tc .vmem S1024x4 .f32) (h1 : M1.IsWhole) (M2 : Memref sig .tc .vmem S1x128 .f32) (h2 : M2.IsWhole)
    (M3 : Memref sig .tc .vmem S1x128 .f32) (h3 : M3.IsWhole) (M4 : Memref sig .tc .vmem S4096x128 .f32) (h4 : M4.IsWhole)
    (f1 : Bf (F := F) c M1) (f2 : Bf (F := F) c M2) (f3 : Bf (F := F) c M3) :
    { W : Bf (F := F) c M4 → Bf (F := F) c M4 //
      ∀ (f4 : Bf (F := F) c M4) (E : Set ℕ) (Q : PUnit → sProp 𝕄),
        iprop(pt c M1 f1 ∗ pt c M2 f2 ∗ pt c M3 f3 ∗ pt c M4 f4
          ∗ (iprop(pt c M1 f1 ∗ pt c M2 f2 ∗ pt c M3 f3 ∗ pt c M4 (W f4)) -∗ Q ⟨⟩))
        ⊢ wp frame (wpE (defs₀ (F := F)) Variants.none c none) E (cc0_rope_table i M1 h1 M2 h2 M3 h3 M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

/-! ## The four stores -/

/-- The lanes' numbers. -/
abbrev lane : IVec S1024x128 32 := iota .tc S1024x128 32 [1] iota_S1024x128_d1_w32

/-- What store `j` writes. -/
def tile (p : Vec F S1024x4 .f32) (v s : Vec F S1x128 .f32) (j : Fin 4) : FVec F S1024x128 .f32 :=
  match j with
  | 0 => k0_pay7 lane (k0_pay3 p) k0_pay4 (k0_pay5 p) v s
  | 1 => k0_pay8 lane (k0_pay3 p) k0_pay4 (k0_pay5 p) v s
  | 2 => k0_pay9 lane (k0_pay3 p) k0_pay4 (k0_pay5 p) v s
  | 3 => k0_pay10 lane (k0_pay3 p) k0_pay4 (k0_pay5 p) v s

/-- The table's block: row `4 r + j` is row `r` of store `j`. -/
def left (p : Vec F S1024x4 .f32) (v s : Vec F S1x128 .f32) : Vec F S4096x128 .f32 := fun y =>
  have h : (y 0).val < 4096 := (y 0).isLt
  tile p v s ⟨(y 0).val % 4, by omega⟩ (ix2 (⟨(y 0).val / 4, by omega⟩ : Fin 1024) (y 1))

theorem every_inb : ∀ (j : Fin 4) (a : Fin 2), S1024x128.size a = 0
    ∨ (![j.val, 0] : Fin 2 → Nat) a + (![4, 1] : Fin 2 → Nat) a * (S1024x128.size a - 1) < S4096x128.size a := by decide +kernel

/-- Every fourth row from row `j`. -/
abbrev every (j : Fin 4) : Rect S4096x128 := ⟨⟨![j.val, 0], S1024x128.size, ![4, 1], every_inb j⟩, spos_4_1⟩

/-- The stores, last first. -/
abbrev stores (a : Fin 4 → FVec F S1024x128 .f32) : List (View.Piece (Elt F) S4096x128 .f32) :=
  [⟨every 3, a 3⟩, ⟨every 2, a 2⟩, ⟨every 1, a 1⟩, ⟨every 0, a 0⟩]

theorem mem_every (j : Fin 4) (y : S4096x128.Idx) (h : (y 0).val % 4 = j.val) : y ∈ (every j).set := by
  rw [LoadRect.mem_set]
  have h0 : (y 0).val < 4096 := (y 0).isLt
  have h1 : (y 1).val < 128 := (y 1).isLt
  intro a
  match a with
  | ⟨0, _⟩ => exact ⟨(y 0).val / 4, by show _ < 1024; omega, by show (y 0).val = j.val + 4 * ((y 0).val / 4); omega⟩
  | ⟨1, _⟩ => exact ⟨(y 1).val, by show _ < 128; omega, by show (y 1).val = 0 + 1 * (y 1).val; omega⟩

theorem stores_mem (a : Fin 4 → FVec F S1024x128 .f32) (j : Fin 4) : (⟨every j, a j⟩ : View.Piece (Elt F) S4096x128 .f32) ∈ stores a := by
  fin_cases j <;> simp [stores]

theorem mem_stores (a : Fin 4 → FVec F S1024x128 .f32) (q : View.Piece (Elt F) S4096x128 .f32) (h : q ∈ stores a) : ∃ j, q = ⟨every j, a j⟩ := by
  rcases List.mem_cons.mp h with h | h; · exact ⟨3, h⟩
  rcases List.mem_cons.mp h with h | h; · exact ⟨2, h⟩
  rcases List.mem_cons.mp h with h | h; · exact ⟨1, h⟩
  exact ⟨0, List.mem_singleton.mp h⟩

/-- The four stores leave `left`, whatever was there before. -/
theorem read_stores (p : Vec F S1024x4 .f32) (v s : Vec F S1x128 .f32) {sp : Space} (M : Memref sig .tc sp S4096x128 .f32)
    (f : M.view.ty.Contents (Elt F)) : M.view.read (Elt F) (M.view.writes (Elt F) f (stores (tile p v s))) = left p v s := by
  funext y
  have h0 : (y 0).val < 4096 := (y 0).isLt
  refine View.read_writes_apply_of_pieces M.view f (left p v s) _ ?_ y
    ⟨_, stores_mem _ ⟨(y 0).val % 4, by omega⟩, mem_every _ y rfl⟩
  intro q hq
  obtain ⟨j, rfl⟩ := mem_stores _ q hq
  intro (x : (every j).shape.Idx)
  change tile p v s j x = left p v s ((every j).emb x)
  have x0 : (x 0).val < 1024 := (x 0).isLt
  have e0 : ((every j).emb x 0).val = j.val + 4 * (x 0).val := rfl
  have e1 : ((every j).emb x 1).val = 0 + 1 * (x 1).val := rfl
  unfold left
  refine congr (congrArg (tile p v s) (Fin.ext ?_)) (funext fun t => Fin.ext ?_)
  · show j.val = ((every j).emb x 0).val % 4; omega
  · match t with
    | ⟨0, _⟩ => show (x 0).val = ((every j).emb x 0).val / 4; omega
    | ⟨1, _⟩ => show (x 1).val = ((every j).emb x 1).val; omega

/-- What the run leaves in the table's window. -/
theorem read_run (c : Dev nD) (i : grid0.Coords)
    (M1 : Memref sig .tc .vmem S1024x4 .f32) (h1 : M1.IsWhole) (M2 : Memref sig .tc .vmem S1x128 .f32) (h2 : M2.IsWhole)
    (M3 : Memref sig .tc .vmem S1x128 .f32) (h3 : M3.IsWhole) (M4 : Memref sig .tc .vmem S4096x128 .f32) (h4 : M4.IsWhole)
    (f1 : Bf (F := F) c M1) (f2 : Bf (F := F) c M2) (f3 : Bf (F := F) c M3) (f4 : Bf (F := F) c M4) :
    M4.view.read (Elt F) ((kernelRun c i M1 h1 M2 h2 M3 h3 M4 h4 f1 f2 f3).1 f4)
      = left (M1.view.read (Elt F) f1) (M2.view.read (Elt F) f2) (M3.view.read (Elt F) f3) := by
  rw [← View.readAt_full M1.view f1 inb_S1024x4_S1024x4_0_0, ← View.readAt_full M2.view f2 inb_S1x128_S1x128_0_0,
    ← View.readAt_full M3.view f3 inb_S1x128_S1x128_0_0]
  unfold kernelRun
  simp only
  exact read_stores _ _ _ M4 f4

/-! ## The launch -/

variable (m : (ℓ : Loc nD τ sig) → Buf (Elt F) ℓ) (ρ : Dev nD → PrngReg)

/-- What the step at point `t` leaves in the table's window. -/
def leftAt (c : Dev nD) (t : Fin cfg0.N) : Vec F S4096x128 .f32 :=
  left (Gen.iblk m c 0 t) (Gen.iblk m c 1 t) (Gen.iblk m c 2 t)

/-- The proof data on core `c`: the arrays as launched, the input windows kept, the table's window at `leftAt`. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => leftAt m c t
  Φ _ := Pipeline.ΦA spec0 c
  q _ := fullShare
  owed _ := 0

/-- The body's row of the table at a point. -/
theorem defs₀_row (t : Fin cfg0.N) : defs₀ (F := F) .tc cfg0.body (cfg0.bodyArgs t (cfg0.slots t)) = Gen.bodyAt0 t := by
  unfold defs₀; rw [Defs.onTc_tc]

/-- A whole staging buffer owned at `X`. -/
theorem owns_pt (c : Dev nD) {sp : Space} {sh : Shape} {e : EltTy} (M : Memref sig .tc sp sh e) (h : M.IsWhole) (X : sh.Idx → Elt F e) :
    (owns (c : Thread nD τ) M fullShare X : sProp 𝕄) = iprop(∃ f, ⌜M.view.read (Elt F) f = X⌝ ∗ pt c M f) := by
  unfold owns; rw [h.set_eq_univ]

/-- The body run at point `t` from the blocks in the staging buffers. -/
abbrev runAt (c : Dev nD) (t : Fin cfg0.N) :=
  kernelRun (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3))

set_option maxHeartbeats 2000000 in
/-- The body's obligation: the four staging buffers taken apart, the run applied, its end reassembled. -/
theorem body_obligation (c : Dev nD) : BodyObligation (dats m 0 c) (defs₀ (F := F)) Variants.none () Set.univ := fun t => by
  rw [Gen.bigSep_W0, Gen.bigSep_W0]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, defs₀_row]
  have o0 := fun X => owns_pt (F := F) c (win0_0.stage (cfg0.slots t 0)) (hstage0_0 ((cfg0.slots t 0).cast nbuf0_0)) X
  have o1 := fun X => owns_pt (F := F) c (win0_1.stage (cfg0.slots t 1)) (hstage0_1 ((cfg0.slots t 1).cast nbuf0_1)) X
  have o2 := fun X => owns_pt (F := F) c (win0_2.stage (cfg0.slots t 2)) (hstage0_2 ((cfg0.slots t 2).cast nbuf0_2)) X
  have o3 := fun X => owns_pt (F := F) c (win0_3.stage (cfg0.slots t 3)) (hstage0_3 ((cfg0.slots t 3).cast nbuf0_3)) X
  have b0 := fun d => Gen.before0_0_of m (dats m 0 c) rfl (fun _ => rfl) t d
  have b1 := fun d => Gen.before0_1_of m (dats m 0 c) rfl (fun _ => rfl) t d
  have b2 := fun d => Gen.before0_2_of m (dats m 0 c) rfl (fun _ => rfl) t d
  simp only [b0, b1, b2]
  change _ ⊢ wp _ _ _ _ fun _ => iprop(_ ∗ _ ∗ owns (c : Thread nD τ) (win0_0.stage (cfg0.slots t 0)) fullShare (Gen.iblk m c 0 t)
    ∗ owns (c : Thread nD τ) (win0_1.stage (cfg0.slots t 1)) fullShare (Gen.iblk m c 1 t)
    ∗ owns (c : Thread nD τ) (win0_2.stage (cfg0.slots t 2)) fullShare (Gen.iblk m c 2 t)
    ∗ owns (c : Thread nD τ) (win0_3.stage (cfg0.slots t 3)) fullShare (leftAt m c t))
  change iprop(_ ∗ _ ∗ (∃ d : Vec F S1024x4 .f32, owns (c : Thread nD τ) (win0_0.stage (cfg0.slots t 0)) fullShare (Gen.iblk m c 0 t))
    ∗ (∃ d : Vec F S1x128 .f32, owns (c : Thread nD τ) (win0_1.stage (cfg0.slots t 1)) fullShare (Gen.iblk m c 1 t))
    ∗ (∃ d : Vec F S1x128 .f32, owns (c : Thread nD τ) (win0_2.stage (cfg0.slots t 2)) fullShare (Gen.iblk m c 2 t))
    ∗ (∃ d : Vec F S4096x128 .f32, owns (c : Thread nD τ) (win0_3.stage (cfg0.slots t 3)) fullShare ((dats m 0 c).before 3 t d))) ⊢ _
  rw [o0, o1, o2, o3]
  simp only [o3]
  iintro ⟨HΦ, Howes, ⟨%d1, %f1, %hf1, H1⟩, ⟨%d2, %f2, %hf2, H2⟩, ⟨%d3, %f3, %hf3, H3⟩, ⟨%d4, %f4, -, H4⟩⟩
  iapply ((runAt c t f1 f2 f3).2 f4 Set.univ _)
  isplitl [H1]; · iexact H1
  isplitl [H2]; · iexact H2
  isplitl [H3]; · iexact H3
  isplitl [H4]; · iexact H4
  iintro ⟨H1, H2, H3, H4⟩
  isplitl [HΦ]; · iexact HΦ
  isplitl [Howes]; · iexact Howes
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists ((runAt c t f1 f2 f3).1 f4)
  isplitr
  · ipureintro
    refine (read_run c _ _ _ _ _ _ _ _ _ f1 f2 f3 f4).trans ?_
    rw [hf1, hf2, hf3]
    rfl
  iexact H4

set_option backward.isDefEq.respectTransparency.types false in
/-- The whole module's run: every array at the pipeline's computed contents, every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame cfgs (dats m) (0 : Fin 1) Gen.launch0 defs₀ Variants.none m ρ main
    (fun c => (body_obligation m c).loose) (fun c w => (dats m 0 c).share_full (fun _ => rfl) w) (fun _ _ => rfl) (Gen.V m) (Gen.hmain m Variants.none)
    (fun _ _ => rfl) (fun _ _ => rfl) (Q' := _) (hQ' := fun _ h => h)

/-- The positions are left as launched and every counter ends at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).2 main_arg0 (Pipeline.mem_restRefs_of main_arg0 (by decide) (by decide))).trans
    (Gen.V_main_arg0 m c), ((h.1 c).1 2).trans (((dats m 0 c).arrAt_in 2 rfl _).trans (Gen.V_main_arg1 m c))⟩, h.2⟩) (run_main m ρ)

end Cert.Proof.Kernel7Ideal

end
-- ==== Proof.Rope.Out.lean ====
/- The rotary table: the values a launch step stores, the arrays its launch is handed, the array after the run, and the
   claims. -/
module

public import proofs.«01_k».proof.Defs
public import proofs.«01_k».proof.Proof.Value.Mask
public import proofs.«01_k».proof.Proof.Rope.Ref
public import proofs.«01_k».proof.Proof.Rope.Run
public import proofs.«01_k».proof.Proof.Rope.Ideal.Run
public import Idealize.ShloMosaic.Lib.Pipeline.Value
public import Idealize.ShloMosaic.Lib.Pipeline.ValueKit.Geometry
public import Idealize.ShloMosaic.Lib.Pointwise
public import Idealize.ShloMosaic.Adequacy
public import Idealize.ShloMosaic.Init

@[expose] public section

set_option maxRecDepth 16384

noncomputable section

namespace Cert.Proof.Rope

open Cert.Kernel7Ideal Cert.Kernel7Ideal.Gen Cert.Proof.Kernel7Ideal
open Idealize.ShloMosaic Idealize.ShloMosaic.TcCoe
open Idealize.SL Idealize.SL.Sem

/-! ## The stores -/

/-- The slot a lane lies in. -/
theorem slot_at (r : Fin 1024) (l : Fin 128) : k0_pay1 (ix2 r l) = BitVec.ofNat 32 (l.val / 32) := by
  pointwise [k0_pay1]
  revert l
  decide +kernel

/-- The packed row: lane `l` takes the position of its slot. -/
def packed (p : Vec Ideal S1024x4 .f32) (v s : Vec Ideal S1x128 .f32) (r : Fin 1024) (l : Fin 128) : EReal :=
  Ideal.cos ((p (ix2 r ⟨l.val / 32, by omega⟩) : EReal) * (v (ix2 0 l) : EReal) - (s (ix2 0 l) : EReal))

theorem packed_at (p : Vec Ideal S1024x4 .f32) (v s : Vec Ideal S1x128 .f32) (r : Fin 1024) (l : Fin 128) :
    @Eq EReal (k0_pay6 (F := Ideal) (k0_pay3 p) k0_pay4 (k0_pay5 p) v s (ix2 r l)) (packed p v s r l) := by
  pointwise [k0_pay6, k0_pay5, k0_pay4, k0_pay3, k0_pay2]
  rw [slot_at]
  unfold packed
  obtain ⟨e, he⟩ : ∃ e : Fin 4, l.val / 32 = e.val := ⟨⟨l.val / 32, by omega⟩, rfl⟩
  simp only [he]
  refine congrArg (fun z : EReal => Ideal.cos (z * (v (ix2 0 l) : EReal) - (s (ix2 0 l) : EReal))) ?_
  have pick : ∀ e : Fin 4, Scalar.select (IntOp.cmpi .eq (BitVec.ofNat 32 e.val) 0#32) (p (ix2 r 0))
      (Scalar.select (IntOp.cmpi .eq (BitVec.ofNat 32 e.val) 1#32) (p (ix2 r 1))
        (Scalar.select (IntOp.cmpi .eq (BitVec.ofNat 32 e.val) 2#32) (p (ix2 r 2)) (p (ix2 r 3)))) = p (ix2 r e) := fun e => by
    fin_cases e <;> rfl
  exact pick e

/-- A choice by whether the lane lies in the row's first half. -/
theorem half_at (l : Fin 128) (a b : EReal) :
    @Eq EReal (Scalar.select (IntOp.cmpi .slt (BitVec.ofNat 32 l.val) 64#32) a b) (if l.val < 64 then a else b) := by
  have hm : IntOp.cmpi .slt (BitVec.ofNat 32 l.val) 64#32 = if l.val < 64 then 1#1 else 0#1 := by
    revert l
    decide +kernel
  rw [hm]
  split <;> rfl

/-- Store `j` writes the packed row's lanes from slot `j` on, in both halves of its row. -/
theorem tile_at (p : Vec Ideal S1024x4 .f32) (v s : Vec Ideal S1x128 .f32) (j : Fin 4) (r : Fin 1024) (l : Fin 128) :
    @Eq EReal (tile p v s j (ix2 r l)) (packed p v s r ⟨(l.val % 64 + 32 * j.val) % 128, by omega⟩) := by
  have hx := packed_at p v s r
  fin_cases j
  all_goals
    dsimp only [tile]
    simp only [k0_pay7, k0_pay8, k0_pay9, k0_pay10]
    generalize k0_pay6 (F := Ideal) (k0_pay3 p) k0_pay4 (k0_pay5 p) v s = x at hx ⊢
    pointwise
    refine (half_at l _ _).trans ?_
    by_cases h : l.val < 64
    · rw [if_pos h, hx]
      exact congrArg (packed p v s r) (Fin.ext (by simp only []; omega))
    · rw [if_neg h, hx]
      exact congrArg (packed p v s r) (Fin.ext (by simp only []; omega))

/-! ## The arrays handed to the launch -/

variable (m : (ℓ : Loc nD τ sig) → Buf (Elt Ideal) ℓ)

/-- A slot's 32 lanes repeated in the four slots. -/
def tiled (x : FVec Ideal S32 .f32) : FVec Ideal S1x128 .f32 :=
  shapeCast _ (shapeCast S128 (broadcastInDim S4x32 ![0, 1] bcast_S1x32_S4x32_0_1 (shapeCast S1x32 x shapeCasts_S32_S1x32)) shapeCasts_S4x32_S128)
    shapeCasts_S128_S1x128

/-- Eight lanes, eight lanes, and sixteen zeros. -/
def lanes (x y : FVec Ideal S8 .f32) : FVec Ideal S32 .f32 :=
  concatenate S32 0 [⟨S8, x⟩, ⟨S8, y⟩, ⟨S16, broadcastInDim S16 ![] bcast_S_S16 (constant S_ .f32 0x00000000#32)⟩] concatenates_S8_S8_S16_S32_d0

theorem v9_eq (c : Dev nD) : Gen.V m c main_v9
    = shapeCast S8192x4 (sitofp (F := Ideal) .f32 (m ((c.tc : Thread nD τ).loc main_arg0))) shapeCasts_S16x2048_S8192x4 := by
  unfold Gen.V
  after_results <;> rfl

theorem v13_eq (c : Dev nD) : Gen.V m c main_v13 = tiled (lanes Ref.freq Ref.freq) := by
  unfold Gen.V
  after_results <;> rfl

theorem tiled_at (x : FVec Ideal S32 .f32) (l : Fin 128) : tiled x (ix2 0 l) = x (ix1 ⟨l.val % 32, by omega⟩) := by
  pointwise [tiled]

theorem lanes_at (x y : FVec Ideal S8 .f32) (d : Fin 32) :
    @Eq EReal (lanes x y (ix1 d)) (if h : d.val < 8 then x (ix1 ⟨d.val, h⟩) else if h' : d.val < 16 then y (ix1 ⟨d.val - 8, by omega⟩) else 0) := by
  pointwise [lanes]
  by_cases h : d.val < 8
  · rw [dif_pos h, dif_pos h]
  by_cases h' : d.val < 16
  · rw [dif_neg h, dif_neg h, dif_pos h', dif_pos (by omega)]
  · rw [dif_neg h, dif_neg h, dif_neg h', dif_neg (by omega)]

/-! ## The precondition -/

instance facts : Cert.Pre_quarter_shift.Facts where
  bcast_S_S128 := by decide
  shapeCasts_S128_S1x128 := by decide

/-- The shift of a slot's lane. -/
def shift (d : ℕ) : EReal := if 8 ≤ d ∧ d < 16 then ((Real.pi / 2 : ℝ) : EReal) else 0

/-- Twice the arc tangent of one is a quarter of a turn. -/
theorem quarter_eq : Ideal.ofBits .f32 0x40000000#32 * Ideal.atan2 1 1 = ((Real.pi / 2 : ℝ) : EReal) := by
  have h2 : Ideal.ofBits .f32 0x40000000#32 = ((2 : ℝ) : EReal) := by
    simp [Ideal.ofBits, Ideal.ieee, -EReal.coe_mul]
    norm_num
  have h1 : Ideal.atan2 ((1 : ℝ) : EReal) ((1 : ℝ) : EReal) = ((Real.pi / 4 : ℝ) : EReal) := by
    show ((if (0 : ℝ) < 1 then Real.arctan (1 / 1) else _ : ℝ) : EReal) = _
    rw [if_pos one_pos, div_one, Real.arctan_one]
  rw [h2, ← EReal.coe_one, h1, ← EReal.coe_mul]
  exact congrArg _ (by ring)

/-- The lanes the predicate asks for a quarter turn. -/
theorem mask_at (l : Fin 128) (a b : EReal) :
    @Eq EReal (Scalar.select (IntOp.andi (IntOp.cmpi .sge (IntOp.andi (BitVec.ofNat 32 l.val) 31#32) 8#32)
        (IntOp.cmpi .slt (IntOp.andi (BitVec.ofNat 32 l.val) 31#32) 16#32)) a b)
      (if 8 ≤ l.val % 32 ∧ l.val % 32 < 16 then a else b) := by
  have hm : IntOp.andi (IntOp.cmpi .sge (IntOp.andi (BitVec.ofNat 32 l.val) 31#32) 8#32)
        (IntOp.cmpi .slt (IntOp.andi (BitVec.ofNat 32 l.val) 31#32) 16#32)
      = if 8 ≤ l.val % 32 ∧ l.val % 32 < 16 then 1#1 else 0#1 := by
    revert l
    decide +kernel
  rw [hm]
  split <;> rfl

theorem shift_at (p : IVec S16x2048 32) (s : FVec Ideal S1x128 .f32) (h : Cert.Pre_quarter_shift.fn (F := Ideal) p s = fun _ => 1#1)
    (l : Fin 128) : @Eq EReal (s (ix2 0 l)) (shift (l.val % 32)) := by
  have hl := congrFun h (ix2 0 l)
  revert hl
  pointwise [Cert.Pre_quarter_shift.fn, Cert.Pre_quarter_shift.fn_where]
  intro hl
  have hz : @Eq EReal (FloatOps.sitofp (F := Ideal) .f32 (0#32 : BitVec 32)) 0 := by
    show (((0#32 : BitVec 32).toInt : ℝ) : EReal) = 0
    simp
  have hs := of_decide_eq_true (Cert.Proof.Ref.ofBool_eq_one _ |>.mp hl)
  rw [hs, mask_at, quarter_eq, hz, shift]

/-- The kernel's cosine is the reference's cosine, sine or one. -/
theorem lane_eq (w : BitVec 32) (d : Fin 32) :
    Ideal.cos (Ref.pos w * (lanes Ref.freq Ref.freq (ix1 d) : EReal) - shift d.val) = Ref.lane w d := by
  rw [lanes_at, Ref.lane, shift]
  by_cases h : d.val < 8
  · rw [dif_pos h, dif_pos h, if_neg (by omega), sub_zero]
  by_cases h' : d.val < 16
  · rw [dif_neg h, dif_neg h, dif_pos h', dif_pos h', if_pos (by omega)]
    obtain ⟨f, hf⟩ := Ref.freq_real ⟨d.val - 8, by omega⟩
    rw [hf, ← EReal.coe_mul, ← EReal.coe_sub, Ideal.cos_coe, Ideal.sin_coe, Real.cos_sub_pi_div_two]
  · rw [dif_neg h, dif_neg h, dif_neg h', dif_neg h', if_neg (by omega), mul_zero, sub_zero]
    show Ideal.cos ((0 : ℝ) : EReal) = _
    rw [Ideal.cos_coe, Real.cos_zero, EReal.coe_one]

/-! ## The array -/

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)

/-- The positions on core `c`. -/
abbrev argOf (c : Dev nD) : IVec S16x2048 32 := m ((c.tc : Thread nD τ).loc main_arg0)

/-- The reference's result of the positions on core `c`. -/
abbrev want (c : Dev nD) : FVec Ideal S32768x128 .f32 := Ref.result (F := Ideal) (argOf m c)

theorem cast_at (p : IVec S16x2048 32) (q : Fin 8192) (e : Fin 4) (n : Fin 32768) (hn : n.val = 4 * q.val + e.val) :
    @Eq EReal ((shapeCast S8192x4 (sitofp (F := Ideal) .f32 p) shapeCasts_S16x2048_S8192x4) (ix2 q e)) (Ref.pos (Ref.word p n)) :=
  congrArg Ref.pos ((Ref.cast_at p q e).trans (congrArg (Ref.word p) (Fin.ext hn.symm)))

theorem pos_blk (c : Dev nD) (t : Fin cfg0.N) (r : Fin 1024) (e : Fin 4) (n : Fin 32768)
    (hn : n.val = 4 * ((grid0.coords t 0).val * 1024 + r.val) + e.val) :
    @Eq EReal (Gen.iblk m c 0 t (ix2 r e)) (Ref.pos (Ref.word (argOf m c) n)) := by
  have ht : (grid0.coords t 0).val < 8 := (grid0.coords t 0).isLt
  have e1 : Gen.iblk m c 0 t (ix2 r e) = Gen.V m c main_v9 (ix2 (⟨(grid0.coords t 0).val * 1024 + r.val, by omega⟩ : Fin 8192) e) := by
    blk_simp [Gen.iblk]
    refine congrArg (Gen.V m c main_v9) ?_
    blk_ext [index0]
  exact e1.trans ((congrFun (v9_eq m c) _).trans (cast_at _ _ _ n hn))

theorem freq_blk (c : Dev nD) (t : Fin cfg0.N) (l : Fin 128) :
    @Eq EReal (Gen.iblk m c 1 t (ix2 0 l)) (lanes Ref.freq Ref.freq (ix1 ⟨l.val % 32, by omega⟩)) := by
  have e1 : Gen.iblk m c 1 t (ix2 0 l) = Gen.V m c main_v13 (ix2 0 l) := by
    blk_simp [Gen.iblk]
    refine congrArg (Gen.V m c main_v13) ?_
    blk_ext [index1]
  exact e1.trans ((congrFun (v13_eq m c) _).trans (tiled_at _ l))

theorem shift_blk (hx : Pre_Kernel7Ideal_quarter_shift m) (c : Dev nD) (t : Fin cfg0.N) (l : Fin 128) :
    @Eq EReal (Gen.iblk m c 2 t (ix2 0 l)) (shift (l.val % 32)) := by
  have e1 : Gen.iblk m c 2 t (ix2 0 l) = Gen.V m c main_arg1 (ix2 0 l) := by
    blk_simp [Gen.iblk]
    refine congrArg (Gen.V m c main_arg1) ?_
    blk_ext [index2]
  exact e1.trans ((congrFun (Gen.V_main_arg1 m c) _).trans (shift_at _ _ (hx c) l))

/-- What a grid point leaves, row by row. -/
theorem block_eq (hx : Pre_Kernel7Ideal_quarter_shift m) (c : Dev nD) (t : Fin cfg0.N) (r : Fin 4096) (l : Fin 128) (h : (grid0.coords t 0).val * 4096 + r.val < 32768) :
    @Eq EReal (leftAt m c t (ix2 r l)) (want m c (ix2 ⟨(grid0.coords t 0).val * 4096 + r.val, h⟩ l)) := by
  have hw := Ref.result_at (argOf m c) ⟨(grid0.coords t 0).val * 1024 + r.val / 4, by omega⟩ ⟨r.val % 4, by omega⟩ l
  rw [show (⟨(grid0.coords t 0).val * 4096 + r.val, h⟩ : Fin 32768)
    = ⟨4 * ((grid0.coords t 0).val * 1024 + r.val / 4) + r.val % 4, by omega⟩ from Fin.ext (by simp only []; omega)]
  refine Eq.trans ?_ hw.symm
  change tile (Gen.iblk m c 0 t) (Gen.iblk m c 1 t) (Gen.iblk m c 2 t) ⟨r.val % 4, by omega⟩ (ix2 ⟨r.val / 4, by omega⟩ l) = _
  refine (tile_at _ _ _ _ _ _).trans ?_
  unfold packed
  rw [freq_blk, shift_blk m hx, pos_blk m c t _ _ ⟨4 * ((grid0.coords t 0).val * 1024 + r.val / 4) + (r.val % 4 + l.val % 64 / 32) % 4, by omega⟩
    (by simp only []; omega), lane_eq]
  exact congrArg (Ref.lane _) (Fin.ext (by simp only []; omega))

/-- The table after the run. -/
theorem final_out (hx : Pre_Kernel7Ideal_quarter_shift m) (c : Dev nD) : (dats m 0 c).arrAt 3 cfg0.N = want m c := by
  refine (dats m 0 c).arrAt_eq_of_covers 3 _ (by decide +kernel) fun t _ y => ?_
  blk_simp
  change leftAt m c t y = _
  have ht : (grid0.coords t 0).val < 8 := (grid0.coords t 0).isLt
  have hr : (y 0).val < 4096 := (y 0).isLt
  rw [show y = ix2 (y 0) (y 1) from eq_ix2 y]
  refine (block_eq m hx c t (y 0) (y 1) (by omega)).trans (congrArg (want m c) ?_)
  blk_ext [index3]

/-! ## The claims -/

theorem frame_bits : Cert.quiescent_Kernel7 := fun m g _ => Cert.Proof.Kernel7.frame_main m g

theorem frame_ideal : Cert.quiescent_Kernel7Ideal := fun m g _ => frame_main m g

theorem frame_ideal_pre : Cert.quiescent_Kernel7Ideal_pre_quarter_shift := fun m g _ => frame_main m g

theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem frame_reference_pre : Cert.quiescent_Reference7Ideal_pre_quarter_shift := fun m g _ => frame_reference m g trivial

/-- From the same arguments, kernel and reference end with the same table. -/
theorem algebraic : Cert.algebraic_Kernel7Ideal_Reference7Ideal_pre_quarter_shift := by
  intro m g m' g' hx hagree
  refine ⟨fun c => want m c, (θ_run defs _ _).mono (fun r h c => ⟨?_, ?_, ?_⟩) (run_main m g), ?_⟩
  · exact ((h.1 c).1 3).trans (final_out m hx c)
  · exact ((h.1 c).2 main_arg0 (Pipeline.mem_restRefs_of main_arg0 (by decide) (by decide))).trans (Gen.V_main_arg0 m c)
  · exact ((h.1 c).1 2).trans (((dats m 0 c).arrAt_in 2 rfl _).trans (Gen.V_main_arg1 m c))
  refine (θ_run Cert.Reference7Ideal.defs _ _).mono (fun _ h c => ⟨(h c).1.trans ?_, (h c).2⟩)
    (Cert.Reference7Ideal.Value.run (F := Ideal) m' g')
  exact congrArg (Ref.result (F := Ideal)) (hagree c).1

end Cert.Proof.Rope

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Pre_finite_qk
public import proofs.«01_k».proof.Proof.Run
public import proofs.«01_k».proof.Proof.Ideal.Run
public import proofs.«01_k».proof.Proof.Value.Claims
public import proofs.«01_k».proof.Proof.Gen.Kernel2.Frame
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Pre_finite_mem
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Ffn.Out
public import proofs.«01_k».proof.Proof.Mix.Out
public import proofs.«01_k».proof.Proof.MemKv.Out
public import proofs.«01_k».proof.Proof.MemAttn.Out
public import proofs.«01_k».proof.Proof.Qkv.Out
public import proofs.«01_k».proof.Proof.Rope.Out
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_qk.Gen.facts, Cert.Pre_finite_mem.Gen.facts, Rope.facts,
  fun m g _ => Kernel.frame_main m g, fun m g _ => KernelIdeal.frame_main m g, fun m g _ => KernelIdeal.frame_main m g,
  fun m g _ => Claims.frame_reference m g, fun m g _ => Claims.frame_reference m g,
  fun m g _ => Cert.Kernel2.Gen.frame m g, fun m g _ => Cert.Kernel2Ideal.Gen.frame m g, Ffn.frame_reference,
  fun m g _ => Cert.Kernel3.Gen.frame m g, fun m g _ => Cert.Kernel3Ideal.Gen.frame m g, Mix.frame_reference,
  fun m g _ => Cert.Kernel4.Gen.frame m g, fun m g _ => Cert.Kernel4Ideal.Gen.frame m g, MemKv.frame_reference,
  fun m g _ => Cert.Kernel5.Gen.frame m g, fun m g _ => Cert.Kernel5Ideal.Gen.frame m g, fun m g _ => Cert.Kernel5Ideal.Gen.frame m g,
  MemAttn.frame_reference, MemAttn.frame_reference_pre,
  fun m g _ => Cert.Kernel6.Gen.frame m g, fun m g _ => Cert.Kernel6Ideal.Gen.frame m g, Qkv.frame_reference,
  Rope.frame_bits, Rope.frame_ideal, Rope.frame_ideal_pre, Rope.frame_reference, Rope.frame_reference_pre,
  Claims.preserves, Claims.algebraic, trivial, Ffn.algebraic, trivial, Mix.algebraic, trivial, MemKv.algebraic,
  trivial, MemAttn.algebraic,
  Qkv.preserves, Qkv.algebraic, trivial, Rope.algebraic⟩

end Cert.Proof

end
